-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_UpSample (m : (ℓ : Loc Cert.UpSample.nD Cert.UpSample.τ Cert.UpSample.sig) → Buf (Elt Bits) ℓ) : Prop :=
  True

def Pre_UpSampleIdeal (m : (ℓ : Loc Cert.UpSampleIdeal.nD Cert.UpSampleIdeal.τ Cert.UpSampleIdeal.sig) → Buf (Elt Ideal) ℓ) : Prop :=
  True

def Pre_UpSampleRefIdeal (m : (ℓ : Loc Cert.UpSampleRefIdeal.nD Cert.UpSampleRefIdeal.τ Cert.UpSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2)
      ∧ r.2.mem ((c.tc : Thread Cert.LastSampleRefIdeal.nD Cert.LastSampleRefIdeal.τ).loc Cert.LastSampleRefIdeal.main_arg3) = m ((c.tc : Thread Cert.LastSampleRefIdeal.nD Cert.LastSampleRefIdeal.τ).loc Cert.LastSampleRefIdeal.main_arg3))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1))
      ∧ r.2.sem = fun _ => 0)

def quiescent_UpSample [hUpSample : Cert.UpSample.Facts] : Prop :=
  ∀ (m : (ℓ : Loc Cert.UpSample.nD Cert.UpSample.τ Cert.UpSample.sig) → Buf (Elt Bits) ℓ) (g : Dev Cert.UpSample.nD → PrngReg), Pre_UpSample m →
    θ_run (Cert.UpSample.defs (F := Bits)) (onTc (τ := Cert.UpSample.τ) (Cert.UpSample.main (F := Bits))) ⟨m, fun _ => 0, g⟩ (fun r => (∀ c : Dev Cert.UpSample.nD,
      r.2.mem ((c.tc : Thread Cert.UpSample.nD Cert.UpSample.τ).loc Cert.UpSample.main_arg0) = m ((c.tc : Thread Cert.UpSample.nD Cert.UpSample.τ).loc Cert.UpSample.main_arg0)
      ∧ r.2.mem ((c.tc : Thread Cert.UpSample.nD Cert.UpSample.τ).loc Cert.UpSample.main_arg1) = m ((c.tc : Thread Cert.UpSample.nD Cert.UpSample.τ).loc Cert.UpSample.main_arg1))
      ∧ r.2.sem = fun _ => 0)

def quiescent_UpSampleIdeal [hUpSampleIdeal : Cert.UpSampleIdeal.Facts] : Prop :=
  ∀ (m : (ℓ : Loc Cert.UpSampleIdeal.nD Cert.UpSampleIdeal.τ Cert.UpSampleIdeal.sig) → Buf (Elt Ideal) ℓ) (g : Dev Cert.UpSampleIdeal.nD → PrngReg), Pre_UpSampleIdeal m →
    θ_run (Cert.UpSampleIdeal.defs (F := Ideal)) (onTc (τ := Cert.UpSampleIdeal.τ) (Cert.UpSampleIdeal.main (F := Ideal))) ⟨m, fun _ => 0, g⟩ (fun r => (∀ c : Dev Cert.UpSampleIdeal.nD,
      r.2.mem ((c.tc : Thread Cert.UpSampleIdeal.nD Cert.UpSampleIdeal.τ).loc Cert.UpSampleIdeal.main_arg0) = m ((c.tc : Thread Cert.UpSampleIdeal.nD Cert.UpSampleIdeal.τ).loc Cert.UpSampleIdeal.main_arg0)
      ∧ r.2.mem ((c.tc : Thread Cert.UpSampleIdeal.nD Cert.UpSampleIdeal.τ).loc Cert.UpSampleIdeal.main_arg1) = m ((c.tc : Thread Cert.UpSampleIdeal.nD Cert.UpSampleIdeal.τ).loc Cert.UpSampleIdeal.main_arg1))
      ∧ r.2.sem = fun _ => 0)

def quiescent_UpSampleRefIdeal [hUpSampleRefIdeal : Cert.UpSampleRefIdeal.Facts] : Prop :=
  ∀ (m : (ℓ : Loc Cert.UpSampleRefIdeal.nD Cert.UpSampleRefIdeal.τ Cert.UpSampleRefIdeal.sig) → Buf (Elt Ideal) ℓ) (g : Dev Cert.UpSampleRefIdeal.nD → PrngReg), Pre_UpSampleRefIdeal m →
    θ_run (Cert.UpSampleRefIdeal.defs (F := Ideal)) (onTc (τ := Cert.UpSampleRefIdeal.τ) (Cert.UpSampleRefIdeal.main (F := Ideal))) ⟨m, fun _ => 0, g⟩ (fun r => (∀ c : Dev Cert.UpSampleRefIdeal.nD,
      r.2.mem ((c.tc : Thread Cert.UpSampleRefIdeal.nD Cert.UpSampleRefIdeal.τ).loc Cert.UpSampleRefIdeal.main_arg0) = m ((c.tc : Thread Cert.UpSampleRefIdeal.nD Cert.UpSampleRefIdeal.τ).loc Cert.UpSampleRefIdeal.main_arg0)
      ∧ r.2.mem ((c.tc : Thread Cert.UpSampleRefIdeal.nD Cert.UpSampleRefIdeal.τ).loc Cert.UpSampleRefIdeal.main_arg1) = m ((c.tc : Thread Cert.UpSampleRefIdeal.nD Cert.UpSampleRefIdeal.τ).loc Cert.UpSampleRefIdeal.main_arg1))
      ∧ r.2.sem = fun _ => 0)

def preserves_Kernel_KernelIdeal : Prop :=
  IdealRules.named_const.Statement Cert.KernelIdeal.κ "mask" .f32 0xF149F2CA#32 ⊥

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v8) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_v48) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v14) = v0 c
          ∧ r.2.mem ((c.tc : Thread Cert.DownRefIdeal.nD Cert.DownRefIdeal.τ).loc Cert.DownRefIdeal.main_v28) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v14) = v0 c
          ∧ r.2.mem ((c.tc : Thread Cert.OutRefIdeal.nD Cert.OutRefIdeal.τ).loc Cert.OutRefIdeal.main_v28) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v14) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)
      ∧ m' ((c.tc : Thread Cert.LastSampleRefIdeal.nD Cert.LastSampleRefIdeal.τ).loc Cert.LastSampleRefIdeal.main_arg3) = m ((c.tc : Thread Cert.LastSampleIdeal.nD Cert.LastSampleIdeal.τ).loc Cert.LastSampleIdeal.main_arg3)) →
    ∃ (v0 : (c : Dev Cert.LastSampleIdeal.nD) → Buf (Elt Ideal) ((c.tc : Thread Cert.LastSampleIdeal.nD Cert.LastSampleIdeal.τ).loc Cert.LastSampleIdeal.main_v3)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v3) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v14) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2)
          ∧ r.2.mem ((c.tc : Thread Cert.LastSampleRefIdeal.nD Cert.LastSampleRefIdeal.τ).loc Cert.LastSampleRefIdeal.main_arg3) = m' ((c.tc : Thread Cert.LastSampleRefIdeal.nD Cert.LastSampleRefIdeal.τ).loc Cert.LastSampleRefIdeal.main_arg3))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)) →
    ∃ (v0 : (c : Dev Cert.ProjSampleIdeal.nD) → Buf (Elt Ideal) ((c.tc : Thread Cert.ProjSampleIdeal.nD Cert.ProjSampleIdeal.τ).loc Cert.ProjSampleIdeal.main_v1)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v1) = v0 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v2) = v0 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1))

def preserves_UpSample_UpSampleIdeal : Prop :=
  True

def algebraic_UpSampleIdeal_UpSampleRefIdeal [hUpSampleIdeal : Cert.UpSampleIdeal.Facts] [hUpSampleRefIdeal : Cert.UpSampleRefIdeal.Facts] : Prop :=
  ∀ (m : (ℓ : Loc Cert.UpSampleIdeal.nD Cert.UpSampleIdeal.τ Cert.UpSampleIdeal.sig) → Buf (Elt Ideal) ℓ) (g : Dev Cert.UpSampleIdeal.nD → PrngReg)
    (m' : (ℓ : Loc Cert.UpSampleRefIdeal.nD Cert.UpSampleRefIdeal.τ Cert.UpSampleRefIdeal.sig) → Buf (Elt Ideal) ℓ) (g' : Dev Cert.UpSampleRefIdeal.nD → PrngReg), Pre_UpSampleIdeal m →
    (∀ c : Dev Cert.UpSampleIdeal.nD,
      m' ((c.tc : Thread Cert.UpSampleRefIdeal.nD Cert.UpSampleRefIdeal.τ).loc Cert.UpSampleRefIdeal.main_arg0) = m ((c.tc : Thread Cert.UpSampleIdeal.nD Cert.UpSampleIdeal.τ).loc Cert.UpSampleIdeal.main_arg0)
      ∧ m' ((c.tc : Thread Cert.UpSampleRefIdeal.nD Cert.UpSampleRefIdeal.τ).loc Cert.UpSampleRefIdeal.main_arg1) = m ((c.tc : Thread Cert.UpSampleIdeal.nD Cert.UpSampleIdeal.τ).loc Cert.UpSampleIdeal.main_arg1)) →
    ∃ (v0 : (c : Dev Cert.UpSampleIdeal.nD) → Buf (Elt Ideal) ((c.tc : Thread Cert.UpSampleIdeal.nD Cert.UpSampleIdeal.τ).loc Cert.UpSampleIdeal.main_v1)),
      θ_run (Cert.UpSampleIdeal.defs (F := Ideal)) (onTc (τ := Cert.UpSampleIdeal.τ) (Cert.UpSampleIdeal.main (F := Ideal))) ⟨m, fun _ => 0, g⟩ (fun r => ∀ c : Dev Cert.UpSampleIdeal.nD,
          r.2.mem ((c.tc : Thread Cert.UpSampleIdeal.nD Cert.UpSampleIdeal.τ).loc Cert.UpSampleIdeal.main_v1) = v0 c
          ∧ r.2.mem ((c.tc : Thread Cert.UpSampleIdeal.nD Cert.UpSampleIdeal.τ).loc Cert.UpSampleIdeal.main_arg0) = m ((c.tc : Thread Cert.UpSampleIdeal.nD Cert.UpSampleIdeal.τ).loc Cert.UpSampleIdeal.main_arg0)
          ∧ r.2.mem ((c.tc : Thread Cert.UpSampleIdeal.nD Cert.UpSampleIdeal.τ).loc Cert.UpSampleIdeal.main_arg1) = m ((c.tc : Thread Cert.UpSampleIdeal.nD Cert.UpSampleIdeal.τ).loc Cert.UpSampleIdeal.main_arg1))
      ∧ θ_run (Cert.UpSampleRefIdeal.defs (F := Ideal)) (onTc (τ := Cert.UpSampleRefIdeal.τ) (Cert.UpSampleRefIdeal.main (F := Ideal))) ⟨m', fun _ => 0, g'⟩ (fun r => ∀ c : Dev Cert.UpSampleRefIdeal.nD,
          r.2.mem ((c.tc : Thread Cert.UpSampleRefIdeal.nD Cert.UpSampleRefIdeal.τ).loc Cert.UpSampleRefIdeal.main_v2) = v0 c
          ∧ r.2.mem ((c.tc : Thread Cert.UpSampleRefIdeal.nD Cert.UpSampleRefIdeal.τ).loc Cert.UpSampleRefIdeal.main_arg0) = m' ((c.tc : Thread Cert.UpSampleRefIdeal.nD Cert.UpSampleRefIdeal.τ).loc Cert.UpSampleRefIdeal.main_arg0)
          ∧ r.2.mem ((c.tc : Thread Cert.UpSampleRefIdeal.nD Cert.UpSampleRefIdeal.τ).loc Cert.UpSampleRefIdeal.main_arg1) = m' ((c.tc : Thread Cert.UpSampleRefIdeal.nD Cert.UpSampleRefIdeal.τ).loc Cert.UpSampleRefIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hLast : Cert.Last.Facts) (hLastIdeal : Cert.LastIdeal.Facts) (hLastRefIdeal : Cert.LastRefIdeal.Facts) (hLastSample : Cert.LastSample.Facts) (hLastSampleIdeal : Cert.LastSampleIdeal.Facts) (hLastSampleRefIdeal : Cert.LastSampleRefIdeal.Facts) (hProjSample : Cert.ProjSample.Facts) (hProjSampleIdeal : Cert.ProjSampleIdeal.Facts) (hProjSampleRefIdeal : Cert.ProjSampleRefIdeal.Facts) (hUpSample : Cert.UpSample.Facts) (hUpSampleIdeal : Cert.UpSampleIdeal.Facts) (hUpSampleRefIdeal : Cert.UpSampleRefIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Last (hLast := hLast)
    ∧ quiescent_LastIdeal (hLastIdeal := hLastIdeal)
    ∧ quiescent_LastRefIdeal (hLastRefIdeal := hLastRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_UpSample (hUpSample := hUpSample)
    ∧ quiescent_UpSampleIdeal (hUpSampleIdeal := hUpSampleIdeal)
    ∧ quiescent_UpSampleRefIdeal (hUpSampleRefIdeal := hUpSampleRefIdeal)
    ∧ preserves_Kernel_KernelIdeal
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Last_LastIdeal
    ∧ algebraic_LastIdeal_LastRefIdeal (hLastIdeal := hLastIdeal) (hLastRefIdeal := hLastRefIdeal)
    ∧ preserves_LastSample_LastSampleIdeal
    ∧ algebraic_LastSampleIdeal_LastSampleRefIdeal (hLastSampleIdeal := hLastSampleIdeal) (hLastSampleRefIdeal := hLastSampleRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_UpSample_UpSampleIdeal
    ∧ algebraic_UpSampleIdeal_UpSampleRefIdeal (hUpSampleIdeal := hUpSampleIdeal) (hUpSampleRefIdeal := hUpSampleRefIdeal)
-- ==== Kernel.lean ====
abbrev S4x2048x10496 : Shape := ⟨3, ![4, 2048, 10496]⟩
abbrev S8x32 : Shape := ⟨2, ![8, 32]⟩
abbrev S8 : Shape := ⟨1, ![8]⟩
abbrev S8x256x256 : Shape := ⟨3, ![8, 256, 256]⟩
abbrev S8x1 : Shape := ⟨2, ![8, 1]⟩
abbrev S8x1x1 : Shape := ⟨3, ![8, 1, 1]⟩
abbrev S_ : Shape := ⟨0, ![]⟩
abbrev S8x1x256x256 : Shape := ⟨4, ![8, 1, 256, 256]⟩
abbrev S8x2x256x256 : Shape := ⟨4, ![8, 2, 256, 256]⟩
abbrev S4x2048x1024 : Shape := ⟨3, ![4, 2048, 1024]⟩
abbrev S1x256x256 : Shape := ⟨3, ![1, 256, 256]⟩
abbrev S1x2048x256 : Shape := ⟨3, ![1, 2048, 256]⟩
abbrev S2x2x256x256 : Shape := ⟨4, ![2, 2, 256, 256]⟩
abbrev S2x2048x128 : Shape := ⟨3, ![2, 2048, 128]⟩
abbrev S2x128x2048 : Shape := ⟨3, ![2, 128, 2048]⟩
abbrev S2x8x128 : Shape := ⟨3, ![2, 8, 128]⟩
abbrev S2x2048x256 : Shape := ⟨3, ![2, 2048, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩
abbrev S1x128 : Shape := ⟨2, ![1, 128]⟩
abbrev S1x1x128 : Shape := ⟨3, ![1, 1, 128]⟩
abbrev S1x8x128 : Shape := ⟨3, ![1, 8, 128]⟩
abbrev S8x128 : Shape := ⟨2, ![8, 128]⟩
abbrev S8x256 : Shape := ⟨2, ![8, 256]⟩
abbrev S1x256 : Shape := ⟨2, ![1, 256]⟩
abbrev S256x256 : Shape := ⟨2, ![256, 256]⟩
abbrev S1x1x256x256 : Shape := ⟨4, ![1, 1, 256, 256]⟩
abbrev S256 : Shape := ⟨1, ![256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x128x512 : Shape := ⟨3, ![1, 128, 512]⟩
abbrev S128x512 : Shape := ⟨2, ![128, 512]⟩
abbrev S1x768x128 : Shape := ⟨3, ![1, 768, 128]⟩
abbrev S768x128 : Shape := ⟨2, ![768, 128]⟩
abbrev S768x256 : Shape := ⟨2, ![768, 256]⟩
abbrev S1x768x256 : Shape := ⟨3, ![1, 768, 256]⟩
abbrev S1x128x768 : Shape := ⟨3, ![1, 128, 768]⟩
abbrev S128x768 : Shape := ⟨2, ![128, 768]⟩
abbrev S1x1024x128 : Shape := ⟨3, ![1, 1024, 128]⟩
abbrev S1024x128 : Shape := ⟨2, ![1024, 128]⟩
abbrev S1024x256 : Shape := ⟨2, ![1024, 256]⟩
abbrev S1x1024x256 : Shape := ⟨3, ![1, 1024, 256]⟩
abbrev S1x128x1024 : Shape := ⟨3, ![1, 128, 1024]⟩
abbrev S128x1024 : Shape := ⟨2, ![128, 1024]⟩
abbrev S1x1280x128 : Shape := ⟨3, ![1, 1280, 128]⟩
abbrev S1280x128 : Shape := ⟨2, ![1280, 128]⟩
abbrev S1280x256 : Shape := ⟨2, ![1280, 256]⟩
abbrev S1x1280x256 : Shape := ⟨3, ![1, 1280, 256]⟩
abbrev S1x128x1280 : Shape := ⟨3, ![1, 128, 1280]⟩
abbrev S128x1280 : Shape := ⟨2, ![128, 1280]⟩
abbrev S1x1536x128 : Shape := ⟨3, ![1, 1536, 128]⟩
abbrev S1536x128 : Shape := ⟨2, ![1536, 128]⟩
abbrev S1536x256 : Shape := ⟨2, ![1536, 256]⟩
abbrev S1x1536x256 : Shape := ⟨3, ![1, 1536, 256]⟩
abbrev S1x128x1536 : Shape := ⟨3, ![1, 128, 1536]⟩
abbrev S128x1536 : Shape := ⟨2, ![128, 1536]⟩
abbrev S1x1792x128 : Shape := ⟨3, ![1, 1792, 128]⟩
abbrev S1792x128 : Shape := ⟨2, ![1792, 128]⟩
abbrev S1792x256 : Shape := ⟨2, ![1792, 256]⟩
abbrev S1x1792x256 : Shape := ⟨3, ![1, 1792, 256]⟩
abbrev S1x128x1792 : Shape := ⟨3, ![1, 128, 1792]⟩
abbrev S128x1792 : Shape := ⟨2, ![128, 1792]⟩
abbrev S1x2048x128 : Shape := ⟨3, ![1, 2048, 128]⟩
abbrev S2048x128 : Shape := ⟨2, ![2048, 128]⟩
abbrev S2048x256 : Shape := ⟨2, ![2048, 256]⟩
abbrev S1x128x2048 : Shape := ⟨3, ![1, 128, 2048]⟩
abbrev S128x2048 : Shape := ⟨2, ![128, 2048]⟩

abbrev nBuf : Space → Nat
  | .hbm => 531
  | .vmem => 15
  | .smem => 0
  | _ => 0

abbrev hbmTy0_0 (i : Nat) : BufTy := match i % 128 with
  | 0 => ⟨S4x2048x10496, .f32⟩
  | 1 => ⟨S8x32, .f32⟩
  | 2 => ⟨S8, .i32⟩
  | 3 => ⟨S8x256x256, .i32⟩
  | 4 => ⟨S8x256x256, .i32⟩
  | 5 => ⟨S8x256x256, .i32⟩
  | 6 => ⟨S8x1, .f32⟩
  | 7 => ⟨S8, .f32⟩
  | 8 => ⟨S8x1x1, .f32⟩
  | 9 => ⟨S_, .i32⟩
  | 10 => ⟨S8x256x256, .i32⟩
  | 11 => ⟨S8x256x256, .i1⟩
  | 12 => ⟨S8x1, .f32⟩
  | 13 => ⟨S8, .f32⟩
  | 14 => ⟨S8x1x1, .f32⟩
  | 15 => ⟨S8x256x256, .f32⟩
  | 16 => ⟨S_, .i32⟩
  | 17 => ⟨S8x256x256, .i32⟩
  | 18 => ⟨S8x256x256, .i1⟩
  | 19 => ⟨S8x1, .f32⟩
  | 20 => ⟨S8, .f32⟩
  | 21 => ⟨S8x1x1, .f32⟩
  | 22 => ⟨S8x256x256, .f32⟩
  | 23 => ⟨S8x256x256, .f32⟩
  | 24 => ⟨S_, .i32⟩
  | 25 => ⟨S8x256x256, .i32⟩
  | 26 => ⟨S8x256x256, .i1⟩
  | 27 => ⟨S8x1, .f32⟩
  | 28 => ⟨S8, .f32⟩
  | 29 => ⟨S8x1x1, .f32⟩
  | 30 => ⟨S8x256x256, .f32⟩
  | 31 => ⟨S8x256x256, .f32⟩
  | 32 => ⟨S_, .i32⟩
  | 33 => ⟨S8x256x256, .i32⟩
  | 34 => ⟨S8x256x256, .i1⟩
  | 35 => ⟨S8x1, .f32⟩
  | 36 => ⟨S8, .f32⟩
  | 37 => ⟨S8x1x1, .f32⟩
  | 38 => ⟨S8x256x256, .f32⟩
  | 39 => ⟨S8x256x256, .f32⟩
  | 40 => ⟨S_, .i32⟩
  | 41 => ⟨S8x256x256, .i32⟩
  | 42 => ⟨S8x256x256, .i1⟩
  | 43 => ⟨S8x1, .f32⟩
  | 44 => ⟨S8, .f32⟩
  | 45 => ⟨S8x1x1, .f32⟩
  | 46 => ⟨S8x256x256, .f32⟩
  | 47 => ⟨S8x256x256, .f32⟩
  | 48 => ⟨S_, .i32⟩
  | 49 => ⟨S8x256x256, .i32⟩
  | 50 => ⟨S8x256x256, .i1⟩
  | 51 => ⟨S8x1, .f32⟩
  | 52 => ⟨S8, .f32⟩
  | 53 => ⟨S8x1x1, .f32⟩
  | 54 => ⟨S8x256x256, .f32⟩
  | 55 => ⟨S8x256x256, .f32⟩
  | 56 => ⟨S_, .i32⟩
  | 57 => ⟨S8x256x256, .i32⟩
  | 58 => ⟨S8x256x256, .i1⟩
  | 59 => ⟨S8x1, .f32⟩
  | 60 => ⟨S8, .f32⟩
  | 61 => ⟨S8x1x1, .f32⟩
  | 62 => ⟨S8x256x256, .f32⟩
  | 63 => ⟨S8x256x256, .f32⟩
  | 64 => ⟨S_, .i32⟩
  | 65 => ⟨S8x256x256, .i32⟩
  | 66 => ⟨S8x256x256, .i1⟩
  | 67 => ⟨S8x1, .f32⟩
  | 68 => ⟨S8, .f32⟩
  | 69 => ⟨S8x1x1, .f32⟩
  | 70 => ⟨S8x256x256, .f32⟩
  | 71 => ⟨S8x256x256, .f32⟩
  | 72 => ⟨S_, .i32⟩
  | 73 => ⟨S8x256x256, .i32⟩
  | 74 => ⟨S8x256x256, .i1⟩
  | 75 => ⟨S8x1, .f32⟩
  | 76 => ⟨S8, .f32⟩
  | 77 => ⟨S8x1x1, .f32⟩
  | 78 => ⟨S8x256x256, .f32⟩
  | 79 => ⟨S8x256x256, .f32⟩
  | 80 => ⟨S_, .i32⟩
  | 81 => ⟨S8x256x256, .i32⟩
  | 82 => ⟨S8x256x256, .i1⟩
  | 83 => ⟨S8x1, .f32⟩
  | 84 => ⟨S8, .f32⟩
  | 85 => ⟨S8x1x1, .f32⟩
  | 86 => ⟨S8x256x256, .f32⟩
  | 87 => ⟨S8x256x256, .f32⟩
  | 88 => ⟨S_, .i32⟩
  | 89 => ⟨S8x256x256, .i32⟩
  | 90 => ⟨S8x256x256, .i1⟩
  | 91 => ⟨S8x1, .f32⟩
  | 92 => ⟨S8, .f32⟩
  | 93 => ⟨S8x1x1, .f32⟩
  | 94 => ⟨S8x256x256, .f32⟩
  | 95 => ⟨S8x256x256, .f32⟩
  | 96 => ⟨S_, .i32⟩
  | 97 => ⟨S8x256x256, .i32⟩
  | 98 => ⟨S8x256x256, .i1⟩
  | 99 => ⟨S8x1, .f32⟩
  | 100 => ⟨S8, .f32⟩
  | 101 => ⟨S8x1x1, .f32⟩
  | 102 => ⟨S8x256x256, .f32⟩
  | 103 => ⟨S8x256x256, .f32⟩
  | 104 => ⟨S_, .i32⟩
  | 105 => ⟨S8x256x256, .i32⟩
  | 106 => ⟨S8x256x256, .i1⟩
  | 107 => ⟨S8x1, .f32⟩
  | 108 => ⟨S8, .f32⟩
  | 109 => ⟨S8x1x1, .f32⟩
  | 110 => ⟨S8x256x256, .f32⟩
  | 111 => ⟨S8x256x256, .f32⟩
  | 112 => ⟨S_, .i32⟩
  | 113 => ⟨S8x256x256, .i32⟩
  | 114 => ⟨S8x256x256, .i1⟩
  | 115 => ⟨S8x1, .f32⟩
  | 116 => ⟨S8, .f32⟩
  | 117 => ⟨S8x1x1, .f32⟩
  | 118 => ⟨S8x256x256, .f32⟩
  | 119 => ⟨S8x256x256, .f32⟩
  | 120 => ⟨S_, .i32⟩
  | 121 => ⟨S8x256x256, .i32⟩
  | 122 => ⟨S8x256x256, .i1⟩
  | 123 => ⟨S8x1, .f32⟩
  | 124 => ⟨S8, .f32⟩
  | 125 => ⟨S8x1x1, .f32⟩
  | 126 => ⟨S8x256x256, .f32⟩
  | 127 => ⟨S8x256x256, .f32⟩
  | _ => ⟨S4x2048x10496, .f32⟩

abbrev hbmTy0_1 (i : Nat) : BufTy := match i % 128 with
  | 0 => ⟨S_, .i32⟩
  | 1 => ⟨S8x256x256, .i32⟩
  | 2 => ⟨S8x256x256, .i1⟩
  | 3 => ⟨S8x1, .f32⟩
  | 4 => ⟨S8, .f32⟩
  | 5 => ⟨S8x1x1, .f32⟩
  | 6 => ⟨S8x256x256, .f32⟩
  | 7 => ⟨S8x256x256, .f32⟩
  | 8 => ⟨S_, .i32⟩
  | 9 => ⟨S8x256x256, .i32⟩
  | 10 => ⟨S8x256x256, .i1⟩
  | 11 => ⟨S8x1, .f32⟩
  | 12 => ⟨S8, .f32⟩
  | 13 => ⟨S8x1x1, .f32⟩
  | 14 => ⟨S8x256x256, .f32⟩
  | 15 => ⟨S8x256x256, .f32⟩
  | 16 => ⟨S_, .i32⟩
  | 17 => ⟨S8x256x256, .i32⟩
  | 18 => ⟨S8x256x256, .i1⟩
  | 19 => ⟨S8x1, .f32⟩
  | 20 => ⟨S8, .f32⟩
  | 21 => ⟨S8x1x1, .f32⟩
  | 22 => ⟨S8x256x256, .f32⟩
  | 23 => ⟨S8x256x256, .f32⟩
  | 24 => ⟨S_, .i32⟩
  | 25 => ⟨S8x256x256, .i32⟩
  | 26 => ⟨S8x256x256, .i1⟩
  | 27 => ⟨S8x1, .f32⟩
  | 28 => ⟨S8, .f32⟩
  | 29 => ⟨S8x1x1, .f32⟩
  | 30 => ⟨S8x256x256, .f32⟩
  | 31 => ⟨S8x256x256, .f32⟩
  | 32 => ⟨S_, .i32⟩
  | 33 => ⟨S8x256x256, .i32⟩
  | 34 => ⟨S8x256x256, .i1⟩
  | 35 => ⟨S8x1, .f32⟩
  | 36 => ⟨S8, .f32⟩
  | 37 => ⟨S8x1x1, .f32⟩
  | 38 => ⟨S8x256x256, .f32⟩
  | 39 => ⟨S8x256x256, .f32⟩
  | 40 => ⟨S_, .i32⟩
  | 41 => ⟨S8x256x256, .i32⟩
  | 42 => ⟨S8x256x256, .i1⟩
  | 43 => ⟨S8x1, .f32⟩
  | 44 => ⟨S8, .f32⟩
  | 45 => ⟨S8x1x1, .f32⟩
  | 46 => ⟨S8x256x256, .f32⟩
  | 47 => ⟨S8x256x256, .f32⟩
  | 48 => ⟨S_, .i32⟩
  | 49 => ⟨S8x256x256, .i32⟩
  | 50 => ⟨S8x256x256, .i1⟩
  | 51 => ⟨S8x1, .f32⟩
  | 52 => ⟨S8, .f32⟩
  | 53 => ⟨S8x1x1, .f32⟩
  | 54 => ⟨S8x256x256, .f32⟩
  | 55 => ⟨S8x256x256, .f32⟩
  | 56 => ⟨S_, .i32⟩
  | 57 => ⟨S8x256x256, .i32⟩
  | 58 => ⟨S8x256x256, .i1⟩
  | 59 => ⟨S8x1, .f32⟩
  | 60 => ⟨S8, .f32⟩
  | 61 => ⟨S8x1x1, .f32⟩
  | 62 => ⟨S8x256x256, .f32⟩
  | 63 => ⟨S8x256x256, .f32⟩
  | 64 => ⟨S_, .i32⟩
  | 65 => ⟨S8x256x256, .i32⟩
  | 66 => ⟨S8x256x256, .i1⟩
  | 67 => ⟨S8x1, .f32⟩
  | 68 => ⟨S8, .f32⟩
  | 69 => ⟨S8x1x1, .f32⟩
  | 70 => ⟨S8x256x256, .f32⟩
  | 71 => ⟨S8x256x256, .f32⟩
  | 72 => ⟨S_, .i32⟩
  | 73 => ⟨S8x256x256, .i32⟩
  | 74 => ⟨S8x256x256, .i1⟩
  | 75 => ⟨S8x1, .f32⟩
  | 76 => ⟨S8, .f32⟩
  | 77 => ⟨S8x1x1, .f32⟩
  | 78 => ⟨S8x256x256, .f32⟩
  | 79 => ⟨S8x256x256, .f32⟩
  | 80 => ⟨S_, .i32⟩
  | 81 => ⟨S8x256x256, .i32⟩
  | 82 => ⟨S8x256x256, .i1⟩
  | 83 => ⟨S8x1, .f32⟩
  | 84 => ⟨S8, .f32⟩
  | 85 => ⟨S8x1x1, .f32⟩
  | 86 => ⟨S8x256x256, .f32⟩
  | 87 => ⟨S8x256x256, .f32⟩
  | 88 => ⟨S_, .i32⟩
  | 89 => ⟨S8x256x256, .i32⟩
  | 90 => ⟨S8x256x256, .i1⟩
  | 91 => ⟨S8x1, .f32⟩
  | 92 => ⟨S8, .f32⟩
  | 93 => ⟨S8x1x1, .f32⟩
  | 94 => ⟨S8x256x256, .f32⟩
  | 95 => ⟨S8x256x256, .f32⟩
  | 96 => ⟨S_, .i32⟩
  | 97 => ⟨S8x256x256, .i32⟩
  | 98 => ⟨S8x256x256, .i1⟩
  | 99 => ⟨S8x1, .f32⟩
  | 100 => ⟨S8, .f32⟩
  | 101 => ⟨S8x1x1, .f32⟩
  | 102 => ⟨S8x256x256, .f32⟩
  | 103 => ⟨S8x256x256, .f32⟩
  | 104 => ⟨S_, .i32⟩
  | 105 => ⟨S8x256x256, .i32⟩
  | 106 => ⟨S8x256x256, .i1⟩
  | 107 => ⟨S8x1, .f32⟩
  | 108 => ⟨S8, .f32⟩
  | 109 => ⟨S8x1x1, .f32⟩
  | 110 => ⟨S8x256x256, .f32⟩
  | 111 => ⟨S8x256x256, .f32⟩
  | 112 => ⟨S_, .i32⟩
  | 113 => ⟨S8x256x256, .i32⟩
  | 114 => ⟨S8x256x256, .i1⟩
  | 115 => ⟨S8x1, .f32⟩
  | 116 => ⟨S8, .f32⟩
  | 117 => ⟨S8x1x1, .f32⟩
  | 118 => ⟨S8x256x256, .f32⟩
  | 119 => ⟨S8x256x256, .f32⟩
  | 120 => ⟨S_, .i32⟩
  | 121 => ⟨S8x256x256, .i32⟩
  | 122 => ⟨S8x256x256, .i1⟩
  | 123 => ⟨S8x1, .f32⟩
  | 124 => ⟨S8, .f32⟩
  | 125 => ⟨S8x1x1, .f32⟩
  | 126 => ⟨S8x256x256, .f32⟩
  | 127 => ⟨S8x256x256, .f32⟩
  | _ => ⟨S4x2048x10496, .f32⟩

abbrev hbmTy0_2 (i : Nat) : BufTy := match i % 128 with
  | 0 => ⟨S_, .i32⟩
  | 1 => ⟨S8x256x256, .i32⟩
  | 2 => ⟨S8x256x256, .i1⟩
  | 3 => ⟨S8x1, .f32⟩
  | 4 => ⟨S8, .f32⟩
  | 5 => ⟨S8x1x1, .f32⟩
  | 6 => ⟨S8x256x256, .f32⟩
  | 7 => ⟨S8x256x256, .f32⟩
  | 8 => ⟨S8x256x256, .f32⟩
  | 9 => ⟨S8x256x256, .f32⟩
  | 10 => ⟨S_, .f32⟩
  | 11 => ⟨S_, .f32⟩
  | 12 => ⟨S8x256x256, .f32⟩
  | 13 => ⟨S8x256x256, .f32⟩
  | 14 => ⟨S_, .i32⟩
  | 15 => ⟨S8x256x256, .i32⟩
  | 16 => ⟨S8x256x256, .i32⟩
  | 17 => ⟨S8x1, .f32⟩
  | 18 => ⟨S8, .f32⟩
  | 19 => ⟨S8x1x1, .f32⟩
  | 20 => ⟨S8x256x256, .f32⟩
  | 21 => ⟨S_, .i32⟩
  | 22 => ⟨S8x256x256, .i32⟩
  | 23 => ⟨S8x256x256, .i1⟩
  | 24 => ⟨S8x1, .f32⟩
  | 25 => ⟨S8, .f32⟩
  | 26 => ⟨S8x1x1, .f32⟩
  | 27 => ⟨S8x256x256, .f32⟩
  | 28 => ⟨S8x256x256, .f32⟩
  | 29 => ⟨S_, .i32⟩
  | 30 => ⟨S8x256x256, .i32⟩
  | 31 => ⟨S8x256x256, .i1⟩
  | 32 => ⟨S8x1, .f32⟩
  | 33 => ⟨S8, .f32⟩
  | 34 => ⟨S8x1x1, .f32⟩
  | 35 => ⟨S8x256x256, .f32⟩
  | 36 => ⟨S8x256x256, .f32⟩
  | 37 => ⟨S_, .i32⟩
  | 38 => ⟨S8x256x256, .i32⟩
  | 39 => ⟨S8x256x256, .i1⟩
  | 40 => ⟨S8x1, .f32⟩
  | 41 => ⟨S8, .f32⟩
  | 42 => ⟨S8x1x1, .f32⟩
  | 43 => ⟨S8x256x256, .f32⟩
  | 44 => ⟨S8x256x256, .f32⟩
  | 45 => ⟨S_, .i32⟩
  | 46 => ⟨S8x256x256, .i32⟩
  | 47 => ⟨S8x256x256, .i1⟩
  | 48 => ⟨S8x1, .f32⟩
  | 49 => ⟨S8, .f32⟩
  | 50 => ⟨S8x1x1, .f32⟩
  | 51 => ⟨S8x256x256, .f32⟩
  | 52 => ⟨S8x256x256, .f32⟩
  | 53 => ⟨S_, .i32⟩
  | 54 => ⟨S8x256x256, .i32⟩
  | 55 => ⟨S8x256x256, .i1⟩
  | 56 => ⟨S8x1, .f32⟩
  | 57 => ⟨S8, .f32⟩
  | 58 => ⟨S8x1x1, .f32⟩
  | 59 => ⟨S8x256x256, .f32⟩
  | 60 => ⟨S8x256x256, .f32⟩
  | 61 => ⟨S_, .i32⟩
  | 62 => ⟨S8x256x256, .i32⟩
  | 63 => ⟨S8x256x256, .i1⟩
  | 64 => ⟨S8x1, .f32⟩
  | 65 => ⟨S8, .f32⟩
  | 66 => ⟨S8x1x1, .f32⟩
  | 67 => ⟨S8x256x256, .f32⟩
  | 68 => ⟨S8x256x256, .f32⟩
  | 69 => ⟨S_, .i32⟩
  | 70 => ⟨S8x256x256, .i32⟩
  | 71 => ⟨S8x256x256, .i1⟩
  | 72 => ⟨S8x1, .f32⟩
  | 73 => ⟨S8, .f32⟩
  | 74 => ⟨S8x1x1, .f32⟩
  | 75 => ⟨S8x256x256, .f32⟩
  | 76 => ⟨S8x256x256, .f32⟩
  | 77 => ⟨S_, .i32⟩
  | 78 => ⟨S8x256x256, .i32⟩
  | 79 => ⟨S8x256x256, .i1⟩
  | 80 => ⟨S8x1, .f32⟩
  | 81 => ⟨S8, .f32⟩
  | 82 => ⟨S8x1x1, .f32⟩
  | 83 => ⟨S8x256x256, .f32⟩
  | 84 => ⟨S8x256x256, .f32⟩
  | 85 => ⟨S_, .i32⟩
  | 86 => ⟨S8x256x256, .i32⟩
  | 87 => ⟨S8x256x256, .i1⟩
  | 88 => ⟨S8x1, .f32⟩
  | 89 => ⟨S8, .f32⟩
  | 90 => ⟨S8x1x1, .f32⟩
  | 91 => ⟨S8x256x256, .f32⟩
  | 92 => ⟨S8x256x256, .f32⟩
  | 93 => ⟨S_, .i32⟩
  | 94 => ⟨S8x256x256, .i32⟩
  | 95 => ⟨S8x256x256, .i1⟩
  | 96 => ⟨S8x1, .f32⟩
  | 97 => ⟨S8, .f32⟩
  | 98 => ⟨S8x1x1, .f32⟩
  | 99 => ⟨S8x256x256, .f32⟩
  | 100 => ⟨S8x256x256, .f32⟩
  | 101 => ⟨S_, .i32⟩
  | 102 => ⟨S8x256x256, .i32⟩
  | 103 => ⟨S8x256x256, .i1⟩
  | 104 => ⟨S8x1, .f32⟩
  | 105 => ⟨S8, .f32⟩
  | 106 => ⟨S8x1x1, .f32⟩
  | 107 => ⟨S8x256x256, .f32⟩
  | 108 => ⟨S8x256x256, .f32⟩
  | 109 => ⟨S_, .i32⟩
  | 110 => ⟨S8x256x256, .i32⟩
  | 111 => ⟨S8x256x256, .i1⟩
  | 112 => ⟨S8x1, .f32⟩
  | 113 => ⟨S8, .f32⟩
  | 114 => ⟨S8x1x1, .f32⟩
  | 115 => ⟨S8x256x256, .f32⟩
  | 116 => ⟨S8x256x256, .f32⟩
  | 117 => ⟨S_, .i32⟩
  | 118 => ⟨S8x256x256, .i32⟩
  | 119 => ⟨S8x256x256, .i1⟩
  | 120 => ⟨S8x1, .f32⟩
  | 121 => ⟨S8, .f32⟩
  | 122 => ⟨S8x1x1, .f32⟩
  | 123 => ⟨S8x256x256, .f32⟩
  | 124 => ⟨S8x256x256, .f32⟩
  | 125 => ⟨S_, .i32⟩
  | 126 => ⟨S8x256x256, .i32⟩
  | 127 => ⟨S8x256x256, .i1⟩
  | _ => ⟨S4x2048x10496, .f32⟩

abbrev hbmTy0_3 (i : Nat) : BufTy := match i % 128 with
  | 0 => ⟨S8x1, .f32⟩
  | 1 => ⟨S8, .f32⟩
  | 2 => ⟨S8x1x1, .f32⟩
  | 3 => ⟨S8x256x256, .f32⟩
  | 4 => ⟨S8x256x256, .f32⟩
  | 5 => ⟨S_, .i32⟩
  | 6 => ⟨S8x256x256, .i32⟩
  | 7 => ⟨S8x256x256, .i1⟩
  | 8 => ⟨S8x1, .f32⟩
  | 9 => ⟨S8, .f32⟩
  | 10 => ⟨S8x1x1, .f32⟩
  | 11 => ⟨S8x256x256, .f32⟩
  | 12 => ⟨S8x256x256, .f32⟩
  | 13 => ⟨S_, .i32⟩
  | 14 => ⟨S8x256x256, .i32⟩
  | 15 => ⟨S8x256x256, .i1⟩
  | 16 => ⟨S8x1, .f32⟩
  | 17 => ⟨S8, .f32⟩
  | 18 => ⟨S8x1x1, .f32⟩
  | 19 => ⟨S8x256x256, .f32⟩
  | 20 => ⟨S8x256x256, .f32⟩
  | 21 => ⟨S_, .i32⟩
  | 22 => ⟨S8x256x256, .i32⟩
  | 23 => ⟨S8x256x256, .i1⟩
  | 24 => ⟨S8x1, .f32⟩
  | 25 => ⟨S8, .f32⟩
  | 26 => ⟨S8x1x1, .f32⟩
  | 27 => ⟨S8x256x256, .f32⟩
  | 28 => ⟨S8x256x256, .f32⟩
  | 29 => ⟨S_, .i32⟩
  | 30 => ⟨S8x256x256, .i32⟩
  | 31 => ⟨S8x256x256, .i1⟩
  | 32 => ⟨S8x1, .f32⟩
  | 33 => ⟨S8, .f32⟩
  | 34 => ⟨S8x1x1, .f32⟩
  | 35 => ⟨S8x256x256, .f32⟩
  | 36 => ⟨S8x256x256, .f32⟩
  | 37 => ⟨S_, .i32⟩
  | 38 => ⟨S8x256x256, .i32⟩
  | 39 => ⟨S8x256x256, .i1⟩
  | 40 => ⟨S8x1, .f32⟩
  | 41 => ⟨S8, .f32⟩
  | 42 => ⟨S8x1x1, .f32⟩
  | 43 => ⟨S8x256x256, .f32⟩
  | 44 => ⟨S8x256x256, .f32⟩
  | 45 => ⟨S_, .i32⟩
  | 46 => ⟨S8x256x256, .i32⟩
  | 47 => ⟨S8x256x256, .i1⟩
  | 48 => ⟨S8x1, .f32⟩
  | 49 => ⟨S8, .f32⟩
  | 50 => ⟨S8x1x1, .f32⟩
  | 51 => ⟨S8x256x256, .f32⟩
  | 52 => ⟨S8x256x256, .f32⟩
  | 53 => ⟨S_, .i32⟩
  | 54 => ⟨S8x256x256, .i32⟩
  | 55 => ⟨S8x256x256, .i1⟩
  | 56 => ⟨S8x1, .f32⟩
  | 57 => ⟨S8, .f32⟩
  | 58 => ⟨S8x1x1, .f32⟩
  | 59 => ⟨S8x256x256, .f32⟩
  | 60 => ⟨S8x256x256, .f32⟩
  | 61 => ⟨S_, .i32⟩
  | 62 => ⟨S8x256x256, .i32⟩
  | 63 => ⟨S8x256x256, .i1⟩
  | 64 => ⟨S8x1, .f32⟩
  | 65 => ⟨S8, .f32⟩
  | 66 => ⟨S8x1x1, .f32⟩
  | 67 => ⟨S8x256x256, .f32⟩
  | 68 => ⟨S8x256x256, .f32⟩
  | 69 => ⟨S_, .i32⟩
  | 70 => ⟨S8x256x256, .i32⟩
  | 71 => ⟨S8x256x256, .i1⟩
  | 72 => ⟨S8x1, .f32⟩
  | 73 => ⟨S8, .f32⟩
  | 74 => ⟨S8x1x1, .f32⟩
  | 75 => ⟨S8x256x256, .f32⟩
  | 76 => ⟨S8x256x256, .f32⟩
  | 77 => ⟨S_, .i32⟩
  | 78 => ⟨S8x256x256, .i32⟩
  | 79 => ⟨S8x256x256, .i1⟩
  | 80 => ⟨S8x1, .f32⟩
  | 81 => ⟨S8, .f32⟩
  | 82 => ⟨S8x1x1, .f32⟩
  | 83 => ⟨S8x256x256, .f32⟩
  | 84 => ⟨S8x256x256, .f32⟩
  | 85 => ⟨S_, .i32⟩
  | 86 => ⟨S8x256x256, .i32⟩
  | 87 => ⟨S8x256x256, .i1⟩
  | 88 => ⟨S8x1, .f32⟩
  | 89 => ⟨S8, .f32⟩
  | 90 => ⟨S8x1x1, .f32⟩
  | 91 => ⟨S8x256x256, .f32⟩
  | 92 => ⟨S8x256x256, .f32⟩
  | 93 => ⟨S_, .i32⟩
  | 94 => ⟨S8x256x256, .i32⟩
  | 95 => ⟨S8x256x256, .i1⟩
  | 96 => ⟨S8x1, .f32⟩
  | 97 => ⟨S8, .f32⟩
  | 98 => ⟨S8x1x1, .f32⟩
  | 99 => ⟨S8x256x256, .f32⟩
  | 100 => ⟨S8x256x256, .f32⟩
  | 101 => ⟨S_, .i32⟩
  | 102 => ⟨S8x256x256, .i32⟩
  | 103 => ⟨S8x256x256, .i1⟩
  | 104 => ⟨S8x1, .f32⟩
  | 105 => ⟨S8, .f32⟩
  | 106 => ⟨S8x1x1, .f32⟩
  | 107 => ⟨S8x256x256, .f32⟩
  | 108 => ⟨S8x256x256, .f32⟩
  | 109 => ⟨S_, .i32⟩
  | 110 => ⟨S8x256x256, .i32⟩
  | 111 => ⟨S8x256x256, .i1⟩
  | 112 => ⟨S8x1, .f32⟩
  | 113 => ⟨S8, .f32⟩
  | 114 => ⟨S8x1x1, .f32⟩
  | 115 => ⟨S8x256x256, .f32⟩
  | 116 => ⟨S8x256x256, .f32⟩
  | 117 => ⟨S_, .i32⟩
  | 118 => ⟨S8x256x256, .i32⟩
  | 119 => ⟨S8x256x256, .i1⟩
  | 120 => ⟨S8x1, .f32⟩
  | 121 => ⟨S8, .f32⟩
  | 122 => ⟨S8x1x1, .f32⟩
  | 123 => ⟨S8x256x256, .f32⟩
  | 124 => ⟨S8x256x256, .f32⟩
  | 125 => ⟨S_, .i32⟩
  | 126 => ⟨S8x256x256, .i32⟩
  | 127 => ⟨S8x256x256, .i1⟩
  | _ => ⟨S4x2048x10496, .f32⟩

abbrev hbmTy0_4 (i : Nat) : BufTy := match i % 128 with
  | 0 => ⟨S8x1, .f32⟩
  | 1 => ⟨S8, .f32⟩
  | 2 => ⟨S8x1x1, .f32⟩
  | 3 => ⟨S8x256x256, .f32⟩
  | 4 => ⟨S8x256x256, .f32⟩
  | 5 => ⟨S_, .i32⟩
  | 6 => ⟨S8x256x256, .i32⟩
  | 7 => ⟨S8x256x256, .i1⟩
  | 8 => ⟨S8x1, .f32⟩
  | 9 => ⟨S8, .f32⟩
  | 10 => ⟨S8x1x1, .f32⟩
  | 11 => ⟨S8x256x256, .f32⟩
  | 12 => ⟨S8x256x256, .f32⟩
  | 13 => ⟨S8x256x256, .f32⟩
  | 14 => ⟨S8x256x256, .f32⟩
  | 15 => ⟨S8x1x256x256, .f32⟩
  | 16 => ⟨S8x1x256x256, .f32⟩
  | 17 => ⟨S8x2x256x256, .f32⟩
  | 18 => ⟨S4x2048x1024, .bf16⟩
  | _ => ⟨S4x2048x10496, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x10496, .f32⟩

abbrev bufTy : (tb : Table) → Fin (tcTables nBuf tb) → BufTy
  | .hbm, ⟨i, _⟩ => hbmTy i
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S2x2x256x256, .f32⟩
  | .local _ .vmem, ⟨7, _⟩ => ⟨S2x2x256x256, .f32⟩
  | .local _ .vmem, ⟨8, _⟩ => ⟨S1x256x256, .bf16⟩
  | .local _ .vmem, ⟨9, _⟩ => ⟨S1x256x256, .bf16⟩
  | .local _ .vmem, ⟨10, _⟩ => ⟨S2x2048x128, .bf16⟩
  | .local _ .vmem, ⟨11, _⟩ => ⟨S2x128x2048, .bf16⟩
  | .local _ .vmem, ⟨12, _⟩ => ⟨S2x8x128, .f32⟩
  | .local _ .vmem, ⟨13, _⟩ => ⟨S2x2048x256, .f32⟩
  | .local _ .vmem, ⟨14, _⟩ => ⟨S2x2048x256, .bf16⟩
  | _, _ => ⟨S4x2048x10496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call1_v0 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call2_v0 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call3_v0 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call4_v0 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call5_v0 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call6_v0 : Ref sig .tc := ⟨.hbm, 70, rfl⟩
abbrev main_v54 : Ref sig .tc := ⟨.hbm, 71, rfl⟩
abbrev main_c_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call7_v0 : Ref sig .tc := ⟨.hbm, 78, rfl⟩
abbrev main_v60 : Ref sig .tc := ⟨.hbm, 79, rfl⟩
abbrev main_c_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call8_v0 : Ref sig .tc := ⟨.hbm, 86, rfl⟩
abbrev main_v66 : Ref sig .tc := ⟨.hbm, 87, rfl⟩
abbrev main_c_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call9_v0 : Ref sig .tc := ⟨.hbm, 94, rfl⟩
abbrev main_v72 : Ref sig .tc := ⟨.hbm, 95, rfl⟩
abbrev main_c_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call10_v0 : Ref sig .tc := ⟨.hbm, 102, rfl⟩
abbrev main_v78 : Ref sig .tc := ⟨.hbm, 103, rfl⟩
abbrev main_c_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_call11_v0 : Ref sig .tc := ⟨.hbm, 110, rfl⟩
abbrev main_v84 : Ref sig .tc := ⟨.hbm, 111, rfl⟩
abbrev main_c_12 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call12_v0 : Ref sig .tc := ⟨.hbm, 118, rfl⟩
abbrev main_v90 : Ref sig .tc := ⟨.hbm, 119, rfl⟩
abbrev main_c_13 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call13_v0 : Ref sig .tc := ⟨.hbm, 126, rfl⟩
abbrev main_v96 : Ref sig .tc := ⟨.hbm, 127, rfl⟩
abbrev main_c_14 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_call14_v0 : Ref sig .tc := ⟨.hbm, 134, rfl⟩
abbrev main_v102 : Ref sig .tc := ⟨.hbm, 135, rfl⟩
abbrev main_c_15 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call15_v0 : Ref sig .tc := ⟨.hbm, 142, rfl⟩
abbrev main_v108 : Ref sig .tc := ⟨.hbm, 143, rfl⟩
abbrev main_c_16 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_call16_v0 : Ref sig .tc := ⟨.hbm, 150, rfl⟩
abbrev main_v114 : Ref sig .tc := ⟨.hbm, 151, rfl⟩
abbrev main_c_17 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_call17_v0 : Ref sig .tc := ⟨.hbm, 158, rfl⟩
abbrev main_v120 : Ref sig .tc := ⟨.hbm, 159, rfl⟩
abbrev main_c_18 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_call18_v0 : Ref sig .tc := ⟨.hbm, 166, rfl⟩
abbrev main_v126 : Ref sig .tc := ⟨.hbm, 167, rfl⟩
abbrev main_c_19 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_call19_v0 : Ref sig .tc := ⟨.hbm, 174, rfl⟩
abbrev main_v132 : Ref sig .tc := ⟨.hbm, 175, rfl⟩
abbrev main_c_20 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call20_v0 : Ref sig .tc := ⟨.hbm, 182, rfl⟩
abbrev main_v138 : Ref sig .tc := ⟨.hbm, 183, rfl⟩
abbrev main_c_21 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call21_v0 : Ref sig .tc := ⟨.hbm, 190, rfl⟩
abbrev main_v144 : Ref sig .tc := ⟨.hbm, 191, rfl⟩
abbrev main_c_22 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_call22_v0 : Ref sig .tc := ⟨.hbm, 198, rfl⟩
abbrev main_v150 : Ref sig .tc := ⟨.hbm, 199, rfl⟩
abbrev main_c_23 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_call23_v0 : Ref sig .tc := ⟨.hbm, 206, rfl⟩
abbrev main_v156 : Ref sig .tc := ⟨.hbm, 207, rfl⟩
abbrev main_c_24 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_call24_v0 : Ref sig .tc := ⟨.hbm, 214, rfl⟩
abbrev main_v162 : Ref sig .tc := ⟨.hbm, 215, rfl⟩
abbrev main_c_25 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_call25_v0 : Ref sig .tc := ⟨.hbm, 222, rfl⟩
abbrev main_v168 : Ref sig .tc := ⟨.hbm, 223, rfl⟩
abbrev main_c_26 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_call26_v0 : Ref sig .tc := ⟨.hbm, 230, rfl⟩
abbrev main_v174 : Ref sig .tc := ⟨.hbm, 231, rfl⟩
abbrev main_c_27 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_call27_v0 : Ref sig .tc := ⟨.hbm, 238, rfl⟩
abbrev main_v180 : Ref sig .tc := ⟨.hbm, 239, rfl⟩
abbrev main_c_28 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_call28_v0 : Ref sig .tc := ⟨.hbm, 246, rfl⟩
abbrev main_v186 : Ref sig .tc := ⟨.hbm, 247, rfl⟩
abbrev main_c_29 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_call29_v0 : Ref sig .tc := ⟨.hbm, 254, rfl⟩
abbrev main_v192 : Ref sig .tc := ⟨.hbm, 255, rfl⟩
abbrev main_c_30 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_call30_v0 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_cst : Ref sig .tc := ⟨.hbm, 266, rfl⟩
abbrev main_call31_v0 : Ref sig .tc := ⟨.hbm, 267, rfl⟩
abbrev main_call31_v1 : Ref sig .tc := ⟨.hbm, 268, rfl⟩
abbrev main_v201 : Ref sig .tc := ⟨.hbm, 269, rfl⟩
abbrev main_c_31 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_c_32 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_call32_v0 : Ref sig .tc := ⟨.hbm, 283, rfl⟩
abbrev main_v213 : Ref sig .tc := ⟨.hbm, 284, rfl⟩
abbrev main_c_33 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_call33_v0 : Ref sig .tc := ⟨.hbm, 291, rfl⟩
abbrev main_v219 : Ref sig .tc := ⟨.hbm, 292, rfl⟩
abbrev main_c_34 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_call34_v0 : Ref sig .tc := ⟨.hbm, 299, rfl⟩
abbrev main_v225 : Ref sig .tc := ⟨.hbm, 300, rfl⟩
abbrev main_c_35 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_call35_v0 : Ref sig .tc := ⟨.hbm, 307, rfl⟩
abbrev main_v231 : Ref sig .tc := ⟨.hbm, 308, rfl⟩
abbrev main_c_36 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_call36_v0 : Ref sig .tc := ⟨.hbm, 315, rfl⟩
abbrev main_v237 : Ref sig .tc := ⟨.hbm, 316, rfl⟩
abbrev main_c_37 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_call37_v0 : Ref sig .tc := ⟨.hbm, 323, rfl⟩
abbrev main_v243 : Ref sig .tc := ⟨.hbm, 324, rfl⟩
abbrev main_c_38 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_call38_v0 : Ref sig .tc := ⟨.hbm, 331, rfl⟩
abbrev main_v249 : Ref sig .tc := ⟨.hbm, 332, rfl⟩
abbrev main_c_39 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_call39_v0 : Ref sig .tc := ⟨.hbm, 339, rfl⟩
abbrev main_v255 : Ref sig .tc := ⟨.hbm, 340, rfl⟩
abbrev main_c_40 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_call40_v0 : Ref sig .tc := ⟨.hbm, 347, rfl⟩
abbrev main_v261 : Ref sig .tc := ⟨.hbm, 348, rfl⟩
abbrev main_c_41 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_call41_v0 : Ref sig .tc := ⟨.hbm, 355, rfl⟩
abbrev main_v267 : Ref sig .tc := ⟨.hbm, 356, rfl⟩
abbrev main_c_42 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_call42_v0 : Ref sig .tc := ⟨.hbm, 363, rfl⟩
abbrev main_v273 : Ref sig .tc := ⟨.hbm, 364, rfl⟩
abbrev main_c_43 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_call43_v0 : Ref sig .tc := ⟨.hbm, 371, rfl⟩
abbrev main_v279 : Ref sig .tc := ⟨.hbm, 372, rfl⟩
abbrev main_c_44 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_call44_v0 : Ref sig .tc := ⟨.hbm, 379, rfl⟩
abbrev main_v285 : Ref sig .tc := ⟨.hbm, 380, rfl⟩
abbrev main_c_45 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_call45_v0 : Ref sig .tc := ⟨.hbm, 387, rfl⟩
abbrev main_v291 : Ref sig .tc := ⟨.hbm, 388, rfl⟩
abbrev main_c_46 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_call46_v0 : Ref sig .tc := ⟨.hbm, 395, rfl⟩
abbrev main_v297 : Ref sig .tc := ⟨.hbm, 396, rfl⟩
abbrev main_c_47 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_v302 : Ref sig .tc := ⟨.hbm, 402, rfl⟩
abbrev main_call47_v0 : Ref sig .tc := ⟨.hbm, 403, rfl⟩
abbrev main_v303 : Ref sig .tc := ⟨.hbm, 404, rfl⟩
abbrev main_c_48 : Ref sig .tc := ⟨.hbm, 405, rfl⟩
abbrev main_v304 : Ref sig .tc := ⟨.hbm, 406, rfl⟩
abbrev main_v305 : Ref sig .tc := ⟨.hbm, 407, rfl⟩
abbrev main_v306 : Ref sig .tc := ⟨.hbm, 408, rfl⟩
abbrev main_v307 : Ref sig .tc := ⟨.hbm, 409, rfl⟩
abbrev main_v308 : Ref sig .tc := ⟨.hbm, 410, rfl⟩
abbrev main_call48_v0 : Ref sig .tc := ⟨.hbm, 411, rfl⟩
abbrev main_v309 : Ref sig .tc := ⟨.hbm, 412, rfl⟩
abbrev main_c_49 : Ref sig .tc := ⟨.hbm, 413, rfl⟩
abbrev main_v310 : Ref sig .tc := ⟨.hbm, 414, rfl⟩
abbrev main_v311 : Ref sig .tc := ⟨.hbm, 415, rfl⟩
abbrev main_v312 : Ref sig .tc := ⟨.hbm, 416, rfl⟩
abbrev main_v313 : Ref sig .tc := ⟨.hbm, 417, rfl⟩
abbrev main_v314 : Ref sig .tc := ⟨.hbm, 418, rfl⟩
abbrev main_call49_v0 : Ref sig .tc := ⟨.hbm, 419, rfl⟩
abbrev main_v315 : Ref sig .tc := ⟨.hbm, 420, rfl⟩
abbrev main_c_50 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_call50_v0 : Ref sig .tc := ⟨.hbm, 427, rfl⟩
abbrev main_v321 : Ref sig .tc := ⟨.hbm, 428, rfl⟩
abbrev main_c_51 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_call51_v0 : Ref sig .tc := ⟨.hbm, 435, rfl⟩
abbrev main_v327 : Ref sig .tc := ⟨.hbm, 436, rfl⟩
abbrev main_c_52 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_call52_v0 : Ref sig .tc := ⟨.hbm, 443, rfl⟩
abbrev main_v333 : Ref sig .tc := ⟨.hbm, 444, rfl⟩
abbrev main_c_53 : Ref sig .tc := ⟨.hbm, 445, rfl⟩
abbrev main_v334 : Ref sig .tc := ⟨.hbm, 446, rfl⟩
abbrev main_v335 : Ref sig .tc := ⟨.hbm, 447, rfl⟩
abbrev main_v336 : Ref sig .tc := ⟨.hbm, 448, rfl⟩
abbrev main_v337 : Ref sig .tc := ⟨.hbm, 449, rfl⟩
abbrev main_v338 : Ref sig .tc := ⟨.hbm, 450, rfl⟩
abbrev main_call53_v0 : Ref sig .tc := ⟨.hbm, 451, rfl⟩
abbrev main_v339 : Ref sig .tc := ⟨.hbm, 452, rfl⟩
abbrev main_c_54 : Ref sig .tc := ⟨.hbm, 453, rfl⟩
abbrev main_v340 : Ref sig .tc := ⟨.hbm, 454, rfl⟩
abbrev main_v341 : Ref sig .tc := ⟨.hbm, 455, rfl⟩
abbrev main_v342 : Ref sig .tc := ⟨.hbm, 456, rfl⟩
abbrev main_v343 : Ref sig .tc := ⟨.hbm, 457, rfl⟩
abbrev main_v344 : Ref sig .tc := ⟨.hbm, 458, rfl⟩
abbrev main_call54_v0 : Ref sig .tc := ⟨.hbm, 459, rfl⟩
abbrev main_v345 : Ref sig .tc := ⟨.hbm, 460, rfl⟩
abbrev main_c_55 : Ref sig .tc := ⟨.hbm, 461, rfl⟩
abbrev main_v346 : Ref sig .tc := ⟨.hbm, 462, rfl⟩
abbrev main_v347 : Ref sig .tc := ⟨.hbm, 463, rfl⟩
abbrev main_v348 : Ref sig .tc := ⟨.hbm, 464, rfl⟩
abbrev main_v349 : Ref sig .tc := ⟨.hbm, 465, rfl⟩
abbrev main_v350 : Ref sig .tc := ⟨.hbm, 466, rfl⟩
abbrev main_call55_v0 : Ref sig .tc := ⟨.hbm, 467, rfl⟩
abbrev main_v351 : Ref sig .tc := ⟨.hbm, 468, rfl⟩
abbrev main_c_56 : Ref sig .tc := ⟨.hbm, 469, rfl⟩
abbrev main_v352 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_call56_v0 : Ref sig .tc := ⟨.hbm, 475, rfl⟩
abbrev main_v357 : Ref sig .tc := ⟨.hbm, 476, rfl⟩
abbrev main_c_57 : Ref sig .tc := ⟨.hbm, 477, rfl⟩
abbrev main_v358 : Ref sig .tc := ⟨.hbm, 478, rfl⟩
abbrev main_v359 : Ref sig .tc := ⟨.hbm, 479, rfl⟩
abbrev main_v360 : Ref sig .tc := ⟨.hbm, 480, rfl⟩
abbrev main_v361 : Ref sig .tc := ⟨.hbm, 481, rfl⟩
abbrev main_v362 : Ref sig .tc := ⟨.hbm, 482, rfl⟩
abbrev main_call57_v0 : Ref sig .tc := ⟨.hbm, 483, rfl⟩
abbrev main_v363 : Ref sig .tc := ⟨.hbm, 484, rfl⟩
abbrev main_c_58 : Ref sig .tc := ⟨.hbm, 485, rfl⟩
abbrev main_v364 : Ref sig .tc := ⟨.hbm, 486, rfl⟩
abbrev main_v365 : Ref sig .tc := ⟨.hbm, 487, rfl⟩
abbrev main_v366 : Ref sig .tc := ⟨.hbm, 488, rfl⟩
abbrev main_v367 : Ref sig .tc := ⟨.hbm, 489, rfl⟩
abbrev main_v368 : Ref sig .tc := ⟨.hbm, 490, rfl⟩
abbrev main_call58_v0 : Ref sig .tc := ⟨.hbm, 491, rfl⟩
abbrev main_v369 : Ref sig .tc := ⟨.hbm, 492, rfl⟩
abbrev main_c_59 : Ref sig .tc := ⟨.hbm, 493, rfl⟩
abbrev main_v370 : Ref sig .tc := ⟨.hbm, 494, rfl⟩
abbrev main_v371 : Ref sig .tc := ⟨.hbm, 495, rfl⟩
abbrev main_v372 : Ref sig .tc := ⟨.hbm, 496, rfl⟩
abbrev main_v373 : Ref sig .tc := ⟨.hbm, 497, rfl⟩
abbrev main_v374 : Ref sig .tc := ⟨.hbm, 498, rfl⟩
abbrev main_call59_v0 : Ref sig .tc := ⟨.hbm, 499, rfl⟩
abbrev main_v375 : Ref sig .tc := ⟨.hbm, 500, rfl⟩
abbrev main_c_60 : Ref sig .tc := ⟨.hbm, 501, rfl⟩
abbrev main_v376 : Ref sig .tc := ⟨.hbm, 502, rfl⟩
abbrev main_v377 : Ref sig .tc := ⟨.hbm, 503, rfl⟩
abbrev main_v378 : Ref sig .tc := ⟨.hbm, 504, rfl⟩
abbrev main_v379 : Ref sig .tc := ⟨.hbm, 505, rfl⟩
abbrev main_v380 : Ref sig .tc := ⟨.hbm, 506, rfl⟩
abbrev main_call60_v0 : Ref sig .tc := ⟨.hbm, 507, rfl⟩
abbrev main_v381 : Ref sig .tc := ⟨.hbm, 508, rfl⟩
abbrev main_c_61 : Ref sig .tc := ⟨.hbm, 509, rfl⟩
abbrev main_v382 : Ref sig .tc := ⟨.hbm, 510, rfl⟩
abbrev main_v383 : Ref sig .tc := ⟨.hbm, 511, rfl⟩
abbrev main_v384 : Ref sig .tc := ⟨.hbm, 512, rfl⟩
abbrev main_v385 : Ref sig .tc := ⟨.hbm, 513, rfl⟩
abbrev main_v386 : Ref sig .tc := ⟨.hbm, 514, rfl⟩
abbrev main_call61_v0 : Ref sig .tc := ⟨.hbm, 515, rfl⟩
abbrev main_v387 : Ref sig .tc := ⟨.hbm, 516, rfl⟩
abbrev main_c_62 : Ref sig .tc := ⟨.hbm, 517, rfl⟩
abbrev main_v388 : Ref sig .tc := ⟨.hbm, 518, rfl⟩
abbrev main_v389 : Ref sig .tc := ⟨.hbm, 519, rfl⟩
abbrev main_v390 : Ref sig .tc := ⟨.hbm, 520, rfl⟩
abbrev main_v391 : Ref sig .tc := ⟨.hbm, 521, rfl⟩
abbrev main_v392 : Ref sig .tc := ⟨.hbm, 522, rfl⟩
abbrev main_call62_v0 : Ref sig .tc := ⟨.hbm, 523, rfl⟩
abbrev main_v393 : Ref sig .tc := ⟨.hbm, 524, rfl⟩
abbrev main_v394 : Ref sig .tc := ⟨.hbm, 525, rfl⟩
abbrev main_v395 : Ref sig .tc := ⟨.hbm, 526, rfl⟩
abbrev main_v396 : Ref sig .tc := ⟨.hbm, 527, rfl⟩
abbrev main_v397 : Ref sig .tc := ⟨.hbm, 528, rfl⟩
abbrev main_v398 : Ref sig .tc := ⟨.hbm, 529, rfl⟩
abbrev main_v399 : Ref sig .tc := ⟨.hbm, 530, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c0_i32_110 : BitVec 32 := 0#32
  let v316 : BitVec 1 := Scalar.cmpi .eq arg2 c0_i32_110
  let v317 : BitVec 32 := Scalar.extui v316
  let c0_i32_111 : BitVec 32 := 0#32
  let v318 : BitVec 1 := Scalar.cmpi .ne v317 c0_i32_111
  v318

def k0_cond3 (i : grid0.Coords) : BitVec 1 :=
  let arg2 : BitVec 32 := BitVec.ofNat 32 (i 2).val
  let c1_i32_112 : BitVec 32 := 1#32
  let v319 : BitVec 1 := Scalar.cmpi .eq arg2 c1_i32_112
  let v320 : BitVec 32 := Scalar.extui v319
  let c0_i32_113 : BitVec 32 := 0#32
  let v321 : BitVec 1 := Scalar.cmpi .ne v320 c0_i32_113
  v321

def k0_cond4 (i : grid0.Coords) : BitVec 1 :=
  let arg2 : BitVec 32 := BitVec.ofNat 32 (i 2).val
  let c2_i32_114 : BitVec 32 := 2#32
  let v322 : BitVec 1 := Scalar.cmpi .eq arg2 c2_i32_114
  let v323 : BitVec 32 := Scalar.extui v322
  let c0_i32_115 : BitVec 32 := 0#32
  let v324 : BitVec 1 := Scalar.cmpi .ne v323 c0_i32_115
  v324

def k0_cond5 (i : grid0.Coords) : BitVec 1 :=
  let arg2 : BitVec 32 := BitVec.ofNat 32 (i 2).val
  let c3_i32_116 : BitVec 32 := 3#32
  let v325 : BitVec 1 := Scalar.cmpi .eq arg2 c3_i32_116
  let v326 : BitVec 32 := Scalar.extui v325
  let c0_i32_117 : BitVec 32 := 0#32
  let v327 : BitVec 1 := Scalar.cmpi .ne v326 c0_i32_117
  v327

def k0_cond6 (i : grid0.Coords) : BitVec 1 :=
  let arg2 : BitVec 32 := BitVec.ofNat 32 (i 2).val
  let c4_i32_118 : BitVec 32 := 4#32
  let v328 : BitVec 1 := Scalar.cmpi .eq arg2 c4_i32_118
  let v329 : BitVec 32 := Scalar.extui v328
  let c0_i32_119 : BitVec 32 := 0#32
  let v330 : BitVec 1 := Scalar.cmpi .ne v329 c0_i32_119
  v330

def k0_cond7 (i : grid0.Coords) : BitVec 1 :=
  let arg2 : BitVec 32 := BitVec.ofNat 32 (i 2).val
  let c5_i32_120 : BitVec 32 := 5#32
  let v331 : BitVec 1 := Scalar.cmpi .eq arg2 c5_i32_120
  let v332 : BitVec 32 := Scalar.extui v331
  let c0_i32_121 : BitVec 32 := 0#32
  let v333 : BitVec 1 := Scalar.cmpi .ne v332 c0_i32_121
  v333

def k0_cond8 (i : grid0.Coords) : BitVec 1 :=
  let arg2 : BitVec 32 := BitVec.ofNat 32 (i 2).val
  let c6_i32_122 : BitVec 32 := 6#32
  let v334 : BitVec 1 := Scalar.cmpi .eq arg2 c6_i32_122
  let v335 : BitVec 32 := Scalar.extui v334
  let c0_i32_123 : BitVec 32 := 0#32
  let v336 : BitVec 1 := Scalar.cmpi .ne v335 c0_i32_123
  v336

def k0_cond9 (i : grid0.Coords) : BitVec 1 :=
  let arg2 : BitVec 32 := BitVec.ofNat 32 (i 2).val
  let c7_i32_124 : BitVec 32 := 7#32
  let v337 : BitVec 1 := Scalar.cmpi .eq arg2 c7_i32_124
  let v338 : BitVec 32 := Scalar.extui v337
  let c0_i32_125 : BitVec 32 := 0#32
  let v339 : BitVec 1 := Scalar.cmpi .ne v338 c0_i32_125
  v339

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi c13_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi c17_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c21_i32 : BitVec 32 := 21#32
  let v0 : BitVec 32 := Scalar.addi c21_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x10496 : Shape := ⟨3, ![4, 2048, 10496]⟩
abbrev S8x32 : Shape := ⟨2, ![8, 32]⟩
abbrev S4x2048x3072 : Shape := ⟨3, ![4, 2048, 3072]⟩
abbrev S4x2048x3x8x128 : Shape := ⟨5, ![4, 2048, 3, 8, 128]⟩
abbrev S4x2048x1x8x128 : Shape := ⟨5, ![4, 2048, 1, 8, 128]⟩
abbrev S4x2048x8x128 : Shape := ⟨4, ![4, 2048, 8, 128]⟩
abbrev S4x8x2048x128 : Shape := ⟨4, ![4, 8, 2048, 128]⟩
abbrev S4x8x8x256x128 : Shape := ⟨5, ![4, 8, 8, 256, 128]⟩
abbrev S_ : Shape := ⟨0, ![]⟩
abbrev S4x8x8x128 : Shape := ⟨4, ![4, 8, 8, 128]⟩
abbrev S2048 : Shape := ⟨1, ![2048]⟩
abbrev S4x8x2048x8 : Shape := ⟨4, ![4, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S4x8x2048x3 : Shape := ⟨4, ![4, 8, 2048, 3]⟩
abbrev S4x8x2048x3x1 : Shape := ⟨5, ![4, 8, 2048, 3, 1]⟩
abbrev S1x1x1x1x8 : Shape := ⟨5, ![1, 1, 1, 1, 8]⟩
abbrev S4x8x2048x3x8 : Shape := ⟨5, ![4, 8, 2048, 3, 8]⟩
abbrev S1x1x2048x8 : Shape := ⟨4, ![1, 1, 2048, 8]⟩
abbrev S1x2048 : Shape := ⟨2, ![1, 2048]⟩
abbrev S2048x2048 : Shape := ⟨2, ![2048, 2048]⟩
abbrev S4x8x2048x8x256 : Shape := ⟨5, ![4, 8, 2048, 8, 256]⟩
abbrev S4x8x2048x2048 : Shape := ⟨4, ![4, 8, 2048, 2048]⟩
abbrev S1x1x2048x2048 : Shape := ⟨4, ![1, 1, 2048, 2048]⟩
abbrev S2048x2048x1 : Shape := ⟨3, ![2048, 2048, 1]⟩
abbrev S8x2048x2048 : Shape := ⟨3, ![8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S4x2048x1024 : Shape := ⟨3, ![4, 2048, 1024]⟩

abbrev nBuf : Space → Nat
  | .hbm => 153
  | .vmem => 0
  | .smem => 0
  | _ => 0

abbrev hbmTy0_0 (i : Nat) : BufTy := match i % 128 with
  | 0 => ⟨S4x2048x10496, .f32⟩
  | 1 => ⟨S8x32, .f32⟩
  | 2 => ⟨S4x2048x3072, .f32⟩
  | 3 => ⟨S4x2048x3x8x128, .f32⟩
  | 4 => ⟨S4x2048x1x8x128, .f32⟩
  | 5 => ⟨S4x2048x8x128, .f32⟩
  | 6 => ⟨S4x2048x1x8x128, .f32⟩
  | 7 => ⟨S4x2048x8x128, .f32⟩
  | 8 => ⟨S4x2048x1x8x128, .f32⟩
  | 9 => ⟨S4x2048x8x128, .f32⟩
  | 10 => ⟨S4x8x2048x128, .f32⟩
  | 11 => ⟨S4x8x2048x128, .f32⟩
  | 12 => ⟨S4x8x2048x128, .f32⟩
  | 13 => ⟨S4x8x8x256x128, .f32⟩
  | 14 => ⟨S_, .f32⟩
  | 15 => ⟨S4x8x8x128, .f32⟩
  | 16 => ⟨S_, .f32⟩
  | 17 => ⟨S4x8x8x128, .f32⟩
  | 18 => ⟨S4x8x8x128, .f32⟩
  | 19 => ⟨S2048, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S4x8x2048x8, .f32⟩
  | 39 => ⟨S8, .i32⟩
  | 40 => ⟨S1x8, .i32⟩
  | 41 => ⟨S2048x1, .i32⟩
  | 42 => ⟨S2048x8, .i32⟩
  | 43 => ⟨S2048x8, .i32⟩
  | 44 => ⟨S2048x8, .i1⟩
  | 45 => ⟨S_, .f32⟩
  | 46 => ⟨S_, .f32⟩
  | 47 => ⟨S4x8x2048x8, .i1⟩
  | 48 => ⟨S4x8x2048x8, .f32⟩
  | 49 => ⟨S4x8x2048x8, .f32⟩
  | 50 => ⟨S4x8x2048x3, .f32⟩
  | 51 => ⟨S4x8x2048x3, .i32⟩
  | 52 => ⟨S4x8x2048x3x1, .i32⟩
  | 53 => ⟨S1x1x1x1x8, .i32⟩
  | 54 => ⟨S4x8x2048x3x8, .i32⟩
  | 55 => ⟨S4x8x2048x3x8, .i32⟩
  | 56 => ⟨S4x8x2048x3x8, .i1⟩
  | 57 => ⟨S_, .f32⟩
  | 58 => ⟨S4x8x2048x3, .f32⟩
  | 59 => ⟨S4x8x2048x3, .i1⟩
  | 60 => ⟨S4x8x2048x3x1, .i1⟩
  | 61 => ⟨S4x8x2048x3x8, .i1⟩
  | 62 => ⟨S4x8x2048x3x8, .i1⟩
  | 63 => ⟨S_, .i1⟩
  | 64 => ⟨S4x8x2048x8, .i1⟩
  | 65 => ⟨S1x8, .i32⟩
  | 66 => ⟨S2048x1, .i32⟩
  | 67 => ⟨S2048x8, .i32⟩
  | 68 => ⟨S2048x8, .i32⟩
  | 69 => ⟨S2048x8, .i1⟩
  | 70 => ⟨S1x1x2048x8, .i1⟩
  | 71 => ⟨S4x8x2048x8, .i1⟩
  | 72 => ⟨S4x8x2048x8, .i1⟩
  | 73 => ⟨S2048x1, .i32⟩
  | 74 => ⟨S1x2048, .i32⟩
  | 75 => ⟨S2048x2048, .i32⟩
  | 76 => ⟨S2048x2048, .i32⟩
  | 77 => ⟨S2048x2048, .i32⟩
  | 78 => ⟨S4x8x2048x8x256, .i1⟩
  | 79 => ⟨S4x8x2048x2048, .i1⟩
  | 80 => ⟨S_, .i32⟩
  | 81 => ⟨S2048x2048, .i32⟩
  | 82 => ⟨S2048x2048, .i1⟩
  | 83 => ⟨S1x1x2048x2048, .i1⟩
  | 84 => ⟨S4x8x2048x2048, .i1⟩
  | 85 => ⟨S4x8x2048x2048, .i1⟩
  | 86 => ⟨S_, .i32⟩
  | 87 => ⟨S2048x2048, .i32⟩
  | 88 => ⟨S2048x2048, .i32⟩
  | 89 => ⟨S_, .i32⟩
  | 90 => ⟨S2048x2048, .i32⟩
  | 91 => ⟨S2048x2048, .i32⟩
  | 92 => ⟨S2048x2048, .f32⟩
  | 93 => ⟨S_, .f32⟩
  | 94 => ⟨S2048x2048, .f32⟩
  | 95 => ⟨S2048x2048, .f32⟩
  | 96 => ⟨S2048x2048, .f32⟩
  | 97 => ⟨S_, .f32⟩
  | 98 => ⟨S_, .f32⟩
  | 99 => ⟨S2048x2048, .f32⟩
  | 100 => ⟨S2048x2048, .f32⟩
  | 101 => ⟨S_, .f32⟩
  | 102 => ⟨S2048x2048, .f32⟩
  | 103 => ⟨S2048x2048, .f32⟩
  | 104 => ⟨S2048x2048, .i32⟩
  | 105 => ⟨S_, .i32⟩
  | 106 => ⟨S2048x2048, .i32⟩
  | 107 => ⟨S2048x2048, .i32⟩
  | 108 => ⟨S_, .i32⟩
  | 109 => ⟨S2048x2048, .i32⟩
  | 110 => ⟨S2048x2048, .i1⟩
  | 111 => ⟨S_, .i32⟩
  | 112 => ⟨S2048x2048, .i32⟩
  | 113 => ⟨S2048x2048, .i32⟩
  | 114 => ⟨S2048x2048, .i32⟩
  | 115 => ⟨S_, .i32⟩
  | 116 => ⟨S2048x2048, .i32⟩
  | 117 => ⟨S2048x2048, .i1⟩
  | 118 => ⟨S_, .i32⟩
  | 119 => ⟨S2048x2048, .i32⟩
  | 120 => ⟨S2048x2048, .i32⟩
  | 121 => ⟨S2048x2048, .i32⟩
  | 122 => ⟨S2048x2048x1, .i32⟩
  | 123 => ⟨S8x2048x2048, .f32⟩
  | 124 => ⟨S4x8x2048x2048, .f32⟩
  | 125 => ⟨S_, .f32⟩
  | 126 => ⟨S4x8x2048x2048, .f32⟩
  | 127 => ⟨S4x8x2048x2048, .f32⟩
  | _ => ⟨S4x2048x10496, .f32⟩

abbrev hbmTy0_1 (i : Nat) : BufTy := match i % 128 with
  | 0 => ⟨S1x8x2048x2048, .f32⟩
  | 1 => ⟨S4x8x2048x2048, .f32⟩
  | 2 => ⟨S4x8x2048x2048, .f32⟩
  | 3 => ⟨S_, .f32⟩
  | 4 => ⟨S_, .f32⟩
  | 5 => ⟨S4x8x2048x2048, .f32⟩
  | 6 => ⟨S4x8x2048x2048, .f32⟩
  | 7 => ⟨S_, .f32⟩
  | 8 => ⟨S4x8x2048, .f32⟩
  | 9 => ⟨S_, .f32⟩
  | 10 => ⟨S4x8x2048, .f32⟩
  | 11 => ⟨S4x8x2048, .f32⟩
  | 12 => ⟨S4x8x2048x1, .f32⟩
  | 13 => ⟨S4x8x2048x2048, .f32⟩
  | 14 => ⟨S4x8x2048x2048, .f32⟩
  | 15 => ⟨S4x8x2048x2048, .f32⟩
  | 16 => ⟨S_, .f32⟩
  | 17 => ⟨S4x8x2048, .f32⟩
  | 18 => ⟨S4x8x2048x1, .f32⟩
  | 19 => ⟨S4x8x2048x2048, .f32⟩
  | 20 => ⟨S4x8x2048x2048, .f32⟩
  | 21 => ⟨S4x8x2048x128, .f32⟩
  | 22 => ⟨S4x2048x8x128, .f32⟩
  | 23 => ⟨S4x2048x1024, .f32⟩
  | 24 => ⟨S4x2048x1024, .bf16⟩
  | _ => ⟨S4x2048x10496, .f32⟩

abbrev hbmTy (i : Nat) : BufTy := match i / 128 with
  | 0 => hbmTy0_0 i
  | 1 => hbmTy0_1 i
  | _ => ⟨S4x2048x10496, .f32⟩

abbrev bufTy : (tb : Table) → Fin (tcTables nBuf tb) → BufTy
  | .hbm, ⟨i, _⟩ => hbmTy i
  | _, _ => ⟨S4x2048x10496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_values : Ref sig .tc := ⟨.hbm, 50, rfl⟩
abbrev main_indices : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_5 : Ref sig .tc := ⟨.hbm, 86, rfl⟩
abbrev main_v56 : Ref sig .tc := ⟨.hbm, 87, rfl⟩
abbrev main_v57 : Ref sig .tc := ⟨.hbm, 88, rfl⟩
abbrev main_c_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_10 : Ref sig .tc := ⟨.hbm, 105, rfl⟩
abbrev main_v70 : Ref sig .tc := ⟨.hbm, 106, rfl⟩
abbrev main_v71 : Ref sig .tc := ⟨.hbm, 107, rfl⟩
abbrev main_c_11 : Ref sig .tc := ⟨.hbm, 108, rfl⟩
abbrev main_v72 : Ref sig .tc := ⟨.hbm, 109, rfl⟩
abbrev main_v73 : Ref sig .tc := ⟨.hbm, 110, rfl⟩
abbrev main_c_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_13 : Ref sig .tc := ⟨.hbm, 115, rfl⟩
abbrev main_v77 : Ref sig .tc := ⟨.hbm, 116, rfl⟩
abbrev main_v78 : Ref sig .tc := ⟨.hbm, 117, rfl⟩
abbrev main_c_14 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_16 : Ref sig .tc := ⟨.hbm, 131, rfl⟩
abbrev main_call3_v0 : Ref sig .tc := ⟨.hbm, 132, rfl⟩
abbrev main_call3_v1 : Ref sig .tc := ⟨.hbm, 133, rfl⟩
abbrev main_v90 : Ref sig .tc := ⟨.hbm, 134, rfl⟩
abbrev main_cst_17 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_19 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]
-- ==== Proj.lean ====
abbrev S8192x2048 : Shape := ⟨2, ![8192, 2048]⟩
abbrev S2x2048x10496 : Shape := ⟨3, ![2, 2048, 10496]⟩
abbrev S8192x10496 : Shape := ⟨2, ![8192, 10496]⟩
abbrev S2048x2048 : Shape := ⟨2, ![2048, 2048]⟩
abbrev S1x2048x256 : Shape := ⟨3, ![1, 2048, 256]⟩
abbrev S2048x256 : Shape := ⟨2, ![2048, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x10496, .f32⟩
  | .hbm, ⟨2, _⟩ => ⟨S8192x2048, .bf16⟩
  | .hbm, ⟨3, _⟩ => ⟨S8192x10496, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x256, .f32⟩
  | .local _ .vmem, ⟨3, _⟩ => ⟨S1x2048x256, .f32⟩
  | .local _ .vmem, ⟨4, _⟩ => ⟨S2048x256, .f32⟩
  | .local _ .vmem, ⟨5, _⟩ => ⟨S2048x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 41], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x2048 : Shape := ⟨2, ![8192, 2048]⟩
abbrev S2x2048x10496 : Shape := ⟨3, ![2, 2048, 10496]⟩
abbrev S1x2048x10496 : Shape := ⟨3, ![1, 2048, 10496]⟩
abbrev S2048x10496 : Shape := ⟨2, ![2048, 10496]⟩
abbrev S8192x10496 : Shape := ⟨2, ![8192, 10496]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x10496, .f32⟩
  | .hbm, ⟨2, _⟩ => ⟨S1x2048x10496, .f32⟩
  | .hbm, ⟨3, _⟩ => ⟨S2048x10496, .f32⟩
  | .hbm, ⟨4, _⟩ => ⟨S8192x10496, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ffn.lean ====
abbrev S8192x2048 : Shape := ⟨2, ![8192, 2048]⟩
abbrev S2x2048x11264 : Shape := ⟨3, ![2, 2048, 11264]⟩
abbrev S4x2x5632 : Shape := ⟨3, ![4, 2, 5632]⟩
abbrev S3x5632 : Shape := ⟨2, ![3, 5632]⟩
abbrev S5632 : Shape := ⟨1, ![5632]⟩
abbrev S1x2048x11264 : Shape := ⟨3, ![1, 2048, 11264]⟩
abbrev S2048x11264 : Shape := ⟨2, ![2048, 11264]⟩
abbrev S2048x22x512 : Shape := ⟨3, ![2048, 22, 512]⟩
abbrev S22x2048x512 : Shape := ⟨3, ![22, 2048, 512]⟩
abbrev S1x5632 : Shape := ⟨2, ![1, 5632]⟩
abbrev S8192x5632 : Shape := ⟨2, ![8192, 5632]⟩
abbrev S8x8x5632 : Shape := ⟨3, ![8, 8, 5632]⟩
abbrev S1024x2048 : Shape := ⟨2, ![1024, 2048]⟩
abbrev S1x2048x512 : Shape := ⟨3, ![1, 2048, 512]⟩
abbrev S1x2x512 : Shape := ⟨3, ![1, 2, 512]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S11x8x512 : Shape := ⟨3, ![11, 8, 512]⟩
abbrev S2048x512 : Shape := ⟨2, ![2048, 512]⟩
abbrev S2x512 : Shape := ⟨2, ![2, 512]⟩
abbrev S8x512 : Shape := ⟨2, ![8, 512]⟩

abbrev nBuf : Space → Nat
  | .hbm => 15
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2x2048x11264, .f32⟩
  | .hbm, ⟨2, _⟩ => ⟨S4x2x5632, .f32⟩
  | .hbm, ⟨3, _⟩ => ⟨S3x5632, .f32⟩
  | .hbm, ⟨4, _⟩ => ⟨S5632, .f32⟩
  | .hbm, ⟨5, _⟩ => ⟨S1x2048x11264, .f32⟩
  | .hbm, ⟨6, _⟩ => ⟨S2048x11264, .f32⟩
  | .hbm, ⟨7, _⟩ => ⟨S2048x11264, .bf16⟩
  | .hbm, ⟨8, _⟩ => ⟨S2048x22x512, .bf16⟩
  | .hbm, ⟨9, _⟩ => ⟨S22x2048x512, .bf16⟩
  | .hbm, ⟨10, _⟩ => ⟨S8192x2048, .bf16⟩
  | .hbm, ⟨11, _⟩ => ⟨S1x5632, .f32⟩
  | .hbm, ⟨12, _⟩ => ⟨S8192x5632, .bf16⟩
  | .hbm, ⟨13, _⟩ => ⟨S8x8x5632, .f32⟩
  | .hbm, ⟨14, _⟩ => ⟨S4x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2x512, .f32⟩
  | .local _ .vmem, ⟨7, _⟩ => ⟨S1x2x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1x8x512, .f32⟩
  | .local _ .vmem, ⟨15, _⟩ => ⟨S1x8x512, .f32⟩
  | .local _ .vmem, ⟨16, _⟩ => ⟨S11x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def k0_off1 (i : grid0.Coords) : Fin 3 → Nat :=
  let arg1 : BitVec 32 := BitVec.ofNat 32 (i 1).val
  let v12 : Index := Scalar.indexCast arg1
  let c6 : Index := 6#32
  let c0_11 : Index := 0#32
  ![v12.toNat, 6, 0]
def k0_off2 (i : grid0.Coords) : Fin 3 → Nat :=
  let arg1 : BitVec 32 := BitVec.ofNat 32 (i 1).val
  let v70 : Index := Scalar.indexCast arg1
  let c0_28 : Index := 0#32
  let c0_29 : Index := 0#32
  ![v70.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8192x2048 : Shape := ⟨2, ![8192, 2048]⟩
abbrev S2x2048x11264 : Shape := ⟨3, ![2, 2048, 11264]⟩
abbrev S4x2x5632 : Shape := ⟨3, ![4, 2, 5632]⟩
abbrev S3x5632 : Shape := ⟨2, ![3, 5632]⟩
abbrev S5632 : Shape := ⟨1, ![5632]⟩
abbrev S1x2048x11264 : Shape := ⟨3, ![1, 2048, 11264]⟩
abbrev S2048x11264 : Shape := ⟨2, ![2048, 11264]⟩
abbrev S8192x11264 : Shape := ⟨2, ![8192, 11264]⟩
abbrev S4x2048x11264 : Shape := ⟨3, ![4, 2048, 11264]⟩
abbrev S4x2048x5632 : Shape := ⟨3, ![4, 2048, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S_ : Shape := ⟨0, ![]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x11264, .f32⟩
  | .hbm, ⟨2, _⟩ => ⟨S4x2x5632, .f32⟩
  | .hbm, ⟨3, _⟩ => ⟨S3x5632, .f32⟩
  | .hbm, ⟨4, _⟩ => ⟨S5632, .f32⟩
  | .hbm, ⟨5, _⟩ => ⟨S1x2048x11264, .f32⟩
  | .hbm, ⟨6, _⟩ => ⟨S2048x11264, .f32⟩
  | .hbm, ⟨7, _⟩ => ⟨S8192x11264, .f32⟩
  | .hbm, ⟨8, _⟩ => ⟨S4x2048x11264, .f32⟩
  | .hbm, ⟨9, _⟩ => ⟨S4x2048x5632, .f32⟩
  | .hbm, ⟨10, _⟩ => ⟨S4x2048x5632, .f32⟩
  | .hbm, ⟨11, _⟩ => ⟨S4x2050x5632, .f32⟩
  | .hbm, ⟨12, _⟩ => ⟨S1x5632, .f32⟩
  | .hbm, ⟨13, _⟩ => ⟨S5632, .f32⟩
  | .hbm, ⟨14, _⟩ => ⟨S4x2048x5632, .f32⟩
  | .hbm, ⟨15, _⟩ => ⟨S1x1x5632, .f32⟩
  | .hbm, ⟨16, _⟩ => ⟨S4x2048x5632, .f32⟩
  | .hbm, ⟨17, _⟩ => ⟨S4x2048x5632, .f32⟩
  | .hbm, ⟨18, _⟩ => ⟨S_, .f32⟩
  | .hbm, ⟨19, _⟩ => ⟨S4x2048x5632, .f32⟩
  | .hbm, ⟨20, _⟩ => ⟨S4x2048x5632, .f32⟩
  | .hbm, ⟨21, _⟩ => ⟨S1x5632, .f32⟩
  | .hbm, ⟨22, _⟩ => ⟨S5632, .f32⟩
  | .hbm, ⟨23, _⟩ => ⟨S4x2048x5632, .f32⟩
  | .hbm, ⟨24, _⟩ => ⟨S1x1x5632, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S1x5632, .f32⟩
  | .hbm, ⟨29, _⟩ => ⟨S5632, .f32⟩
  | .hbm, ⟨30, _⟩ => ⟨S4x2048x5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S1x1x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S_, .f32⟩
  | .hbm, ⟨41, _⟩ => ⟨S4x2048x5632, .f32⟩
  | .hbm, ⟨42, _⟩ => ⟨S4x2048x5632, .f32⟩
  | .hbm, ⟨43, _⟩ => ⟨S4x2048x5632, .f32⟩
  | .hbm, ⟨44, _⟩ => ⟨S_, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S_, .f32⟩
  | .hbm, ⟨49, _⟩ => ⟨S4x2048x5632, .f32⟩
  | .hbm, ⟨50, _⟩ => ⟨S4x2048x5632, .f32⟩
  | .hbm, ⟨51, _⟩ => ⟨S_, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S8192x5632, .f32⟩
  | .hbm, ⟨57, _⟩ => ⟨S8192x5632, .bf16⟩
  | .hbm, ⟨58, _⟩ => ⟨S4x2x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S512x2816 : Shape := ⟨2, ![512, 2816]⟩
abbrev S2816x2048 : Shape := ⟨2, ![2816, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x5632, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Merge.lean ====
abbrev S8192x1024 : Shape := ⟨2, ![8192, 1024]⟩
abbrev S2x1024x2048 : Shape := ⟨3, ![2, 1024, 2048]⟩
abbrev S8192x10496 : Shape := ⟨2, ![8192, 10496]⟩
abbrev S8192x2048 : Shape := ⟨2, ![8192, 2048]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x2048, .f32⟩
  | .hbm, ⟨3, _⟩ => ⟨S2x1024x2048, .f32⟩
  | .hbm, ⟨4, _⟩ => ⟨S8192x10496, .f32⟩
  | .hbm, ⟨5, _⟩ => ⟨S8192x1024, .bf16⟩
  | .hbm, ⟨6, _⟩ => ⟨S8192x1024, .bf16⟩
  | .hbm, ⟨7, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x1024 : Shape := ⟨2, ![8192, 1024]⟩
abbrev S2x1024x2048 : Shape := ⟨3, ![2, 1024, 2048]⟩
abbrev S8192x10496 : Shape := ⟨2, ![8192, 10496]⟩
abbrev S8192x2048 : Shape := ⟨2, ![8192, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x2048, .f32⟩
  | .hbm, ⟨3, _⟩ => ⟨S2x1024x2048, .f32⟩
  | .hbm, ⟨4, _⟩ => ⟨S8192x10496, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S1x1024x2048, .f32⟩
  | .hbm, ⟨24, _⟩ => ⟨S1024x2048, .f32⟩
  | .hbm, ⟨25, _⟩ => ⟨S8192x2048, .f32⟩
  | .hbm, ⟨26, _⟩ => ⟨S8192x2048, .f32⟩
  | .hbm, ⟨27, _⟩ => ⟨S1x1024x2048, .f32⟩
  | .hbm, ⟨28, _⟩ => ⟨S1024x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Last.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S512x2816 : Shape := ⟨2, ![512, 2816]⟩
abbrev S2816x2048 : Shape := ⟨2, ![2816, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S8192x5632, .bf16⟩
  | .hbm, ⟨5, _⟩ => ⟨S5632x2048, .bf16⟩
  | .hbm, ⟨6, _⟩ => ⟨S1x2048, .f32⟩
  | .hbm, ⟨7, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LastRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== LastSample.lean ====
abbrev S32x5632 : Shape := ⟨2, ![32, 5632]⟩
abbrev S5632x2048 : Shape := ⟨2, ![5632, 2048]⟩
abbrev S32x2048 : Shape := ⟨2, ![32, 2048]⟩
abbrev S2048 : Shape := ⟨1, ![2048]⟩
abbrev S1x2048 : Shape := ⟨2, ![1, 2048]⟩
abbrev S32x2816 : Shape := ⟨2, ![32, 2816]⟩
abbrev S2816x2048 : Shape := ⟨2, ![2816, 2048]⟩
abbrev S32 : Shape := ⟨1, ![32]⟩
abbrev S32x1 : Shape := ⟨2, ![32, 1]⟩

abbrev nBuf : Space → Nat
  | .hbm => 8
  | .vmem => 8
  | .smem => 0
  | _ => 0

abbrev bufTy : (tb : Table) → Fin (tcTables nBuf tb) → BufTy
  | .hbm, ⟨0, _⟩ => ⟨S32x5632, .f32⟩
  | .hbm, ⟨1, _⟩ => ⟨S5632x2048, .f32⟩
  | .hbm, ⟨2, _⟩ => ⟨S32x2048, .f32⟩
  | .hbm, ⟨3, _⟩ => ⟨S2048, .f32⟩
  | .hbm, ⟨4, _⟩ => ⟨S32x5632, .bf16⟩
  | .hbm, ⟨5, _⟩ => ⟨S5632x2048, .bf16⟩
  | .hbm, ⟨6, _⟩ => ⟨S1x2048, .f32⟩
  | .hbm, ⟨7, _⟩ => ⟨S32x2048, .f32⟩
  | .local _ .vmem, ⟨0, _⟩ => ⟨S32x2816, .bf16⟩
  | .local _ .vmem, ⟨1, _⟩ => ⟨S32x2816, .bf16⟩
  | .local _ .vmem, ⟨2, _⟩ => ⟨S2816x2048, .bf16⟩
  | .local _ .vmem, ⟨3, _⟩ => ⟨S2816x2048, .bf16⟩
  | .local _ .vmem, ⟨4, _⟩ => ⟨S32x2048, .f32⟩
  | .local _ .vmem, ⟨5, _⟩ => ⟨S1x2048, .f32⟩
  | .local _ .vmem, ⟨6, _⟩ => ⟨S32x2048, .f32⟩
  | .local _ .vmem, ⟨7, _⟩ => ⟨S32x2048, .f32⟩
  | _, _ => ⟨S32x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== LastSampleRefIdeal.lean ====
abbrev S32x5632 : Shape := ⟨2, ![32, 5632]⟩
abbrev S5632x2048 : Shape := ⟨2, ![5632, 2048]⟩
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32x5632, .f32⟩
  | .hbm, ⟨1, _⟩ => ⟨S5632x2048, .f32⟩
  | .hbm, ⟨2, _⟩ => ⟨S32x2048, .f32⟩
  | .hbm, ⟨3, _⟩ => ⟨S2048, .f32⟩
  | .hbm, ⟨4, _⟩ => ⟨S32x2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S32x2048, .f32⟩
  | _, _ => ⟨S32x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ProjSample.lean ====
abbrev S32x2048 : Shape := ⟨2, ![32, 2048]⟩
abbrev S2x2048x10496 : Shape := ⟨3, ![2, 2048, 10496]⟩
abbrev S32x10496 : Shape := ⟨2, ![32, 10496]⟩
abbrev S1x2048x256 : Shape := ⟨3, ![1, 2048, 256]⟩
abbrev S32x256 : Shape := ⟨2, ![32, 256]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S32x2048, .f32⟩
  | .hbm, ⟨1, _⟩ => ⟨S2x2048x10496, .f32⟩
  | .hbm, ⟨2, _⟩ => ⟨S32x2048, .bf16⟩
  | .hbm, ⟨3, _⟩ => ⟨S32x10496, .f32⟩
  | .local _ .vmem, ⟨0, _⟩ => ⟨S32x2048, .bf16⟩
  | .local _ .vmem, ⟨1, _⟩ => ⟨S1x2048x256, .f32⟩
  | .local _ .vmem, ⟨2, _⟩ => ⟨S1x2048x256, .f32⟩
  | .local _ .vmem, ⟨3, _⟩ => ⟨S32x256, .f32⟩
  | .local _ .vmem, ⟨4, _⟩ => ⟨S32x256, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 41], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSampleRefIdeal.lean ====
abbrev S32x2048 : Shape := ⟨2, ![32, 2048]⟩
abbrev S2x2048x10496 : Shape := ⟨3, ![2, 2048, 10496]⟩
abbrev S1x2048x10496 : Shape := ⟨3, ![1, 2048, 10496]⟩
abbrev S2048x10496 : Shape := ⟨2, ![2048, 10496]⟩
abbrev S32x10496 : Shape := ⟨2, ![32, 10496]⟩

abbrev nBuf : Space → Nat
  | .hbm => 5
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2x2048x10496, .f32⟩
  | .hbm, ⟨2, _⟩ => ⟨S1x2048x10496, .f32⟩
  | .hbm, ⟨3, _⟩ => ⟨S2048x10496, .f32⟩
  | .hbm, ⟨4, _⟩ => ⟨S32x10496, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpSample.lean ====
abbrev S32x2048 : Shape := ⟨2, ![32, 2048]⟩
abbrev S2x2048x11264 : Shape := ⟨3, ![2, 2048, 11264]⟩
abbrev S32x11264 : Shape := ⟨2, ![32, 11264]⟩
abbrev S1x2048x512 : Shape := ⟨3, ![1, 2048, 512]⟩
abbrev S32x512 : Shape := ⟨2, ![32, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S32x2048, .f32⟩
  | .hbm, ⟨1, _⟩ => ⟨S2x2048x11264, .f32⟩
  | .hbm, ⟨2, _⟩ => ⟨S32x2048, .bf16⟩
  | .hbm, ⟨3, _⟩ => ⟨S32x11264, .f32⟩
  | .local _ .vmem, ⟨0, _⟩ => ⟨S32x2048, .bf16⟩
  | .local _ .vmem, ⟨1, _⟩ => ⟨S1x2048x512, .f32⟩
  | .local _ .vmem, ⟨2, _⟩ => ⟨S1x2048x512, .f32⟩
  | .local _ .vmem, ⟨3, _⟩ => ⟨S32x512, .f32⟩
  | .local _ .vmem, ⟨4, _⟩ => ⟨S32x512, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpSampleRefIdeal.lean ====
abbrev S32x2048 : Shape := ⟨2, ![32, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S32x11264 : Shape := ⟨2, ![32, 11264]⟩

abbrev nBuf : Space → Nat
  | .hbm => 5
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2x2048x11264, .f32⟩
  | .hbm, ⟨2, _⟩ => ⟨S1x2048x11264, .f32⟩
  | .hbm, ⟨3, _⟩ => ⟨S2048x11264, .f32⟩
  | .hbm, ⟨4, _⟩ => ⟨S32x11264, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.ProjValue.lean ====
/-
  The `w_in` projection: what the tiled matrix product leaves in its result array, and what the plain
  `jnp.dot` leaves in its own, are the same function of the two arguments.

  Grid point (a, b) multiplies rows 2048·a … of `h` by columns 256·b … of the first layer's weights, over the
  whole contracted axis at once, so entry (r, c) of the result is `∑ k, h[r, k] · w[0, k, c]`: at `Ideal` the
  rounding of the weights to bf16 is the identity. The reference's entry is the same sum.
-/
module

public import proofs.«01_k».proof.Defs
public import proofs.«01_k».proof.Proof.Gen.ProjIdeal.Value
public import proofs.«01_k».proof.Proof.Gen.ProjRefIdeal
public import proofs.«01_k».proof.Proof.Gen.ProjRefIdeal.Run
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ProjIdeal.Product

open Cert.ProjIdeal Cert.ProjIdeal.Gen

/-- The product of the rows `x` with the first member of the stack `w`. -/
def product (x : Vec Ideal S8192x2048 .f32) (w : Vec Ideal S2x2048x10496 .f32) : Vec Ideal S8192x10496 .f32 :=
  fun i => ∑ k : Fin 2048, x (ix2 (i 0) k) * w (ix3 0 k (i 1))

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Which blocks grid point `t` works on. -/
theorem index_facts : ∀ t : Fin grid0.N,
    win0_0.index t 0 = t.val / 41 ∧ win0_0.index t 1 = 0
      ∧ win0_1.index t 0 = 0 ∧ win0_1.index t 1 = 0 ∧ win0_1.index t 2 = t.val % 41
      ∧ win0_2.index t 0 = t.val / 41 ∧ win0_2.index t 1 = t.val % 41 := by
  decide +kernel

/-- Every grid point writes its block back. -/
theorem flush_all : ∀ t : Fin grid0.N, win0_2.flush t = true := by
  decide +kernel

/-- The rows the region finds are the argument's: the rounding to bf16 is the identity. -/
theorem V_rows (c : Dev nD) (i : S8192x2048.Idx) : V m c main_v0 i = m ((c : Thread nD τ).loc main_arg0) i := by
  unfold V
  simp only [hostOps0]
  after_reads_at

/-- What point `t` writes back is block `t` of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  obtain ⟨e00, e01, e10, e11, e12, e20, e21⟩ := index_facts t
  rw [Value.flushed2]
  unfold out0_2
  rw [View.canon_unit_zero hz2]
  simp only [View.ld_unit_zero (S := S2048x2048) hz2, View.ld_unit_zero (S := S1x2048x256) hz3]
  funext j
  show k0_pay1 (iblk m c 0 t) (iblk m c 1 t) j = product _ _ _
  idx_vars j
  pointwise [k0_pay1, product]
  refine Finset.sum_congr rfl fun k _ => ?_
  congr 1
  · unfold iblk
    rw [View.read_apply]
    show V m c main_v0 _ = _
    rw [V_rows]
    congr 1
    funext a
    apply Fin.ext
    match a with
    | ⟨0, _⟩ => show win0_0.index t 0 * 2048 + 1 * j0.val = win0_2.index t 0 * 2048 + 1 * j0.val; rw [e00, e20]
    | ⟨1, _⟩ => show win0_0.index t 1 * 2048 + 1 * k.val = k.val; rw [e01]; omega
  · unfold iblk
    rw [View.read_apply]
    show m _ _ = m _ _
    congr 1
    funext a
    apply Fin.ext
    match a with
    | ⟨0, _⟩ => show win0_1.index t 0 * 1 + 1 * 0 = 0; rw [e10]
    | ⟨1, _⟩ => show win0_1.index t 1 * 2048 + 1 * k.val = k.val; rw [e11]; omega
    | ⟨2, _⟩ => show win0_1.index t 2 * 256 + 1 * j1.val = win0_2.index t 1 * 256 + 1 * j1.val; rw [e12, e21]

/-- An index lies in block `t` when its coordinates do. -/
theorem mem_blk (t : Fin cfg0.N) (i : S8192x10496.Idx) :
    i ∈ ((cfg0.win 2).blk t).view.set ↔ ∀ a, win0_2.index t a * win0_2.size a ≤ (i a : Nat)
      ∧ (i a : Nat) < win0_2.index t a * win0_2.size a + win0_2.xsize (grid0.coords t) a := by
  show i ∈ ((View.whole main_v1).slice (win0_2.rect t)).set ↔ _
  rw [View.set_slice_whole, Rect.mem_set_unit]

/-- The blocks cover the result. -/
theorem cover (i : S8192x10496.Idx) : ∃ t : Fin cfg0.N, (cfg0.win 2).flush t = true ∧ i ∈ ((cfg0.win 2).blk t).view.set := by
  have h0 : (i 0 : Nat) < 8192 := (i 0).isLt
  have h1 : (i 1 : Nat) < 10496 := (i 1).isLt
  let t : Fin grid0.N := ⟨(i 0 : Nat) / 2048 * 41 + (i 1 : Nat) / 256, by
    show _ < 164
    omega⟩
  obtain ⟨-, -, -, -, -, e20, e21⟩ := index_facts t
  refine ⟨t, flush_all t, (mem_blk t i).2 fun a => ?_⟩
  have ht : t.val = (i 0 : Nat) / 2048 * 41 + (i 1 : Nat) / 256 := rfl
  match a with
  | ⟨0, _⟩ =>
    show win0_2.index t 0 * 2048 ≤ (i 0 : Nat) ∧ (i 0 : Nat) < win0_2.index t 0 * 2048 + 2048
    rw [e20]; omega
  | ⟨1, _⟩ =>
    show win0_2.index t 1 * 256 ≤ (i 1 : Nat) ∧ (i 1 : Nat) < win0_2.index t 1 * 256 + 256
    rw [e21]; omega

/-- The result array ends as the product. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

/-- The kernel's run: the product in the result, the arguments kept. -/
theorem run : θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ProjIdeal.Product

namespace Cert.ProjRefIdeal.Product

open Cert.ProjRefIdeal Cert.ProjRefIdeal.Gen

variable (m : (ℓ : Loc nD τ sig) → Buf (Elt Ideal) ℓ) (ρ : Dev nD → PrngReg)

/-- The reference's run: the same product. -/
theorem run : θ_run defs (onTc (τ := τ) (main (F := Ideal))) ⟨m, fun _ => 0, ρ⟩ fun r => ∀ c : Dev nD,
      r.2.mem ((c : Thread nD τ).loc main_v2)
        = Cert.ProjIdeal.Product.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  funext i
  idx_vars i
  pointwise [Cert.ProjIdeal.Product.product]

end Cert.ProjRefIdeal.Product

namespace Cert.Proof

/-- Kernel and reference agree on equal arguments. -/
theorem algebraic_Proj : Cert.algebraic_ProjIdeal_ProjRefIdeal :=
  fun m ρ m' ρ' _ hag => ⟨fun c => Cert.ProjIdeal.Product.product (m (c.tc.loc Cert.ProjIdeal.main_arg0)) (m (c.tc.loc Cert.ProjIdeal.main_arg1)), Cert.ProjIdeal.Product.run m ρ,
    (θ_run _ _ _).mono (fun _ h c => ⟨(h c).1.trans (by rw [(hag c).1, (hag c).2]), (h c).2⟩)
      (Cert.ProjRefIdeal.Product.run m' ρ')⟩

end Cert.Proof

end
-- ==== Proof.FfnRun.lean ====
/-
  One grid point of the gated feed-forward kernel: from the blocks of its inputs and any contents of the carried
  tails, the body leaves the activation block, the tail block, and the carried tails with one slab replaced.
-/
module

public import proofs.«01_k».proof.Proof.Gen.FfnIdeal.Frame
public import proofs.«01_k».proof.Proof.Gen.FfnIdeal.Skeleton
public import Idealize.ShloMosaic.Lib.WritesUnit
public import Idealize.ShloMosaic.Lib.Pipeline.Value
public import Idealize.ShloMosaic.Lib.Pointwise
public import Idealize.ShloMosaic.Lib.Tactic
public import Idealize.ShloMosaic.Lib.WordCmp

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Every index lies in the rectangle of the whole shape. -/
theorem mem_whole {S : Shape} {off : Fin S.rank → Nat} (h : off = fun _ => 0) (inb : ∀ a, off a + S.size a ≤ S.size a)
    (y : S.Idx) : y ∈ (Rect.unit off S.size inb).set := by
  subst h
  exact Rect.mem_set_unit.mpr fun a => ⟨Nat.zero_le _, by simpa using (y a).isLt⟩

/-- Row `k` of the convolution weights' block. -/
abbrev tap0 (x4 : Vec F S3x512 .f32) : Vec F S1x512 .f32 := View.ld x4 (Rect.unit (s := S3x512) ![0, 0] S1x512.size inb_S3x512_S1x512_0_0)
abbrev tap1 (x4 : Vec F S3x512 .f32) : Vec F S1x512 .f32 := View.ld x4 (Rect.unit (s := S3x512) ![1, 0] S1x512.size inb_S3x512_S1x512_1_0)
abbrev tap2 (x4 : Vec F S3x512 .f32) : Vec F S1x512 .f32 := View.ld x4 (Rect.unit (s := S3x512) ![2, 0] S1x512.size inb_S3x512_S1x512_2_0)

/-- The activation block, from the input blocks and the two carried rows. -/
def act (i : grid0.Coords) (x0 : Vec F S1024x2048 .bf16) (x1 x2 : Vec F S1x2048x512 .bf16) (x3 : Vec F S1x2x512 .f32)
    (x4 : Vec F S3x512 .f32) (x5 : Vec F S1x512 .f32) (p : Vec F S1x2x512 .f32) : Vec F S1024x512 .bf16 :=
  k0_pay8 (k0_pay3 x0 x1) (k0_pay4 x0 x2) (k0_pay5 i x3 p) (k0_pay6 x0 x1 x5 (tap2 x4)) (tap0 x4)
    (iota .tc S1024x512 32 [0] iota_S1024x512_d0_w32) (k0_pay7 i x0 x1 x3 p) 1#32 (tap1 x4)

/-- The last eight rows of the up product. -/
def tail (x0 : Vec F S1024x2048 .bf16) (x1 : Vec F S1x2048x512 .bf16) : Vec F S1x8x512 .f32 :=
  k0_pay10 (k0_pay3 x0 x1)

/-- The two carried rows the body reads. -/
abbrev carried (i : grid0.Coords) (xs : Vec F S11x8x512 .f32) : Vec F S1x2x512 .f32 :=
  View.ld xs (Rect.unit (s := S11x8x512) (k0_off1 i) S1x2x512.size (k0_off1_inb i))

/-- The tails with slab `i 1` replaced. -/
def put (i : grid0.Coords) (xs : Vec F S11x8x512 .f32) (w : Vec F S1x8x512 .f32) : Vec F S11x8x512 .f32 := fun y =>
  if (y 0).val = (i 1).val then w (ix3 0 (y 1) (y 2)) else xs y

theorem off2 (i : grid0.Coords) : k0_off2 i = ![(i 1).val, 0, 0] := by
  have h : (i 1).val < 11 := (i 1).isLt
  unfold k0_off2
  funext a
  fin_cases a
  · show (Scalar.indexCast (BitVec.ofNat 32 (i 1).val)).toNat = (i 1).val
    simp only [Scalar.indexCast, BitVec.toNat_ofNat]
    omega
  · rfl
  · rfl
theorem off1 (i : grid0.Coords) : k0_off1 i = ![(i 1).val, 6, 0] := by
  have h : (i 1).val < 11 := (i 1).isLt
  unfold k0_off1
  funext a
  fin_cases a
  · show (Scalar.indexCast (BitVec.ofNat 32 (i 1).val)).toNat = (i 1).val
    simp only [Scalar.indexCast, BitVec.toNat_ofNat]
    omega
  · rfl
  · rfl

/-- What the store of a slab leaves. -/
theorem read_put (v : View sig .tc .vmem S11x8x512 .f32) (f : v.ty.Contents (Elt F)) (i : grid0.Coords)
    (w : Vec F S1x8x512 .f32) :
    v.read (Elt F) (v.writes (Elt F) f [⟨Rect.unit (s := S11x8x512) (k0_off2 i) S1x8x512.size (k0_off2_inb i), w⟩])
      = put i (v.read (Elt F) f) w := by
  funext y
  unfold put
  by_cases h : (y 0).val = (i 1).val
  · rw [if_pos h]
    refine View.read_writes_cons_unit_of_mem v f (k0_off2_inb i) w [] y (ix3 0 (y 1) (y 2)) (off2 i) fun a => ?_
    match a with
    | ⟨0, _⟩ => show (y 0).val = (i 1).val + 0; omega
    | ⟨1, _⟩ => show (y 1).val = 0 + (y 1).val; omega
    | ⟨2, _⟩ => show (y 2).val = 0 + (y 2).val; omega
  · rw [if_neg h]
    refine (View.read_writes_cons_unit_of_not_mem v f (k0_off2_inb i) w [] y (off2 i) 0 ?_).trans rfl
    show (y 0).val < (i 1).val ∨ (i 1).val + 1 ≤ (y 0).val
    omega

set_option maxHeartbeats 2000000 in
/-- The body's triple. -/
theorem run (c : Dev nD) (i : grid0.Coords) (arg2 : Memref sig .tc .vmem S1024x2048 .bf16) (harg2 : arg2.IsWhole)
    (arg3 : Memref sig .tc .vmem S1x2048x512 .bf16) (harg3 : arg3.IsWhole) (arg4 : Memref sig .tc .vmem S1x2048x512 .bf16) (harg4 : arg4.IsWhole)
    (arg5 : Memref sig .tc .vmem S1x2x512 .f32) (harg5 : arg5.IsWhole) (arg6 : Memref sig .tc .vmem S3x512 .f32) (harg6 : arg6.IsWhole)
    (arg7 : Memref sig .tc .vmem S1x512 .f32) (harg7 : arg7.IsWhole) (arg8 : Memref sig .tc .vmem S1024x512 .bf16) (harg8 : arg8.IsWhole)
    (arg9 : Memref sig .tc .vmem S1x8x512 .f32) (harg9 : arg9.IsWhole) (arg10 : Memref sig .tc .vmem S11x8x512 .f32) (harg10 : arg10.IsWhole)
    (x0 : Vec F S1024x2048 .bf16) (x1 x2 : Vec F S1x2048x512 .bf16) (x3 : Vec F S1x2x512 .f32)
    (x4 : Vec F S3x512 .f32) (x5 : Vec F S1x512 .f32) (xs : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (act i x0 x1 x2 x3 x4 x5 (carried i xs))
            ∗ owns (c : Thread nD τ) arg9 fullShare (tail x0 x1)
            ∗ owns (c : Thread nD τ) arg10 fullShare (put i xs (tail x0 x1))) -∗ K ⟨⟩))
      ⊢ wp frame (wpE (defs₀ (F := F)) Variants.none c none) E
          (cc0_ffn_up_gate i arg2 harg2 arg3 harg3 arg4 harg4 arg5 harg5 arg6 harg6 arg7 harg7 arg8 harg8 arg9 harg9 arg10 harg10) K := by
  simp only [cc0_ffn_up_gate_eq_skeleton, k0_part1_eq_skeleton, k0_part2_eq_skeleton]
  unfold cc0_ffn_up_gate_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_eq_canon _ _ _ (fun y => ⟨_, List.mem_singleton_self _, mem_whole hz2 inb_S1024x512_S1024x512_0_0 y⟩)]
    rw [View.canon_unit_zero (S := _) hz2]
    sl_unfold_words
    simp only [View.readAt_eq_ld, harg2.read_unread, harg3.read_unread, harg4.read_unread, harg5.read_unread, harg6.read_unread,
      harg7.read_unread, harg10.read_unread, View.ld_unit_zero (S := S1024x2048) hz2,
      View.ld_unit_zero (S := S1x2048x512) hz3, View.ld_unit_zero (S := S1x2x512) hz3, View.ld_unit_zero (S := S1x512) hz2]
    rfl
  isplitl [H7]
  · iexists _; isplitr
    swap; · iexact H7
    ipureintro
    rw [View.read_writes_eq_canon _ _ _ (fun y => ⟨_, List.mem_singleton_self _, mem_whole hz3 inb_S1x8x512_S1x8x512_0_0_0 y⟩)]
    rw [View.canon_unit_zero (S := _) hz3]
    sl_unfold_words
    simp only [View.readAt_eq_ld, harg2.read_unread, harg3.read_unread, harg4.read_unread, harg5.read_unread, harg6.read_unread,
      harg7.read_unread, harg10.read_unread, View.ld_unit_zero (S := S1024x2048) hz2,
      View.ld_unit_zero (S := S1x2048x512) hz3, View.ld_unit_zero (S := S1x2x512) hz3, View.ld_unit_zero (S := S1x512) hz2]
    rfl
  iexists _; isplitr
  swap; · iexact HS0
  ipureintro
  rw [read_put, harg10.read_unread]
  sl_unfold_words
  simp only [View.readAt_eq_ld, harg2.read_unread, harg3.read_unread, harg4.read_unread, harg5.read_unread, harg6.read_unread,
    harg7.read_unread, harg10.read_unread, View.ld_unit_zero (S := S1024x2048) hz2,
      View.ld_unit_zero (S := S1x2048x512) hz3, View.ld_unit_zero (S := S1x2x512) hz3, View.ld_unit_zero (S := S1x512) hz2]
  rfl

end Cert.FfnIdeal.Hand

end
-- ==== Proof.FfnFrame.lean ====
/-
  The gated feed-forward kernel's whole run: the tails carried from tile to tile are those of the tile before, so each
  point leaves blocks that depend on the arrays alone; and the frame that follows from it.
-/
module

public import proofs.«01_k».proof.Proof.FfnRun
public import proofs.«01_k».proof.Proof.Gen.FfnIdeal.Points
public import Idealize.ShloMosaic.Lib.Pipeline.FrameSuffix
public import Idealize.ShloMosaic.Lib.Claim
public import Idealize.ShloMosaic.Lib.WritesUnit
public import Idealize.ShloMosaic.Lib.Pipeline.Value
public import Idealize.ShloMosaic.Lib.Pointwise
public import Idealize.ShloMosaic.Lib.Tactic
public import Idealize.ShloMosaic.Lib.WordCmp

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem N88 : cfg0.N = 88 := N_0
theorem coord0 (t : Fin cfg0.N) : (grid0.coords t 0).val = t.val / 11 := by
  have h : (grid0.coords t 0).val = t.val / 11 % 8 := Pipeline.Grid.coords_val t 0 (by decide) rfl
  have ht : t.val < 88 := lt_of_lt_of_eq t.isLt N88
  omega
theorem coord1 (t : Fin cfg0.N) : (grid0.coords t 1).val = t.val % 11 := by
  have h : (grid0.coords t 1).val = t.val / 1 % 11 := Pipeline.Grid.coords_val t 1 (by decide) rfl
  rwa [Nat.div_one] at h

/-! ## Which carried rows the body uses -/

theorem starts_word : ∀ k : Fin 8, k.val % 2 = 0 → Scalar.cmpi .eq (Scalar.remsi (BitVec.ofNat 32 k.val) 2#32) 0#32 = 1#1 := by decide
theorem goes_word : ∀ k : Fin 8, k.val % 2 = 1 → Scalar.cmpi .eq (Scalar.remsi (BitVec.ofNat 32 k.val) 2#32) 0#32 = 0#1 := by decide

/-- At the first tile of a sequence the rows before it come from the state handed in. -/
theorem pay5_starts (i : grid0.Coords) (h : (i 0).val % 2 = 0) (x3 p : Vec F S1x2x512 .f32) :
    k0_pay5 i x3 p = shapeCast S2x512 x3 shapeCasts_S1x2x512_S2x512 := by
  unfold k0_pay5
  dsimp only
  rw [starts_word (i 0) h]
  rfl
/-- At a later tile they are the last rows of the tile before. -/
theorem pay5_goes (i : grid0.Coords) (h : (i 0).val % 2 = 1) (x3 p : Vec F S1x2x512 .f32) :
    k0_pay5 i x3 p = shapeCast S2x512 p shapeCasts_S1x2x512_S2x512 := by
  unfold k0_pay5
  dsimp only
  rw [goes_word (i 0) h]
  rfl

/-- So at the first tile the carried contents do not matter. -/
theorem act_starts (i : grid0.Coords) (h : (i 0).val % 2 = 0) (x0 : Vec F S1024x2048 .bf16) (x1 x2 : Vec F S1x2048x512 .bf16)
    (x3 : Vec F S1x2x512 .f32) (x4 : Vec F S3x512 .f32) (x5 : Vec F S1x512 .f32) (p p' : Vec F S1x2x512 .f32) :
    act i x0 x1 x2 x3 x4 x5 p = act i x0 x1 x2 x3 x4 x5 p' := by
  unfold act k0_pay7
  rw [pay5_starts i h, pay5_starts i h]

/-! ## What the carried tails hold -/

/-- The tail block of point `s`. -/
abbrev tailAt (c : Dev nD) (s : Fin cfg0.N) : Vec F S1x8x512 .f32 := tail (iblk m c 0 s) (iblk m c 1 s)

/-- Before point `n` the slab of each of the last eleven points holds that point's tail. -/
def Inv (c : Dev nD) (n : ℕ) (d : Vec F S11x8x512 .f32) : Prop :=
  ∀ s : Fin cfg0.N, s.val < n → n ≤ s.val + 11 → ∀ y : S11x8x512.Idx, (y 0).val = s.val % 11 → d y = tailAt m c s (ix3 0 (y 1) (y 2))

theorem inv_zero (c : Dev nD) (d : Vec F S11x8x512 .f32) : Inv m c 0 d := fun s h => absurd h (Nat.not_lt_zero _)

theorem inv_succ (c : Dev nD) (t : Fin cfg0.N) (d : Vec F S11x8x512 .f32) (h : Inv m c t.val d) :
    Inv m c (t.val + 1) (put (grid0.coords t) d (tailAt m c t)) := by
  intro s h0 h1 y hy
  unfold put
  rw [coord1]
  by_cases e : s = t
  · subst e
    rw [if_pos hy]
  · have hne : s.val ≠ t.val := fun h => e (Fin.ext h)
    rw [if_neg (by omega)]
    exact h s (by omega) (by omega) y hy

/-- The rows before the tile, where they are carried: the last two rows of the tail of the tile before. -/
def before (c : Dev nD) (t : Fin cfg0.N) : Vec F S1x2x512 .f32 := fun y =>
  if h : 11 ≤ t.val then
    tailAt m c ⟨t.val - 11, lt_of_le_of_lt (Nat.sub_le _ _) t.isLt⟩ (ix3 0 ⟨6 + (y 1).val, by have : (y 1).val < 2 := (y 1).isLt; omega⟩ (y 2))
  else iblk m c 3 t y

theorem carried_eq (c : Dev nD) (t : Fin cfg0.N) (ht : 11 ≤ t.val) (d : Vec F S11x8x512 .f32) (h : Inv m c t.val d) :
    carried (grid0.coords t) d = before m c t := by
  funext y
  unfold before carried
  rw [dif_pos ht]
  refine (h ⟨t.val - 11, lt_of_le_of_lt (Nat.sub_le _ _) t.isLt⟩ (by show t.val - 11 < t.val; omega) (by show t.val ≤ t.val - 11 + 11; omega)
    ((Rect.unit (s := S11x8x512) (k0_off1 (grid0.coords t)) S1x2x512.size (k0_off1_inb (grid0.coords t))).emb y) ?_).trans ?_
  · show k0_off1 (grid0.coords t) 0 + 1 * (y 0).val = (t.val - 11) % 11
    have : (y 0).val < 1 := (y 0).isLt
    rw [off1, ← Nat.mod_eq_sub_mod ht, ← coord1 t]
    show (grid0.coords t 1).val + 1 * (y 0).val = _
    omega
  · congr 1
    funext a
    apply Fin.ext
    match a with
    | ⟨0, _⟩ => rfl
    | ⟨1, _⟩ =>
      show k0_off1 (grid0.coords t) 1 + 1 * (y 1).val = 6 + (y 1).val
      rw [off1]
      show 6 + 1 * (y 1).val = _
      omega
    | ⟨2, _⟩ =>
      show k0_off1 (grid0.coords t) 2 + 1 * (y 2).val = (y 2).val
      rw [off1]
      show 0 + 1 * (y 2).val = _
      omega

/-- The activation block of point `t`. -/
def actAt (c : Dev nD) (t : Fin cfg0.N) : Vec F S1024x512 .bf16 :=
  act (grid0.coords t) (iblk m c 0 t) (iblk m c 1 t) (iblk m c 2 t) (iblk m c 3 t) (iblk m c 4 t) (iblk m c 5 t) (before m c t)

theorem act_eq (c : Dev nD) (t : Fin cfg0.N) (d : Vec F S11x8x512 .f32) (h : Inv m c t.val d) :
    act (grid0.coords t) (iblk m c 0 t) (iblk m c 1 t) (iblk m c 2 t) (iblk m c 3 t) (iblk m c 4 t) (iblk m c 5 t) (carried (grid0.coords t) d)
      = actAt m c t := by
  unfold actAt
  by_cases h2 : t.val / 11 % 2 = 0
  · exact act_starts _ (by rw [coord0]; exact h2) _ _ _ _ _ _ _ _
  · rw [carried_eq m c t (by omega) d h]

/-! ## The proof data -/

/-- The staging buffer window `0` is on at point `t`. -/
abbrev ms0 (t : Fin cfg0.N) := win0_0.stage (cfg0.slots t 0)
/-- The staging buffer window `1` is on at point `t`. -/
abbrev ms1 (t : Fin cfg0.N) := win0_1.stage (cfg0.slots t 1)
/-- The staging buffer window `2` is on at point `t`. -/
abbrev ms2 (t : Fin cfg0.N) := win0_2.stage (cfg0.slots t 2)
/-- The staging buffer window `3` is on at point `t`. -/
abbrev ms3 (t : Fin cfg0.N) := win0_3.stage (cfg0.slots t 3)
/-- The staging buffer window `4` is on at point `t`. -/
abbrev ms4 (t : Fin cfg0.N) := win0_4.stage (cfg0.slots t 4)
/-- The staging buffer window `5` is on at point `t`. -/
abbrev ms5 (t : Fin cfg0.N) := win0_5.stage (cfg0.slots t 5)
/-- The staging buffer window `6` is on at point `t`. -/
abbrev ms6 (t : Fin cfg0.N) := win0_6.stage (cfg0.slots t 6)
/-- The staging buffer window `7` is on at point `t`. -/
abbrev ms7 (t : Fin cfg0.N) := win0_7.stage (cfg0.slots t 7)
/-- The carried tails, a whole buffer of the kernel's own. -/
abbrev scr : Memref sig .tc .vmem S11x8x512 .f32 := Memref.whole cc0_scratch0

theorem phiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant between points: the tails hold what `Inv` says. -/
def Phi (c : Dev nD) (n : ℕ) : sProp 𝕄 :=
  iprop((∃ d, ⌜Inv m c n d⌝ ∗ owns (c : Thread nD τ) scr fullShare d) ∗ (∃ r, prngReg c r))

/-- The arrays as the region finds them, each input's buffer left at its block, the outputs' at the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => actAt m c t
    | ⟨7, _⟩ => tailAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = actAt m c t := by dsimp only [dats]
theorem after7 (c : Dev nD) (t : Fin cfg0.N) : (dats m 0 c).after 7 t = tailAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem leaves0 (c : Dev nD) (t : Fin cfg0.N) :
    (dats m 0 c).leavesExact 0 t = owns (c : Thread nD τ) (ms0 t) fullShare ((dats m 0 c).after 0 t) := by
  unfold Dat.leavesExact
  rw [show cfg0.idle 0 (grid0.coords t) = false from rfl]
theorem leaves1 (c : Dev nD) (t : Fin cfg0.N) :
    (dats m 0 c).leavesExact 1 t = owns (c : Thread nD τ) (ms1 t) fullShare ((dats m 0 c).after 1 t) := by
  unfold Dat.leavesExact
  rw [show cfg0.idle 1 (grid0.coords t) = false from rfl]
theorem leaves2 (c : Dev nD) (t : Fin cfg0.N) :
    (dats m 0 c).leavesExact 2 t = owns (c : Thread nD τ) (ms2 t) fullShare ((dats m 0 c).after 2 t) := by
  unfold Dat.leavesExact
  rw [show cfg0.idle 2 (grid0.coords t) = false from rfl]
theorem leaves3 (c : Dev nD) (t : Fin cfg0.N) :
    (dats m 0 c).leavesExact 3 t = owns (c : Thread nD τ) (ms3 t) fullShare ((dats m 0 c).after 3 t) := by
  unfold Dat.leavesExact
  rw [show cfg0.idle 3 (grid0.coords t) = false from rfl]
theorem leaves4 (c : Dev nD) (t : Fin cfg0.N) :
    (dats m 0 c).leavesExact 4 t = owns (c : Thread nD τ) (ms4 t) fullShare ((dats m 0 c).after 4 t) := by
  unfold Dat.leavesExact
  rw [show cfg0.idle 4 (grid0.coords t) = false from rfl]
theorem leaves5 (c : Dev nD) (t : Fin cfg0.N) :
    (dats m 0 c).leavesExact 5 t = owns (c : Thread nD τ) (ms5 t) fullShare ((dats m 0 c).after 5 t) := by
  unfold Dat.leavesExact
  rw [show cfg0.idle 5 (grid0.coords t) = false from rfl]
theorem leaves6 (c : Dev nD) (t : Fin cfg0.N) :
    (dats m 0 c).leavesExact 6 t = owns (c : Thread nD τ) (ms6 t) fullShare ((dats m 0 c).after 6 t) := by
  unfold Dat.leavesExact
  rw [show cfg0.idle 6 (grid0.coords t) = false from rfl]
theorem leaves7 (c : Dev nD) (t : Fin cfg0.N) :
    (dats m 0 c).leavesExact 7 t = owns (c : Thread nD τ) (ms7 t) fullShare ((dats m 0 c).after 7 t) := by
  unfold Dat.leavesExact
  rw [show cfg0.idle 7 (grid0.coords t) = false from rfl]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves0, leaves1, leaves2, leaves3, leaves4, leaves5, leaves6, leaves7]
  rw [after0, after1, after2, after3, after4, after5, after6, after7]
  unfold Phi
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← act_eq m c t d hd]
  iapply (run c (grid0.coords t) _ _ _ _ _ _ _ _ _ _ _ _ _ _ _ _ _ _ (iblk m c 0 t) (iblk m c 1 t) (iblk m c 2 t) (iblk m c 3 t) (iblk m c 4 t) (iblk m c 5 t) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]
    · iexists _; isplitr
      swap; · iexact HS
      ipureintro; exact inv_succ m c t d hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, phiA_eq]
  unfold Phi
  iintro ⟨⟨%d, HS⟩, Hg⟩
  isplitl [HS]
  · iexists d; isplitr
    · ipureintro; exact inv_zero m c d
    iexact HS
  iexact Hg

theorem hout (c : Dev nD) : (dats m 0 c).Φ (Fin.last cfg0.N) ⊢ Pipeline.ΦA spec0 c := by
  rw [show (dats m 0 c).Φ (Fin.last cfg0.N) = Phi m c cfg0.N from rfl, phiA_eq]
  unfold Phi
  iintro ⟨⟨%d, -, HS⟩, Hg⟩
  isplitl [HS]
  · iexists d; iexact HS
  iexact Hg

/-! ## The run and the frame -/

set_option backward.isDefEq.respectTransparency.types false in
/-- The program's run: every array at what the points leave, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) sfx_sub sfx_fresh sfx_keeps (hmain m Variants.none) (A_eq m) (hin m) (hout m)
    (hQ' := fun _ h => h)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FfnIdeal.Hand

end
-- ==== Proof.FfnValue.lean ====
/-
  The gated feed-forward's first half: the tiled kernel, which carries two rows of the up product from a tile to the
  next, and the plain program, which lays the state before the whole product, leave the same functions of the
  arguments: the gated activation and the last two rows of the up product.
-/
module

public import proofs.«01_k».proof.Defs
public import proofs.«01_k».proof.Proof.FfnFrame
public import proofs.«01_k».proof.Proof.Gen.FfnRefIdeal
public import proofs.«01_k».proof.Proof.Gen.FfnRefIdeal.Run
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnIdeal.Gated

open Cert.FfnIdeal Cert.FfnIdeal.Gen Cert.FfnIdeal.Hand

/-! ## The functions of the arguments -/

/-- Column `l` of row `R` of the product with the wide weights. -/
def up (x : Vec Ideal S8192x2048 .f32) (w : Vec Ideal S2x2048x11264 .f32) (R : Fin 8192) (l : Fin 11264) : Ideal .f32 :=
  ∑ k : Fin 2048, x (ix2 R k) * w (ix3 0 k l)

/-- The up column that belongs to column `l` of the result, and the gate column. -/
def upCol (l : Fin 5632) : Fin 11264 := ⟨l.val, by omega⟩
def gateCol (l : Fin 5632) : Fin 11264 := ⟨5632 + l.val, by omega⟩

/-- The up product two rows before row `R` of its sequence: a row of the state where the sequence has none. -/
def back2 (x : Vec Ideal S8192x2048 .f32) (w : Vec Ideal S2x2048x11264 .f32) (st : Vec Ideal S4x2x5632 .f32)
    (R : Fin 8192) (l : Fin 5632) : Ideal .f32 :=
  if h : R.val % 2048 < 2 then st (ix3 ⟨R.val / 2048, by omega⟩ ⟨R.val % 2048, h⟩ l)
  else up x w ⟨R.val / 2048 * 2048 + (R.val % 2048 - 2), by omega⟩ (upCol l)

/-- The same one row before. -/
def back1 (x : Vec Ideal S8192x2048 .f32) (w : Vec Ideal S2x2048x11264 .f32) (st : Vec Ideal S4x2x5632 .f32)
    (R : Fin 8192) (l : Fin 5632) : Ideal .f32 :=
  if h : 1 + R.val % 2048 < 2 then st (ix3 ⟨R.val / 2048, by omega⟩ ⟨1 + R.val % 2048, h⟩ l)
  else up x w ⟨R.val / 2048 * 2048 + (1 + R.val % 2048 - 2), by omega⟩ (upCol l)

/-- The three-tap convolution of the up product along the sequence. -/
def conv (x : Vec Ideal S8192x2048 .f32) (w : Vec Ideal S2x2048x11264 .f32) (st : Vec Ideal S4x2x5632 .f32)
    (cw : Vec Ideal S3x5632 .f32) (cb : Vec Ideal S5632 .f32) (R : Fin 8192) (l : Fin 5632) : Ideal .f32 :=
  cb (ix1 l) + (((cw (ix2 0 l) * back2 x w st R l) + cw (ix2 1 l) * back1 x w st R l) + cw (ix2 2 l) * up x w R (upCol l))

/-- The activation, as the plain program writes it. -/
def gelu (z : Ideal .f32) : Ideal .f32 :=
  z * (Ideal.ofBits .f32 1056964608#32 * (1 + Ideal.tanh (Ideal.ofBits .f32 1061962282#32 *
    (z + Ideal.ofBits .f32 1027024659#32 * (z * z * z)))))

/-- The gated activation. -/
def gated (x : Vec Ideal S8192x2048 .f32) (w : Vec Ideal S2x2048x11264 .f32) (st : Vec Ideal S4x2x5632 .f32)
    (cw : Vec Ideal S3x5632 .f32) (cb : Vec Ideal S5632 .f32) : Vec Ideal S8192x5632 .bf16 := fun i =>
  gelu (conv x w st cw cb (i 0) (i 1)) * up x w (i 0) (gateCol (i 1))

/-- The last rows of each tile of the up product. -/
def tails (x : Vec Ideal S8192x2048 .f32) (w : Vec Ideal S2x2048x11264 .f32) : Vec Ideal S8x8x5632 .f32 := fun i =>
  up x w ⟨(i 0).val * 1024 + (1016 + (i 1).val), by
    have h0 : (i 0).val < 8 := (i 0).isLt
    have h1 : (i 1).val < 8 := (i 1).isLt
    omega⟩ (upCol (i 2))

/-- The state handed on: the last two rows of each sequence of the up product. -/
def state (x : Vec Ideal S8192x2048 .f32) (w : Vec Ideal S2x2048x11264 .f32) : Vec Ideal S4x2x5632 .f32 := fun i =>
  up x w ⟨(i 0).val * 2048 + (2046 + (i 1).val), by
    have h0 : (i 0).val < 4 := (i 0).isLt
    have h1 : (i 1).val < 2 := (i 1).isLt
    omega⟩ (upCol (i 2))

/-! ## The kernel's blocks -/

theorem sel_eq {α : Type} (k w : Nat) (hk : k < 1024) (hw : w < 1024) (a b : α) :
    Scalar.select (IntOp.cmpi .eq (BitVec.ofNat 32 k) (BitVec.ofNat 32 w)) a b = if k = w then a else b := by
  unfold IntOp.cmpi Scalar.select
  by_cases h : k = w
  · subst h
    simp
  · have hne : BitVec.ofNat 32 k ≠ BitVec.ofNat 32 w := fun e => by
      have := congrArg BitVec.toNat e
      simp only [BitVec.toNat_ofNat] at this
      omega
    have hb : (BitVec.ofNat 32 k == BitVec.ofNat 32 w) = false := by simpa using hne
    simp [h, hb]

/-- An up block at an index. -/
theorem pay3_apply (x0 : Vec Ideal S1024x2048 .bf16) (x1 : Vec Ideal S1x2048x512 .bf16) (r : Fin 1024) (l : Fin 512) :
    k0_pay3 x0 x1 (ix2 r l) = ∑ k : Fin 2048, x0 (ix2 r k) * x1 (ix3 0 k l) := by
  pointwise [k0_pay3, k0_pay2]
theorem pay4_apply (x0 : Vec Ideal S1024x2048 .bf16) (x1 : Vec Ideal S1x2048x512 .bf16) (r : Fin 1024) (l : Fin 512) :
    k0_pay4 x0 x1 (ix2 r l) = ∑ k : Fin 2048, x0 (ix2 r k) * x1 (ix3 0 k l) := by
  pointwise [k0_pay4, k0_pay2]
theorem tail_apply (x0 : Vec Ideal S1024x2048 .bf16) (x1 : Vec Ideal S1x2048x512 .bf16) (r : Fin 8) (l : Fin 512) :
    tail x0 x1 (ix3 0 r l) = k0_pay3 x0 x1 (ix2 ⟨1016 + r.val, by omega⟩ l) := by
  pointwise [tail, k0_pay10, k0_pay9]

/-- An activation block at an index, from the convolution's three entries. -/
theorem act_apply (i : grid0.Coords) (x0 : Vec Ideal S1024x2048 .bf16) (x1 x2 : Vec Ideal S1x2048x512 .bf16)
    (x3 : Vec Ideal S1x2x512 .f32) (x4 : Vec Ideal S3x512 .f32) (x5 : Vec Ideal S1x512 .f32) (p : Vec Ideal S1x2x512 .f32)
    (r : Fin 1024) (l : Fin 512) (b2 b1 : Ideal .f32)
    (h2 : (if r.val = 1 then k0_pay5 i x3 p (ix2 1 l) else if r.val = 0 then k0_pay5 i x3 p (ix2 0 l)
      else k0_pay3 x0 x1 (ix2 ⟨(r.val + 1024 - 2) % 1024, by omega⟩ l)) = b2)
    (h1 : (if r.val = 0 then k0_pay5 i x3 p (ix2 1 l) else k0_pay3 x0 x1 (ix2 ⟨(r.val + 1024 - 1) % 1024, by omega⟩ l)) = b1) :
    act i x0 x1 x2 x3 x4 x5 p (ix2 r l)
      = gelu (x5 (ix2 0 l) + (((x4 (ix2 0 l) * b2) + x4 (ix2 1 l) * b1) + x4 (ix2 2 l) * k0_pay3 x0 x1 (ix2 r l)))
        * k0_pay4 x0 x2 (ix2 r l) := by
  have e : ∀ a b d g : Ideal .f32, a + (b + d + g) = a + g + b + d := fun a b d g => by
    ac_rfl
  rw [e (x5 (ix2 0 l)) (x4 (ix2 0 l) * b2) (x4 (ix2 1 l) * b1) (x4 (ix2 2 l) * k0_pay3 x0 x1 (ix2 r l))]
  pointwise [act, k0_pay8, k0_pay7, k0_pay6, tap0, tap1, tap2, gelu]
  have s0 : ∀ a b : Ideal .f32, Scalar.select (IntOp.cmpi .eq (BitVec.ofNat 32 r.val) 0#32) a b = if r.val = 0 then a else b :=
    fun a b => sel_eq r.val 0 r.isLt (by omega) a b
  have s1 : ∀ a b : Ideal .f32, Scalar.select (IntOp.cmpi .eq (BitVec.ofNat 32 r.val) 1#32) a b = if r.val = 1 then a else b :=
    fun a b => sel_eq r.val 1 r.isLt (by omega) a b
  simp only [s0, s1]
  simp only [h2, h1]
  generalize x5 (ix2 0 l) + x4 (ix2 2 l) * k0_pay3 x0 x1 (ix2 r l) + x4 (ix2 0 l) * b2 + x4 (ix2 1 l) * b1 = z
  ac_rfl

variable (m : (ℓ : Loc nD τ sig) → Buf (Elt Ideal) ℓ) (ρ : Dev nD → PrngReg)

/-- Which blocks grid point `t` works on. -/
theorem index_facts : ∀ t : Fin grid0.N,
    (win0_0.index t 0 = t.val / 11 ∧ win0_0.index t 1 = 0)
      ∧ (win0_1.index t 0 = t.val % 11 ∧ win0_1.index t 1 = 0 ∧ win0_1.index t 2 = 0)
      ∧ (win0_2.index t 0 = 11 + t.val % 11 ∧ win0_2.index t 1 = 0 ∧ win0_2.index t 2 = 0)
      ∧ (win0_3.index t 0 = t.val / 11 / 2 ∧ win0_3.index t 1 = 0 ∧ win0_3.index t 2 = t.val % 11)
      ∧ (win0_4.index t 0 = 0 ∧ win0_4.index t 1 = t.val % 11)
      ∧ (win0_5.index t 0 = 0 ∧ win0_5.index t 1 = t.val % 11)
      ∧ (win0_6.index t 0 = t.val / 11 ∧ win0_6.index t 1 = t.val % 11)
      ∧ (win0_7.index t 0 = t.val / 11 ∧ win0_7.index t 1 = 0 ∧ win0_7.index t 2 = t.val % 11) := by
  decide +kernel

/-! The arrays the region finds, as entries of the arguments. -/

theorem V_x (c : Dev nD) (R : Fin 8192) (k : Fin 2048) : V m c main_v5 (ix2 R k) = m ((c : Thread nD τ).loc main_arg0) (ix2 R k) := by
  unfold V V0
  simp only [hostOps0, List.flatten_cons, List.flatten_nil, List.append_nil]
  after_reads_at
theorem V_w (c : Dev nD) (b : Fin 22) (k : Fin 2048) (l : Fin 512) (L : Fin 11264) (hL : L.val = b.val * 512 + l.val) :
    V m c main_v4 (ix3 b k l) = m ((c : Thread nD τ).loc main_arg1) (ix3 0 k L) := by
  have hb := b.isLt
  have hl := l.isLt
  rw [show L = ⟨b.val * 512 + l.val, by omega⟩ from Fin.ext hL]
  unfold V V0
  simp only [hostOps0, List.flatten_cons, List.flatten_nil, List.append_nil]
  after_reads_at
theorem V_b (c : Dev nD) (l : Fin 5632) : V m c main_v6 (ix2 0 l) = m ((c : Thread nD τ).loc main_arg4) (ix1 l) := by
  unfold V V0
  simp only [hostOps0, List.flatten_cons, List.flatten_nil, List.append_nil]
  after_reads_at

/-! The blocks grid point `t` reads. -/

theorem blk_x (c : Dev nD) (t : Fin cfg0.N) (r : Fin 1024) (k : Fin 2048) (R : Fin 8192) (hR : R.val = t.val / 11 * 1024 + r.val) :
    iblk m c 0 t (ix2 r k) = m ((c : Thread nD τ).loc main_arg0) (ix2 R k) := by
  obtain ⟨⟨h0, h1⟩, -⟩ := index_facts t
  have ht : t.val < 88 := lt_of_lt_of_eq t.isLt N88
  refine Eq.trans ?_ (V_x m c R k)
  unfold iblk
  rw [View.read_apply]
  show V m c main_v5 _ = V m c main_v5 _
  congr 1
  funext a
  apply Fin.ext
  match a with
  | ⟨0, _⟩ => show win0_0.index t 0 * 1024 + 1 * r.val = R.val; rw [h0, hR]; omega
  | ⟨1, _⟩ => show win0_0.index t 1 * 2048 + 1 * k.val = k.val; rw [h1]; omega

theorem blk_u (c : Dev nD) (t : Fin cfg0.N) (k : Fin 2048) (l : Fin 512) (L : Fin 11264) (hL : L.val = t.val % 11 * 512 + l.val) :
    iblk m c 1 t (ix3 0 k l) = m ((c : Thread nD τ).loc main_arg1) (ix3 0 k L) := by
  obtain ⟨-, ⟨h0, h1, h2⟩, -⟩ := index_facts t
  have ht : t.val < 88 := lt_of_lt_of_eq t.isLt N88
  refine Eq.trans ?_ (V_w m c ⟨t.val % 11, by omega⟩ k l L hL)
  unfold iblk
  rw [View.read_apply]
  show V m c main_v4 _ = V m c main_v4 _
  congr 1
  funext a
  apply Fin.ext
  match a with
  | ⟨0, _⟩ => show win0_1.index t 0 * 1 + 1 * 0 = t.val % 11; rw [h0]; omega
  | ⟨1, _⟩ => show win0_1.index t 1 * 2048 + 1 * k.val = k.val; rw [h1]; omega
  | ⟨2, _⟩ => show win0_1.index t 2 * 512 + 1 * l.val = l.val; rw [h2]; omega

theorem blk_g (c : Dev nD) (t : Fin cfg0.N) (k : Fin 2048) (l : Fin 512) (L : Fin 11264) (hL : L.val = (11 + t.val % 11) * 512 + l.val) :
    iblk m c 2 t (ix3 0 k l) = m ((c : Thread nD τ).loc main_arg1) (ix3 0 k L) := by
  obtain ⟨-, -, ⟨h0, h1, h2⟩, -⟩ := index_facts t
  have ht : t.val < 88 := lt_of_lt_of_eq t.isLt N88
  refine Eq.trans ?_ (V_w m c ⟨11 + t.val % 11, by omega⟩ k l L hL)
  unfold iblk
  rw [View.read_apply]
  show V m c main_v4 _ = V m c main_v4 _
  congr 1
  funext a
  apply Fin.ext
  match a with
  | ⟨0, _⟩ => show win0_2.index t 0 * 1 + 1 * 0 = 11 + t.val % 11; rw [h0]; omega
  | ⟨1, _⟩ => show win0_2.index t 1 * 2048 + 1 * k.val = k.val; rw [h1]; omega
  | ⟨2, _⟩ => show win0_2.index t 2 * 512 + 1 * l.val = l.val; rw [h2]; omega

theorem blk_s (c : Dev nD) (t : Fin cfg0.N) (e : Fin 2) (l : Fin 512) (b : Fin 4) (hb : b.val = t.val / 11 / 2) (L : Fin 5632) (hL : L.val = t.val % 11 * 512 + l.val) :
    iblk m c 3 t (ix3 0 e l) = m ((c : Thread nD τ).loc main_arg2) (ix3 b e L) := by
  obtain ⟨-, -, -, ⟨h0, h1, h2⟩, -⟩ := index_facts t
  have ht : t.val < 88 := lt_of_lt_of_eq t.isLt N88
  refine Eq.trans ?_ (congrFun (V_main_arg2 m c) _)
  unfold iblk
  rw [View.read_apply]
  show V m c main_arg2 _ = V m c main_arg2 _
  congr 1
  funext a
  apply Fin.ext
  match a with
  | ⟨0, _⟩ => show win0_3.index t 0 * 1 + 1 * 0 = b.val; rw [h0, hb]; omega
  | ⟨1, _⟩ => show win0_3.index t 1 * 2 + 1 * e.val = e.val; rw [h1]; omega
  | ⟨2, _⟩ => show win0_3.index t 2 * 512 + 1 * l.val = L.val; rw [h2, hL]; omega

theorem blk_cw (c : Dev nD) (t : Fin cfg0.N) (e : Fin 3) (l : Fin 512) (L : Fin 5632) (hL : L.val = t.val % 11 * 512 + l.val) :
    iblk m c 4 t (ix2 e l) = m ((c : Thread nD τ).loc main_arg3) (ix2 e L) := by
  obtain ⟨-, -, -, -, ⟨h0, h1⟩, -⟩ := index_facts t
  have ht : t.val < 88 := lt_of_lt_of_eq t.isLt N88
  refine Eq.trans ?_ (congrFun (V_main_arg3 m c) _)
  unfold iblk
  rw [View.read_apply]
  show V m c main_arg3 _ = V m c main_arg3 _
  congr 1
  funext a
  apply Fin.ext
  match a with
  | ⟨0, _⟩ => show win0_4.index t 0 * 3 + 1 * e.val = e.val; rw [h0]; omega
  | ⟨1, _⟩ => show win0_4.index t 1 * 512 + 1 * l.val = L.val; rw [h1, hL]; omega

theorem blk_cb (c : Dev nD) (t : Fin cfg0.N) (l : Fin 512) (L : Fin 5632) (hL : L.val = t.val % 11 * 512 + l.val) :
    iblk m c 5 t (ix2 0 l) = m ((c : Thread nD τ).loc main_arg4) (ix1 L) := by
  obtain ⟨-, -, -, -, -, ⟨h0, h1⟩, -⟩ := index_facts t
  have ht : t.val < 88 := lt_of_lt_of_eq t.isLt N88
  refine Eq.trans ?_ (V_b m c L)
  unfold iblk
  rw [View.read_apply]
  show V m c main_v6 _ = V m c main_v6 _
  congr 1
  funext a
  apply Fin.ext
  match a with
  | ⟨0, _⟩ => show win0_5.index t 0 * 1 + 1 * 0 = 0; rw [h0]
  | ⟨1, _⟩ => show win0_5.index t 1 * 512 + 1 * l.val = L.val; rw [h1, hL]; omega

/-! ## What a point makes -/

/-- The arguments, at core `c`. -/
abbrev ax (c : Dev nD) : Vec Ideal S8192x2048 .f32 := m ((c : Thread nD τ).loc main_arg0)
abbrev aw (c : Dev nD) : Vec Ideal S2x2048x11264 .f32 := m ((c : Thread nD τ).loc main_arg1)
abbrev ast (c : Dev nD) : Vec Ideal S4x2x5632 .f32 := m ((c : Thread nD τ).loc main_arg2)
abbrev acw (c : Dev nD) : Vec Ideal S3x5632 .f32 := m ((c : Thread nD τ).loc main_arg3)
abbrev acb (c : Dev nD) : Vec Ideal S5632 .f32 := m ((c : Thread nD τ).loc main_arg4)

theorem up_blk (c : Dev nD) (t : Fin cfg0.N) (r : Fin 1024) (l : Fin 512) (R : Fin 8192) (hR : R.val = t.val / 11 * 1024 + r.val)
    (L : Fin 5632) (hL : L.val = t.val % 11 * 512 + l.val) :
    k0_pay3 (iblk m c 0 t) (iblk m c 1 t) (ix2 r l) = up (ax m c) (aw m c) R (upCol L) := by
  rw [pay3_apply]
  exact Finset.sum_congr rfl fun k _ => by rw [blk_x m c t r k R hR, blk_u m c t k l (upCol L) hL]

theorem gate_blk (c : Dev nD) (t : Fin cfg0.N) (r : Fin 1024) (l : Fin 512) (R : Fin 8192) (hR : R.val = t.val / 11 * 1024 + r.val)
    (L : Fin 5632) (hL : L.val = t.val % 11 * 512 + l.val) :
    k0_pay4 (iblk m c 0 t) (iblk m c 2 t) (ix2 r l) = up (ax m c) (aw m c) R (gateCol L) := by
  rw [pay4_apply]
  exact Finset.sum_congr rfl fun k _ => by
    rw [blk_x m c t r k R hR, blk_g m c t k l (gateCol L) (by show 5632 + L.val = _; omega)]

theorem tail_blk (c : Dev nD) (t : Fin cfg0.N) (e : Fin 8) (l : Fin 512) (R : Fin 8192) (hR : R.val = t.val / 11 * 1024 + (1016 + e.val))
    (L : Fin 5632) (hL : L.val = t.val % 11 * 512 + l.val) :
    tailAt m c t (ix3 0 e l) = up (ax m c) (aw m c) R (upCol L) := by
  unfold tailAt
  rw [tail_apply, up_blk m c t _ l R hR L hL]

/-- The row before the tile, at the first tile of a sequence: a row of the state. -/
theorem prior_starts (c : Dev nD) (t : Fin cfg0.N) (h : t.val / 11 % 2 = 0) (e : Fin 2) (l : Fin 512) (b : Fin 4) (hb : b.val = t.val / 11 / 2)
    (L : Fin 5632) (hL : L.val = t.val % 11 * 512 + l.val) :
    k0_pay5 (grid0.coords t) (iblk m c 3 t) (before m c t) (ix2 e l) = ast m c (ix3 b e L) := by
  rw [pay5_starts _ (by rw [coord0]; exact h)]
  pointwise
  exact blk_s m c t e l b hb L hL

/-- At a later tile: a row of the tile before. -/
theorem prior_goes (c : Dev nD) (t : Fin cfg0.N) (h : t.val / 11 % 2 = 1) (e : Fin 2) (l : Fin 512)
    (R : Fin 8192) (hR : R.val + 2 = t.val / 11 * 1024 + e.val) (L : Fin 5632) (hL : L.val = t.val % 11 * 512 + l.val) :
    k0_pay5 (grid0.coords t) (iblk m c 3 t) (before m c t) (ix2 e l) = up (ax m c) (aw m c) R (upCol L) := by
  rw [pay5_goes _ (by rw [coord0]; exact h)]
  pointwise
  unfold before
  rw [dif_pos (by omega)]
  have ht : 11 ≤ t.val := by omega
  refine tail_blk m c _ _ l R ?_ L ?_
  · show R.val = (t.val - 11) / 11 * 1024 + (1016 + (6 + e.val))
    omega
  · show L.val = (t.val - 11) % 11 * 512 + l.val
    omega

/-- The activation block of point `t` is block `t` of the gated activation. -/
theorem act_blk (c : Dev nD) (t : Fin cfg0.N) (r : Fin 1024) (l : Fin 512) (R : Fin 8192) (hR : R.val = t.val / 11 * 1024 + r.val)
    (L : Fin 5632) (hL : L.val = t.val % 11 * 512 + l.val) :
    actAt m c t (ix2 r l) = gated (ax m c) (aw m c) (ast m c) (acw m c) (acb m c) (ix2 R L) := by
  have ht : t.val < 88 := lt_of_lt_of_eq t.isLt N88
  have hr : r.val < 1024 := r.isLt
  unfold actAt
  rw [act_apply _ _ _ _ _ _ _ _ r l (back2 (ax m c) (aw m c) (ast m c) R L) (back1 (ax m c) (aw m c) (ast m c) R L) ?_ ?_]
  · rw [up_blk m c t r l R hR L hL, gate_blk m c t r l R hR L hL, blk_cb m c t l L hL, blk_cw m c t 0 l L hL, blk_cw m c t 1 l L hL,
      blk_cw m c t 2 l L hL]
    rfl
  · unfold back2
    by_cases h : t.val / 11 % 2 = 0
    · by_cases r1 : r.val = 1
      · rw [if_pos r1, dif_pos (by omega), prior_starts m c t h 1 l ⟨R.val / 2048, by omega⟩ (by show R.val / 2048 = _; omega) L hL]
        congr 1
        congr 1
        exact Fin.ext (by show 1 = R.val % 2048; omega)
      · rw [if_neg r1]
        by_cases r0 : r.val = 0
        · rw [if_pos r0, dif_pos (by omega), prior_starts m c t h 0 l ⟨R.val / 2048, by omega⟩ (by show R.val / 2048 = _; omega) L hL]
          congr 1
          congr 1
          exact Fin.ext (by show 0 = R.val % 2048; omega)
        · rw [if_neg r0, dif_neg (by omega)]
          exact up_blk m c t _ l _ (by show R.val / 2048 * 2048 + (R.val % 2048 - 2) = _ + (r.val + 1024 - 2) % 1024; omega) L hL
    · rw [dif_neg (by omega)]
      by_cases r1 : r.val = 1
      · rw [if_pos r1]
        exact prior_goes m c t (by omega) 1 l _ (by show R.val / 2048 * 2048 + (R.val % 2048 - 2) + 2 = _ + 1; omega) L hL
      · rw [if_neg r1]
        by_cases r0 : r.val = 0
        · rw [if_pos r0]
          exact prior_goes m c t (by omega) 0 l _ (by show R.val / 2048 * 2048 + (R.val % 2048 - 2) + 2 = _ + 0; omega) L hL
        · rw [if_neg r0]
          exact up_blk m c t _ l _ (by show R.val / 2048 * 2048 + (R.val % 2048 - 2) = _ + (r.val + 1024 - 2) % 1024; omega) L hL
  · unfold back1
    by_cases r0 : r.val = 0
    · rw [if_pos r0]
      by_cases h : t.val / 11 % 2 = 0
      · rw [dif_pos (by omega), prior_starts m c t h 1 l ⟨R.val / 2048, by omega⟩ (by show R.val / 2048 = _; omega) L hL]
        congr 1
        congr 1
        exact Fin.ext (by show 1 = 1 + R.val % 2048; omega)
      · rw [dif_neg (by omega)]
        exact prior_goes m c t (by omega) 1 l _ (by show R.val / 2048 * 2048 + (1 + R.val % 2048 - 2) + 2 = _ + 1; omega) L hL
    · rw [if_neg r0, dif_neg (by omega)]
      exact up_blk m c t _ l _ (by show R.val / 2048 * 2048 + (1 + R.val % 2048 - 2) = _ + (r.val + 1024 - 1) % 1024; omega) L hL

/-! ## The arrays at the end -/

/-- What the arguments make. -/
abbrev G (c : Dev nD) : Buf (Elt Ideal) ((c : Thread nD τ).loc main_v7_0) := gated (ax m c) (aw m c) (ast m c) (acw m c) (acb m c)
abbrev H (c : Dev nD) : Buf (Elt Ideal) ((c : Thread nD τ).loc main_v7_1) := tails (ax m c) (aw m c)

theorem emb_act (t : Fin cfg0.N) (r : Fin 1024) (l : Fin 512) (R : Fin 8192) (hR : R.val = t.val / 11 * 1024 + r.val)
    (L : Fin 5632) (hL : L.val = t.val % 11 * 512 + l.val) :
    ((cfg0.win 6).blk t).view.emb (ix2 r l) = (ix2 R L : S8192x5632.Idx) := by
  obtain ⟨-, -, -, -, -, -, ⟨h0, h1⟩, -⟩ := index_facts t
  funext a
  apply Fin.ext
  match a with
  | ⟨0, _⟩ => show win0_6.index t 0 * 1024 + 1 * r.val = R.val; rw [h0, hR]; omega
  | ⟨1, _⟩ => show win0_6.index t 1 * 512 + 1 * l.val = L.val; rw [h1, hL]; omega

theorem emb_tail (t : Fin cfg0.N) (e : Fin 8) (l : Fin 512) (T : Fin 8) (hT : T.val = t.val / 11)
    (L : Fin 5632) (hL : L.val = t.val % 11 * 512 + l.val) :
    ((cfg0.win 7).blk t).view.emb (ix3 0 e l) = (ix3 T e L : S8x8x5632.Idx) := by
  obtain ⟨-, -, -, -, -, -, -, ⟨h0, h1, h2⟩⟩ := index_facts t
  funext a
  apply Fin.ext
  match a with
  | ⟨0, _⟩ => show win0_7.index t 0 * 1 + 1 * 0 = T.val; rw [h0, hT]; omega
  | ⟨1, _⟩ => show win0_7.index t 1 * 8 + 1 * e.val = e.val; rw [h1]; omega
  | ⟨2, _⟩ => show win0_7.index t 2 * 512 + 1 * l.val = L.val; rw [h2, hL]; omega

theorem flushed_act (c : Dev nD) (t : Fin cfg0.N) :
    (dats m 0 c).flushed 6 t = ((cfg0.win 6).blk t).view.read (Elt Ideal) (G m c) := by
  have ht : t.val < 88 := lt_of_lt_of_eq t.isLt N88
  refine (after6 m c t).trans ?_
  funext j
  rw [View.read_apply]
  show actAt m c t j = G m c (((cfg0.win 6).blk t).view.emb j)
  idx_vars j
  obtain ⟨R, hR⟩ : ∃ R : Fin 8192, R.val = t.val / 11 * 1024 + j0.val := ⟨⟨_, by have := j0.isLt; omega⟩, rfl⟩
  obtain ⟨L, hL⟩ : ∃ L : Fin 5632, L.val = t.val % 11 * 512 + j1.val := ⟨⟨_, by have := j1.isLt; omega⟩, rfl⟩
  rw [emb_act t j0 j1 R hR L hL]
  exact act_blk m c t j0 j1 R hR L hL

theorem flushed_tail (c : Dev nD) (t : Fin cfg0.N) :
    (dats m 0 c).flushed 7 t = ((cfg0.win 7).blk t).view.read (Elt Ideal) (H m c) := by
  have ht : t.val < 88 := lt_of_lt_of_eq t.isLt N88
  refine (after7 m c t).trans ?_
  funext j
  rw [View.read_apply]
  show tailAt m c t j = H m c (((cfg0.win 7).blk t).view.emb j)
  idx_vars j
  obtain rfl : j0 = 0 := Subsingleton.elim _ _
  obtain ⟨T, hT⟩ : ∃ T : Fin 8, T.val = t.val / 11 := ⟨⟨_, by omega⟩, rfl⟩
  obtain ⟨L, hL⟩ : ∃ L : Fin 5632, L.val = t.val % 11 * 512 + j2.val := ⟨⟨_, by have := j2.isLt; omega⟩, rfl⟩
  rw [emb_tail t j1 j2 T hT L hL]
  exact tail_blk m c t j1 j2 _ (by show T.val * 1024 + (1016 + j1.val) = _; rw [hT]) L hL

theorem mem_act (t : Fin cfg0.N) (i : S8192x5632.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v7_0).slice (win0_6.rect t)).set ↔ _
  rw [View.set_slice_whole, Rect.mem_set_unit]
theorem mem_tail (t : Fin cfg0.N) (i : S8x8x5632.Idx) :
    i ∈ ((cfg0.win 7).blk t).view.set ↔ ∀ a, win0_7.index t a * win0_7.size a ≤ (i a : Nat)
      ∧ (i a : Nat) < win0_7.index t a * win0_7.size a + win0_7.xsize (grid0.coords t) a := by
  show i ∈ ((View.whole main_v7_1).slice (win0_7.rect t)).set ↔ _
  rw [View.set_slice_whole, Rect.mem_set_unit]

theorem cover_act (i : S8192x5632.Idx) : ∃ t : Fin cfg0.N, (cfg0.win 6).flush t = true ∧ i ∈ ((cfg0.win 6).blk t).view.set := by
  have h0 : (i 0 : Nat) < 8192 := (i 0).isLt
  have h1 : (i 1 : Nat) < 5632 := (i 1).isLt
  let t : Fin cfg0.N := ⟨(i 0 : Nat) / 1024 * 11 + (i 1 : Nat) / 512, lt_of_lt_of_eq (by omega) N88.symm⟩
  obtain ⟨-, -, -, -, -, -, ⟨e0, e1⟩, -⟩ := index_facts t
  refine ⟨t, flush0_6 t, (mem_act t i).2 fun a => ?_⟩
  have ht : t.val = (i 0 : Nat) / 1024 * 11 + (i 1 : Nat) / 512 := rfl
  match a with
  | ⟨0, _⟩ =>
    show win0_6.index t 0 * 1024 ≤ (i 0 : Nat) ∧ (i 0 : Nat) < win0_6.index t 0 * 1024 + 1024
    rw [e0]; omega
  | ⟨1, _⟩ =>
    show win0_6.index t 1 * 512 ≤ (i 1 : Nat) ∧ (i 1 : Nat) < win0_6.index t 1 * 512 + 512
    rw [e1]; omega

theorem cover_tail (i : S8x8x5632.Idx) : ∃ t : Fin cfg0.N, (cfg0.win 7).flush t = true ∧ i ∈ ((cfg0.win 7).blk t).view.set := by
  have h0 : (i 0 : Nat) < 8 := (i 0).isLt
  have h1 : (i 1 : Nat) < 8 := (i 1).isLt
  have h2 : (i 2 : Nat) < 5632 := (i 2).isLt
  let t : Fin cfg0.N := ⟨(i 0 : Nat) * 11 + (i 2 : Nat) / 512, lt_of_lt_of_eq (by omega) N88.symm⟩
  obtain ⟨-, -, -, -, -, -, -, ⟨e0, e1, e2⟩⟩ := index_facts t
  refine ⟨t, flush0_7 t, (mem_tail t i).2 fun a => ?_⟩
  have ht : t.val = (i 0 : Nat) * 11 + (i 2 : Nat) / 512 := rfl
  match a with
  | ⟨0, _⟩ =>
    show win0_7.index t 0 * 1 ≤ (i 0 : Nat) ∧ (i 0 : Nat) < win0_7.index t 0 * 1 + 1
    rw [e0]; omega
  | ⟨1, _⟩ =>
    show win0_7.index t 1 * 8 ≤ (i 1 : Nat) ∧ (i 1 : Nat) < win0_7.index t 1 * 8 + 8
    rw [e1]; omega
  | ⟨2, _⟩ =>
    show win0_7.index t 2 * 512 ≤ (i 2 : Nat) ∧ (i 2 : Nat) < win0_7.index t 2 * 512 + 512
    rw [e2]; omega

theorem final_act (c : Dev nD) : (dats m 0 c).arrAt 6 cfg0.N = G m c :=
  (dats m 0 c).arrAt_eq_of_cover 6 _ (fun t _ => flushed_act m c t) cover_act
theorem final_tail (c : Dev nD) : (dats m 0 c).arrAt 7 cfg0.N = H m c :=
  (dats m 0 c).arrAt_eq_of_cover 7 _ (fun t _ => flushed_tail m c t) cover_tail

/-- The host's last line picks the last two rows of each sequence from the tails. -/
theorem final_state (c : Dev nD) :
    Pipeline.afterTail₀ cfgs (dats m) 0 (V0 m) [hostOps1] c main_v8 = state (ax m c) (aw m c) := by
  unfold Pipeline.afterTail₀
  have e : Pipeline.withArrays (cfgs 0).spec c (V0 m c) (fun w => (dats m 0 c).arrAt w (cfgs 0).N) (Proc.devRef .tc main_v7_1) = H m c :=
    (Pipeline.withArrays_arr_shared spec0 c (V0 m c) (fun w => (dats m 0 c).arrAt w cfg0.N)
      ((dats m 0 c).arrAt_sharedIn sharedIn0 (V0 m c) (A_eq m c) cfg0.N) 7).trans (final_tail m c)
  simp only [hostOps1, List.flatten_cons, List.flatten_nil, List.append_nil]
  funext i
  after_reads_at
  refine (congrFun e _).trans ?_
  show up (ax m c) (aw m c) _ _ = up (ax m c) (aw m c) _ _
  congr 1
  apply Fin.ext
  have h0 : (i 0).val < 4 := (i 0).isLt
  show (1 + 2 * (i 0).val) * 1024 + (1016 + (6 + (i 1).val)) = (i 0).val * 2048 + (2046 + (i 1).val)
  omega

/-- The kernel leaves the functions of its arguments and the arguments as they were. -/
theorem run : θ_run defs (onTc (τ := τ) (main (F := Ideal))) ⟨m, fun _ => 0, ρ⟩ (fun r => ∀ c : Dev nD,
      r.2.mem ((c.tc : Thread nD τ).loc main_v7_0) = G m c
      ∧ r.2.mem ((c.tc : Thread nD τ).loc main_v8) = state (ax m c) (aw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1.1 c).1 6).trans (final_act m c),
       ((h.1.1 c).2 main_v8 (Pipeline.mem_restRefs_of main_v8 (by decide) (by decide))).trans (final_state m c), h.2.1 c⟩)
    (θ_run_and (run_main m ρ) (Hand.frame m ρ))

end Cert.FfnIdeal.Gated

namespace Cert.FfnRefIdeal.Gated

open Cert.FfnRefIdeal
open Cert.FfnIdeal.Gated (gated state conv back1 back2 gelu up upCol gateCol)

variable (m : (ℓ : Loc nD τ sig) → Buf (Elt Ideal) ℓ) (ρ : Dev nD → PrngReg)

/-- The plain program leaves the same functions of its arguments. -/
theorem run : θ_run defs (onTc (τ := τ) (main (F := Ideal))) ⟨m, fun _ => 0, ρ⟩ (fun r => ∀ c : Dev nD,
      r.2.mem ((c.tc : Thread nD τ).loc main_v47) = gated (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_v48) = state (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨(h c).1.trans ?_, (h c).2.1.trans ?_, (h c).2.2⟩) (Value.run m ρ)
  · funext i
    idx_vars i
    pointwise [Value.res_main_v47, gated, conv, back1, back2, gelu, up, upCol, gateCol]
  · funext i
    idx_vars i
    pointwise [state, up, upCol]
    rw [dif_neg (by omega)]
    have e : i0.val * 2048 + (2048 + i1.val - 2) = i0.val * 2048 + (2046 + i1.val) := by omega
    simp only [e]

end Cert.FfnRefIdeal.Gated

namespace Cert.Proof

/-- From arguments that agree, both programs leave the same results. -/
theorem algebraic_Ffn : Cert.algebraic_FfnIdeal_FfnRefIdeal := fun m ρ m' ρ' _ hag =>
  ⟨fun c => Cert.FfnIdeal.Gated.G m c, fun c => Cert.FfnIdeal.Gated.state (Cert.FfnIdeal.Gated.ax m c) (Cert.FfnIdeal.Gated.aw m c),
    Cert.FfnIdeal.Gated.run m ρ,
    (θ_run _ _ _).mono (fun _ h c => by
      obtain ⟨e0, e1, e2, e3, e4⟩ := hag c
      exact ⟨(h c).1.trans (by rw [e0, e1, e2, e3, e4]), (h c).2.1.trans (by rw [e0, e1]), (h c).2.2⟩) (Cert.FfnRefIdeal.Gated.run m' ρ')⟩

end Cert.Proof

end
-- ==== Proof.RowNorm.lean ====
/-
  The row normalisation that ends both residual matmuls, index by index over the extended reals: with `x` a row,
  `norm x j = x j * rsqrt(sum_k x k * x k / 2048 + eps)`.
-/
module

public import Idealize.ShloMosaic.Lib.Pointwise
public import Idealize.ShloMosaic.Lib.Tactic

@[expose] public section

noncomputable section

open Idealize.ShloMosaic

namespace Cert.RowNorm

/-- A row over its root mean square. -/
def norm (x : Fin 2048 → Ideal .f32) (j : Fin 2048) : Ideal .f32 :=
  x j * Ideal.rsqrt (Ideal.div (∑ k, x k * x k) (Ideal.ofBits .f32 0x45000000#32) + Ideal.ofBits .f32 0x358637BD#32)

/-- The residual stream after the layer's part: the residual plus the scaled normalised row. -/
def resid (x r g : Fin 2048 → Ideal .f32) (j : Fin 2048) : Ideal .f32 := r j + norm x j * g j

/-- The next layer part's input: the new residual normalised and scaled. -/
def next (x r g h : Fin 2048 → Ideal .f32) (j : Fin 2048) : Ideal .f32 := norm (resid x r g) j * h j

end Cert.RowNorm

end
-- ==== Proof.DownValue.lean ====
/-
  The down projection with its residual and norms: the tiled kernel and the plain
  `y = resid + rmsnorm(x @ w, g)`, `rmsnorm(y, g_next)` leave the same functions of the arguments.

  Grid points 2a and 2a + 1 make rows 512·a … of both results: each adds the product over its half of the inner
  dimension, and the second ends the rows.
-/
module

public import proofs.«01_k».proof.Defs
public import proofs.«01_k».proof.Proof.Gen.DownIdeal.Value
public import proofs.«01_k».proof.Proof.Gen.DownRefIdeal
public import proofs.«01_k».proof.Proof.Gen.DownRefIdeal.Run
public import proofs.«01_k».proof.Proof.RowNorm
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DownIdeal.Residual

open Cert.DownIdeal Cert.DownIdeal.Gen

/-- Row `R` of the product. -/
def row (x : Vec Ideal S8192x5632 .f32) (w : Vec Ideal S5632x2048 .f32) (R : Fin 8192) (j : Fin 2048) : Ideal .f32 :=
  ∑ k : Fin 5632, x (ix2 R k) * w (ix2 k j)

/-- The new residual stream. -/
def stream (x : Vec Ideal S8192x5632 .f32) (w : Vec Ideal S5632x2048 .f32) (r : Vec Ideal S8192x2048 .f32)
    (g : Vec Ideal S2048 .f32) : Vec Ideal S8192x2048 .f32 := fun i =>
  RowNorm.resid (row x w (i 0)) (fun j => r (ix2 (i 0) j)) (fun j => g (ix1 j)) (i 1)

/-- The next part's input. -/
def nextIn (x : Vec Ideal S8192x5632 .f32) (w : Vec Ideal S5632x2048 .f32) (r : Vec Ideal S8192x2048 .f32)
    (g h : Vec Ideal S2048 .f32) : Vec Ideal S8192x2048 .bf16 := fun i =>
  RowNorm.next (row x w (i 0)) (fun j => r (ix2 (i 0) j)) (fun j => g (ix1 j)) (fun j => h (ix1 j)) (i 1)

variable (m : (ℓ : Loc nD τ sig) → Buf (Elt Ideal) ℓ) (ρ : Dev nD → PrngReg)

theorem hz2 : (![0, 0] : Fin 2 → Nat) = fun _ => 0 := funext fun a => by fin_cases a <;> rfl

/-- Which blocks grid point `t` works on. -/
theorem index_facts : ∀ t : Fin grid0.N,
    (win0_0.index t 0 = t.val / 2 ∧ win0_0.index t 1 = t.val % 2) ∧ (win0_1.index t 0 = t.val % 2 ∧ win0_1.index t 1 = 0)
      ∧ (win0_2.index t 0 = t.val / 2 ∧ win0_2.index t 1 = 0)
      ∧ (win0_3.index t 0 = 0 ∧ win0_3.index t 1 = 0)
      ∧ (win0_4.index t 0 = 0 ∧ win0_4.index t 1 = 0)
      ∧ (win0_5.index t 0 = t.val / 2 ∧ win0_5.index t 1 = 0)
      ∧ (win0_6.index t 0 = t.val / 2 ∧ win0_6.index t 1 = 0) := by
  decide +kernel

theorem V_rows (c : Dev nD) (i : S8192x5632.Idx) : V m c main_v0 i = m ((c : Thread nD τ).loc main_arg0) i := by
  unfold V
  simp only [hostOps0]
  after_reads_at
theorem V_w (c : Dev nD) (i : S5632x2048.Idx) : V m c main_v1 i = m ((c : Thread nD τ).loc main_arg1) i := by
  unfold V
  simp only [hostOps0]
  after_reads_at
theorem V_g (c : Dev nD) (j : Fin 2048) : V m c main_v2 (ix2 0 j : S1x2048.Idx) = m ((c : Thread nD τ).loc main_arg3) (ix1 j) := by
  unfold V
  simp only [hostOps0]
  after_reads_at
theorem V_h (c : Dev nD) (j : Fin 2048) : V m c main_v3 (ix2 0 j : S1x2048.Idx) = m ((c : Thread nD τ).loc main_arg4) (ix1 j) := by
  unfold V
  simp only [hostOps0]
  after_reads_at

/-! The blocks grid point `t` reads, as entries of the arguments. -/

theorem blk_x (c : Dev nD) (t : Fin cfg0.N) (r : Fin 512) (k : Fin 2816) (R : Fin 8192) (hR : R.val = t.val / 2 * 512 + r.val)
    (K : Fin 5632) (hK : K.val = t.val % 2 * 2816 + k.val) :
    iblk m c 0 t (ix2 r k) = m ((c : Thread nD τ).loc main_arg0) (ix2 R K) := by
  obtain ⟨⟨h0, h1⟩, -⟩ := index_facts t
  unfold iblk
  rw [View.read_apply]
  show V m c main_v0 _ = _
  rw [V_rows]
  congr 1
  funext a
  apply Fin.ext
  match a with
  | ⟨0, _⟩ => show win0_0.index t 0 * 512 + 1 * r.val = R.val; rw [h0, hR]; omega
  | ⟨1, _⟩ => show win0_0.index t 1 * 2816 + 1 * k.val = K.val; rw [h1, hK]; omega

theorem blk_w (c : Dev nD) (t : Fin cfg0.N) (k : Fin 2816) (l : Fin 2048) (K : Fin 5632) (hK : K.val = t.val % 2 * 2816 + k.val) :
    iblk m c 1 t (ix2 k l) = m ((c : Thread nD τ).loc main_arg1) (ix2 K l) := by
  obtain ⟨-, ⟨h0, h1⟩, -⟩ := index_facts t
  unfold iblk
  rw [View.read_apply]
  show V m c main_v1 _ = _
  rw [V_w]
  congr 1
  funext a
  apply Fin.ext
  match a with
  | ⟨0, _⟩ => show win0_1.index t 0 * 2816 + 1 * k.val = K.val; rw [h0, hK]; omega
  | ⟨1, _⟩ => show win0_1.index t 1 * 2048 + 1 * l.val = l.val; rw [h1]; omega

theorem blk_r (c : Dev nD) (t : Fin cfg0.N) (r : Fin 512) (k : Fin 2048) (R : Fin 8192) (hR : R.val = t.val / 2 * 512 + r.val) :
    iblk m c 2 t (ix2 r k) = m ((c : Thread nD τ).loc main_arg2) (ix2 R k) := by
  obtain ⟨-, -, ⟨h0, h1⟩, -⟩ := index_facts t
  unfold iblk
  rw [View.read_apply]
  show V m c main_arg2 _ = _
  rw [V_main_arg2]
  congr 1
  funext a
  apply Fin.ext
  match a with
  | ⟨0, _⟩ => show win0_2.index t 0 * 512 + 1 * r.val = R.val; rw [h0, hR]; omega
  | ⟨1, _⟩ => show win0_2.index t 1 * 2048 + 1 * k.val = k.val; rw [h1]; omega

theorem blk_g (c : Dev nD) (t : Fin cfg0.N) (l : Fin 2048) :
    iblk m c 3 t (ix2 0 l) = m ((c : Thread nD τ).loc main_arg3) (ix1 l) := by
  obtain ⟨-, -, -, ⟨h0, h1⟩, -⟩ := index_facts t
  rw [← V_g m c l]
  unfold iblk
  rw [View.read_apply]
  show V m c main_v2 _ = V m c main_v2 _
  congr 1
  funext a
  apply Fin.ext
  match a with
  | ⟨0, _⟩ => show win0_3.index t 0 * 1 + 1 * 0 = 0; rw [h0]
  | ⟨1, _⟩ => show win0_3.index t 1 * 2048 + 1 * l.val = l.val; rw [h1]; omega

theorem blk_h (c : Dev nD) (t : Fin cfg0.N) (l : Fin 2048) :
    iblk m c 4 t (ix2 0 l) = m ((c : Thread nD τ).loc main_arg4) (ix1 l) := by
  obtain ⟨-, -, -, -, ⟨h0, h1⟩, -⟩ := index_facts t
  rw [← V_h m c l]
  unfold iblk
  rw [View.read_apply]
  show V m c main_v3 _ = V m c main_v3 _
  congr 1
  funext a
  apply Fin.ext
  match a with
  | ⟨0, _⟩ => show win0_4.index t 0 * 1 + 1 * 0 = 0; rw [h0]
  | ⟨1, _⟩ => show win0_4.index t 1 * 2048 + 1 * l.val = l.val; rw [h1]; omega

/-- Where an index of block `t` lies in the first result. -/
theorem emb5 (t : Fin cfg0.N) (r : Fin 512) (l : Fin 2048) (R : Fin 8192) (hR : R.val = t.val / 2 * 512 + r.val) :
    ((cfg0.win 5).blk t).view.emb (ix2 r l) = (ix2 R l : S8192x2048.Idx) := by
  obtain ⟨-, -, -, -, -, ⟨h0, h1⟩, -⟩ := index_facts t
  funext a
  apply Fin.ext
  match a with
  | ⟨0, _⟩ => show win0_5.index t 0 * 512 + 1 * r.val = R.val; rw [h0, hR]; omega
  | ⟨1, _⟩ => show win0_5.index t 1 * 2048 + 1 * l.val = l.val; rw [h1]; omega

/-- … and in the second. -/
theorem emb6 (t : Fin cfg0.N) (r : Fin 512) (l : Fin 2048) (R : Fin 8192) (hR : R.val = t.val / 2 * 512 + r.val) :
    ((cfg0.win 6).blk t).view.emb (ix2 r l) = (ix2 R l : S8192x2048.Idx) := by
  obtain ⟨-, -, -, -, -, -, ⟨h0, h1⟩⟩ := index_facts t
  funext a
  apply Fin.ext
  match a with
  | ⟨0, _⟩ => show win0_6.index t 0 * 512 + 1 * r.val = R.val; rw [h0, hR]; omega
  | ⟨1, _⟩ => show win0_6.index t 1 * 2048 + 1 * l.val = l.val; rw [h1]; omega

/-- What the arguments make of the first result. -/
abbrev G5 (c : Dev nD) : Buf (Elt Ideal) ((c : Thread nD τ).loc main_v4_0) :=
  stream (m ((c : Thread nD τ).loc main_arg0)) (m ((c : Thread nD τ).loc main_arg1)) (m ((c : Thread nD τ).loc main_arg2))
    (m ((c : Thread nD τ).loc main_arg3))
/-- … and of the second. -/
abbrev G6 (c : Dev nD) : Buf (Elt Ideal) ((c : Thread nD τ).loc main_v4_1) :=
  nextIn (m ((c : Thread nD τ).loc main_arg0)) (m ((c : Thread nD τ).loc main_arg1)) (m ((c : Thread nD τ).loc main_arg2))
    (m ((c : Thread nD τ).loc main_arg3)) (m ((c : Thread nD τ).loc main_arg4))

section Body
variable (c : Dev nD) (i : grid0.Coords) (a2 : Memref sig .tc .vmem S512x2816 .bf16) (h2 : a2.IsWhole)
  (a3 : Memref sig .tc .vmem S2816x2048 .bf16) (h3 : a3.IsWhole) (a4 : Memref sig .tc .vmem S512x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S512x2048 .f32) (h7 : a7.IsWhole) (a8 : Memref sig .tc .vmem S512x2048 .bf16) (h8 : a8.IsWhole)
  (a9 : Memref sig .tc .vmem S512x2048 .f32) (h9 : a9.IsWhole)
  (x0 : Vec Ideal S512x2816 .bf16) (x1 : Vec Ideal S2816x2048 .bf16) (x2 : Vec Ideal S512x2048 .f32)
  (x3 x4 : Vec Ideal S1x2048 .f32) (xs : Vec Ideal S512x2048 .f32)

/-- What the first of a pair of points leaves in the running sum. -/
theorem sum_first (hc0 : cond0_0 i) (hc1 : ¬cond0_1 i) :
    sout0_A_0 c i a2 h2 a3 h3 a4 h4 a5 h5 a6 h6 a7 h7 a8 h8 a9 h9 hc0 hc1 x0 x1 x2 x3 x4 = k0_pay2 k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h6.read_unread, h9.read_unread,
    View.ld_unit_zero (S := S512x2048) hz2, View.ld_unit_zero (S := S512x2816) hz2, View.ld_unit_zero (S := S2816x2048) hz2,
    View.ld_unit_zero (S := S1x2048) hz2, shapeCast_self]

/-- What the second leaves in the first result's block, over the running sum. -/
theorem out5_eq (hc0 : ¬cond0_0 i) (hc1 : cond0_1 i) :
    out0_B_5 c i a2 h2 a3 h3 a4 h4 a5 h5 a6 h6 a7 h7 a8 h8 a9 h9 hc0 hc1 x0 x1 x2 x3 x4 xs = k0_pay3 x2 (k0_pay2 xs x0 x1) x3 := by
  unfold out0_B_5
  rw [View.read_writes_eq_canon _ _ _ (cover0_B_5 c i a2 h2 a3 h3 a4 h4 a5 h5 a6 h6 a7 h7 a8 h8 a9 h9 hc0 hc1 x0 x1 x2 x3 x4 xs)]
  unfold kernelRun0_B
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h6.read_unread, h9.read_unread,
    View.ld_unit_zero (S := S512x2048) hz2, View.ld_unit_zero (S := S512x2816) hz2, View.ld_unit_zero (S := S2816x2048) hz2,
    View.ld_unit_zero (S := S1x2048) hz2, shapeCast_self]

/-- … and in the second's. -/
theorem out6_eq (hc0 : ¬cond0_0 i) (hc1 : cond0_1 i) :
    out0_B_6 c i a2 h2 a3 h3 a4 h4 a5 h5 a6 h6 a7 h7 a8 h8 a9 h9 hc0 hc1 x0 x1 x2 x3 x4 xs = k0_pay4 x2 (k0_pay2 xs x0 x1) x3 x4 := by
  unfold out0_B_6
  rw [View.read_writes_eq_canon _ _ _ (cover0_B_6 c i a2 h2 a3 h3 a4 h4 a5 h5 a6 h6 a7 h7 a8 h8 a9 h9 hc0 hc1 x0 x1 x2 x3 x4 xs)]
  unfold kernelRun0_B
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h6.read_unread, h9.read_unread,
    View.ld_unit_zero (S := S512x2048) hz2, View.ld_unit_zero (S := S512x2816) hz2, View.ld_unit_zero (S := S2816x2048) hz2,
    View.ld_unit_zero (S := S1x2048) hz2, shapeCast_self]
end Body

/-- The body adds a row of its product to the running sum. -/
theorem prod_at (xs : Vec Ideal S512x2048 .f32) (x0 : Vec Ideal S512x2816 .bf16) (x1 : Vec Ideal S2816x2048 .bf16) (r : Fin 512) (j : Fin 2048) :
    k0_pay2 xs x0 x1 (ix2 r j) = xs (ix2 r j) + ∑ k : Fin 2816, x0 (ix2 r k) * x1 (ix2 k j) := by
  pointwise [k0_pay2]

/-- The running sum starts at zero. -/
theorem zero_at (r : Fin 512) (j : Fin 2048) : (k0_pay1 (F := Ideal)) (ix2 r j) = 0 := by
  pointwise [k0_pay1]

/-- The two halves of the inner dimension make the whole row. -/
theorem row_halves (x : Vec Ideal S8192x5632 .f32) (w : Vec Ideal S5632x2048 .f32) (R : Fin 8192) (j : Fin 2048) :
    row x w R j = (∑ k : Fin 2816, x (ix2 R (Fin.castAdd 2816 k)) * w (ix2 (Fin.castAdd 2816 k) j))
      + ∑ k : Fin 2816, x (ix2 R (Fin.natAdd 2816 k)) * w (ix2 (Fin.natAdd 2816 k) j) :=
  Fin.sum_univ_add (fun k : Fin (2816 + 2816) => x (ix2 R k) * w (ix2 k j))

/-- What the running sum holds after both points of a pair, over the two points' blocks. -/
theorem acc_at (c : Dev nD) (s t : Fin cfg0.N) (hs : s.val % 2 = 0) (hst : t.val = s.val + 1) (r : Fin 512) (R : Fin 8192)
    (hR : R.val = t.val / 2 * 512 + r.val) (j : Fin 2048) :
    k0_pay2 (k0_pay2 k0_pay1 (iblk m c 0 s) (iblk m c 1 s)) (iblk m c 0 t) (iblk m c 1 t) (ix2 r j)
      = row (m ((c : Thread nD τ).loc main_arg0)) (m ((c : Thread nD τ).loc main_arg1)) R j := by
  rw [prod_at, prod_at, zero_at, row_halves, zero_add]
  congr 1
  · refine Finset.sum_congr rfl fun k _ => ?_
    rw [blk_x m c s r k R (by rw [hR]; omega) (Fin.castAdd 2816 k) (by show k.val = _; omega),
      blk_w m c s k j (Fin.castAdd 2816 k) (by show k.val = _; omega)]
  · refine Finset.sum_congr rfl fun k _ => ?_
    rw [blk_x m c t r k R hR (Fin.natAdd 2816 k) (by show 2816 + k.val = _; omega),
      blk_w m c t k j (Fin.natAdd 2816 k) (by show 2816 + k.val = _; omega)]

/-- The running sum the second point of a pair finds. -/
theorem carried (c : Dev nD) (s t : Fin cfg0.N) (hs : s.val % 2 = 0) (hst : t.val = s.val + 1) (h : t.val - 1 < cfg0.N) :
    (outsAt0 m c (t.val - 1) h).2.2 = k0_pay2 k0_pay1 (iblk m c 0 s) (iblk m c 1 s) := by
  obtain ⟨n, hn⟩ := s
  have e : t.val - 1 = n := by dsimp only at hst; omega
  have hs' : ¬n % 2 = 1 := by dsimp only at hs; omega
  subst e
  rw [outsAt0_A m c ⟨t.val - 1, hn⟩ hs hs']
  dsimp only
  rw [sum_first]

/-- The first payload, row by row. -/
theorem pay3_at (x2 a : Vec Ideal S512x2048 .f32) (x3 : Vec Ideal S1x2048 .f32) (r : Fin 512) (j : Fin 2048) :
    k0_pay3 x2 a x3 (ix2 r j) = RowNorm.resid (fun j => a (ix2 r j)) (fun j => x2 (ix2 r j)) (fun j => x3 (ix2 0 j)) j := by
  pointwise [k0_pay3, RowNorm.resid, RowNorm.norm]

/-- The second payload, row by row. -/
theorem pay4_at (x2 a : Vec Ideal S512x2048 .f32) (x3 x4 : Vec Ideal S1x2048 .f32) (r : Fin 512) (j : Fin 2048) :
    k0_pay4 x2 a x3 x4 (ix2 r j) = RowNorm.next (fun j => a (ix2 r j)) (fun j => x2 (ix2 r j)) (fun j => x3 (ix2 0 j))
      (fun j => x4 (ix2 0 j)) j := by
  have h := pay3_at x2 a x3 r
  unfold k0_pay4 RowNorm.next
  generalize k0_pay3 x2 a x3 = y at h ⊢
  pointwise [RowNorm.norm]
  simp only [h]

/-- What the second point of a pair writes back to the first result. -/
theorem flushed5_eq (c : Dev nD) (t : Fin cfg0.N) (hf : (cfg0.win 5).flush t = true) :
    (dats m 0 c).flushed 5 t = ((cfg0.win 5).blk t).view.read (Elt Ideal) (G5 m c) := by
  have ht : t.val < 32 := t.isLt
  have h1 : t.val % 2 = 1 := (flush0_5 t).1 hf
  obtain ⟨s, hst⟩ : ∃ s : Fin cfg0.N, t.val = s.val + 1 := ⟨⟨t.val - 1, by have := t.isLt; omega⟩, by dsimp only; omega⟩
  have hs : s.val % 2 = 0 := by omega
  rw [Value.flushed5_B m c t (by omega) h1, out5_eq, carried m c s t hs hst]
  funext j
  rw [View.read_apply]
  show k0_pay3 (iblk m c 2 t) (k0_pay2 (k0_pay2 k0_pay1 (iblk m c 0 s) (iblk m c 1 s)) (iblk m c 0 t) (iblk m c 1 t)) (iblk m c 3 t) j = G5 m c (((cfg0.win 5).blk t).view.emb j)
  idx_vars j
  obtain ⟨R, hR⟩ : ∃ R : Fin 8192, R.val = t.val / 2 * 512 + j0.val := ⟨⟨_, by have := j0.isLt; omega⟩, rfl⟩
  rw [emb5 t j0 j1 R hR, pay3_at]
  simp only [acc_at m c s t hs hst j0 R hR, blk_r m c t j0 _ R hR, blk_g]
  rfl

/-- What the second point of a pair writes back to the second result. -/
theorem flushed6_eq (c : Dev nD) (t : Fin cfg0.N) (hf : (cfg0.win 6).flush t = true) :
    (dats m 0 c).flushed 6 t = ((cfg0.win 6).blk t).view.read (Elt Ideal) (G6 m c) := by
  have ht : t.val < 32 := t.isLt
  have h1 : t.val % 2 = 1 := (flush0_6 t).1 hf
  obtain ⟨s, hst⟩ : ∃ s : Fin cfg0.N, t.val = s.val + 1 := ⟨⟨t.val - 1, by have := t.isLt; omega⟩, by dsimp only; omega⟩
  have hs : s.val % 2 = 0 := by omega
  rw [Value.flushed6_B m c t (by omega) h1, out6_eq, carried m c s t hs hst]
  funext j
  rw [View.read_apply]
  show k0_pay4 (iblk m c 2 t) (k0_pay2 (k0_pay2 k0_pay1 (iblk m c 0 s) (iblk m c 1 s)) (iblk m c 0 t) (iblk m c 1 t)) (iblk m c 3 t) (iblk m c 4 t) j = G6 m c (((cfg0.win 6).blk t).view.emb j)
  idx_vars j
  obtain ⟨R, hR⟩ : ∃ R : Fin 8192, R.val = t.val / 2 * 512 + j0.val := ⟨⟨_, by have := j0.isLt; omega⟩, rfl⟩
  rw [emb6 t j0 j1 R hR, pay4_at]
  simp only [acc_at m c s t hs hst j0 R hR, blk_r m c t j0 _ R hR, blk_g, blk_h]
  rfl

/-- The point that writes a row back. -/
theorem point_of (i : S8192x2048.Idx) : ∃ t : Fin grid0.N, t.val = 2 * ((i 0 : Nat) / 512) + 1 :=
  ⟨⟨2 * ((i 0 : Nat) / 512) + 1, by
    have h0 : (i 0 : Nat) < 8192 := (i 0).isLt
    show _ < 32
    omega⟩, rfl⟩

theorem cover5 (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  obtain ⟨t, ht⟩ := point_of i
  obtain ⟨-, -, -, -, -, ⟨e0, e1⟩, -⟩ := index_facts t
  refine ⟨t, (flush0_5 t).2 (by omega), ?_⟩
  show i ∈ ((View.whole main_v4_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [e0]; omega
  | ⟨1, _⟩ =>
    show win0_5.index t 1 * 2048 ≤ (i 1 : Nat) ∧ (i 1 : Nat) < win0_5.index t 1 * 2048 + 2048
    rw [e1]; omega

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  obtain ⟨t, ht⟩ := point_of i
  obtain ⟨-, -, -, -, -, -, ⟨e0, e1⟩⟩ := index_facts t
  refine ⟨t, (flush0_6 t).2 (by omega), ?_⟩
  show i ∈ ((View.whole main_v4_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [e0]; omega
  | ⟨1, _⟩ =>
    show win0_6.index t 1 * 2048 ≤ (i 1 : Nat) ∧ (i 1 : Nat) < win0_6.index t 1 * 2048 + 2048
    rw [e1]; omega

theorem final5 (c : Dev nD) : (dats m 0 c).arrAt 5 cfg0.N = G5 m c :=
  (dats m 0 c).arrAt_eq_of_cover 5 _ (flushed5_eq m c) cover5
theorem final6 (c : Dev nD) : (dats m 0 c).arrAt 6 cfg0.N = G6 m c :=
  (dats m 0 c).arrAt_eq_of_cover 6 _ (flushed6_eq m c) cover6

end Cert.DownIdeal.Residual

namespace Cert.DownRefIdeal.Residual

open Cert.DownRefIdeal Cert.DownRefIdeal.Gen

variable (m : (ℓ : Loc nD τ sig) → Buf (Elt Ideal) ℓ) (ρ : Dev nD → PrngReg)

/-- The reference's run: the same stream and the same next input. -/
theorem run : θ_run defs (onTc (τ := τ) (main (F := Ideal))) ⟨m, fun _ => 0, ρ⟩ fun r => ∀ c : Dev nD,
      r.2.mem ((c : Thread nD τ).loc main_v14)
        = Cert.DownIdeal.Residual.stream (m ((c : Thread nD τ).loc main_arg0)) (m ((c : Thread nD τ).loc main_arg1))
          (m ((c : Thread nD τ).loc main_arg2)) (m ((c : Thread nD τ).loc main_arg3))
      ∧ r.2.mem ((c : Thread nD τ).loc main_v28)
        = Cert.DownIdeal.Residual.nextIn (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2.1.trans ?_, (h c).2.2⟩) (Value.run m ρ)
  · funext i
    idx_vars i
    pointwise [Cert.DownIdeal.Residual.stream, Cert.DownIdeal.Residual.row, RowNorm.resid, RowNorm.norm]
  · funext i
    idx_vars i
    pointwise [Cert.DownIdeal.Residual.nextIn, Cert.DownIdeal.Residual.row, RowNorm.next, RowNorm.resid, RowNorm.norm]

end Cert.DownRefIdeal.Residual

namespace Cert.Proof

/-- Kernel and reference agree on equal arguments. -/
theorem algebraic_Down : Cert.algebraic_DownIdeal_DownRefIdeal :=
  fun m ρ m' ρ' _ hag => ⟨fun c => Cert.DownIdeal.Residual.G5 m c, fun c => Cert.DownIdeal.Residual.G6 m c,
    (θ_run _ _ _).mono (fun _ h c => ⟨(h c).1.trans (Cert.DownIdeal.Residual.final5 m c),
      (h c).2.1.trans (Cert.DownIdeal.Residual.final6 m c), (h c).2.2⟩)
      (Cert.DownIdeal.Value.run_blocks m ρ),
    (θ_run _ _ _).mono (fun _ h c => by
      obtain ⟨e0, e1, e2, e3, e4⟩ := hag c
      exact ⟨(h c).1.trans (by rw [e0, e1, e2, e3]), (h c).2.1.trans (by rw [e0, e1, e2, e3, e4]), (h c).2.2⟩)
      (Cert.DownRefIdeal.Residual.run m' ρ')⟩

end Cert.Proof

end
-- ==== Proof.OutValue.lean ====
/-
  The output projection with its residual and norms: the tiled kernel and the plain
  `y = resid + rmsnorm(x @ w, g)`, `rmsnorm(y, g_next)` leave the same functions of the arguments.

  Grid point `t` makes rows 512·t … of both results from one product of whole rows.
-/
module

public import proofs.«01_k».proof.Defs
public import proofs.«01_k».proof.Proof.Gen.OutIdeal.Value
public import proofs.«01_k».proof.Proof.Gen.OutRefIdeal
public import proofs.«01_k».proof.Proof.Gen.OutRefIdeal.Run
public import proofs.«01_k».proof.Proof.RowNorm
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutIdeal.Residual

open Cert.OutIdeal Cert.OutIdeal.Gen

/-- Row `R` of the product. -/
def row (x : Vec Ideal S8192x2048 .f32) (w : Vec Ideal S2048x2048 .f32) (R : Fin 8192) (j : Fin 2048) : Ideal .f32 :=
  ∑ k : Fin 2048, x (ix2 R k) * w (ix2 k j)

/-- The new residual stream. -/
def stream (x : Vec Ideal S8192x2048 .f32) (w : Vec Ideal S2048x2048 .f32) (r : Vec Ideal S8192x2048 .f32)
    (g : Vec Ideal S2048 .f32) : Vec Ideal S8192x2048 .f32 := fun i =>
  RowNorm.resid (row x w (i 0)) (fun j => r (ix2 (i 0) j)) (fun j => g (ix1 j)) (i 1)

/-- The next part's input. -/
def nextIn (x : Vec Ideal S8192x2048 .f32) (w : Vec Ideal S2048x2048 .f32) (r : Vec Ideal S8192x2048 .f32)
    (g h : Vec Ideal S2048 .f32) : Vec Ideal S8192x2048 .bf16 := fun i =>
  RowNorm.next (row x w (i 0)) (fun j => r (ix2 (i 0) j)) (fun j => g (ix1 j)) (fun j => h (ix1 j)) (i 1)

variable (m : (ℓ : Loc nD τ sig) → Buf (Elt Ideal) ℓ) (ρ : Dev nD → PrngReg)

theorem hz2 : (![0, 0] : Fin 2 → Nat) = fun _ => 0 := funext fun a => by fin_cases a <;> rfl

/-- Which blocks grid point `t` works on. -/
theorem index_facts : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0)
      ∧ (win0_3.index t 0 = 0 ∧ win0_3.index t 1 = 0)
      ∧ (win0_4.index t 0 = 0 ∧ win0_4.index t 1 = 0)
      ∧ (win0_5.index t 0 = t.val ∧ win0_5.index t 1 = 0)
      ∧ (win0_6.index t 0 = t.val ∧ win0_6.index t 1 = 0) := by
  decide +kernel

/-- Every grid point writes its blocks back. -/
theorem flush_all : ∀ t : Fin grid0.N, win0_5.flush t = true ∧ win0_6.flush t = true := by
  decide +kernel

theorem V_rows (c : Dev nD) (i : S8192x2048.Idx) : V m c main_v0 i = m ((c : Thread nD τ).loc main_arg0) i := by
  unfold V
  simp only [hostOps0]
  after_reads_at
theorem V_w (c : Dev nD) (i : S2048x2048.Idx) : V m c main_v1 i = m ((c : Thread nD τ).loc main_arg1) i := by
  unfold V
  simp only [hostOps0]
  after_reads_at
theorem V_g (c : Dev nD) (j : Fin 2048) : V m c main_v2 (ix2 0 j : S1x2048.Idx) = m ((c : Thread nD τ).loc main_arg3) (ix1 j) := by
  unfold V
  simp only [hostOps0]
  after_reads_at
theorem V_h (c : Dev nD) (j : Fin 2048) : V m c main_v3 (ix2 0 j : S1x2048.Idx) = m ((c : Thread nD τ).loc main_arg4) (ix1 j) := by
  unfold V
  simp only [hostOps0]
  after_reads_at

/-! The blocks grid point `t` reads, as entries of the arguments. -/

theorem blk_x (c : Dev nD) (t : Fin cfg0.N) (r : Fin 512) (k : Fin 2048) (R : Fin 8192) (hR : R.val = t.val * 512 + r.val) :
    iblk m c 0 t (ix2 r k) = m ((c : Thread nD τ).loc main_arg0) (ix2 R k) := by
  obtain ⟨⟨h0, h1⟩, -⟩ := index_facts t
  unfold iblk
  rw [View.read_apply]
  show V m c main_v0 _ = _
  rw [V_rows]
  congr 1
  funext a
  apply Fin.ext
  match a with
  | ⟨0, _⟩ => show win0_0.index t 0 * 512 + 1 * r.val = R.val; rw [h0, hR]; omega
  | ⟨1, _⟩ => show win0_0.index t 1 * 2048 + 1 * k.val = k.val; rw [h1]; omega

theorem blk_w (c : Dev nD) (t : Fin cfg0.N) (k : Fin 2048) (l : Fin 2048) :
    iblk m c 1 t (ix2 k l) = m ((c : Thread nD τ).loc main_arg1) (ix2 k l) := by
  obtain ⟨-, ⟨h0, h1⟩, -⟩ := index_facts t
  unfold iblk
  rw [View.read_apply]
  show V m c main_v1 _ = _
  rw [V_w]
  congr 1
  funext a
  apply Fin.ext
  match a with
  | ⟨0, _⟩ => show win0_1.index t 0 * 2048 + 1 * k.val = k.val; rw [h0]; omega
  | ⟨1, _⟩ => show win0_1.index t 1 * 2048 + 1 * l.val = l.val; rw [h1]; omega

theorem blk_r (c : Dev nD) (t : Fin cfg0.N) (r : Fin 512) (k : Fin 2048) (R : Fin 8192) (hR : R.val = t.val * 512 + r.val) :
    iblk m c 2 t (ix2 r k) = m ((c : Thread nD τ).loc main_arg2) (ix2 R k) := by
  obtain ⟨-, -, ⟨h0, h1⟩, -⟩ := index_facts t
  unfold iblk
  rw [View.read_apply]
  show V m c main_arg2 _ = _
  rw [V_main_arg2]
  congr 1
  funext a
  apply Fin.ext
  match a with
  | ⟨0, _⟩ => show win0_2.index t 0 * 512 + 1 * r.val = R.val; rw [h0, hR]; omega
  | ⟨1, _⟩ => show win0_2.index t 1 * 2048 + 1 * k.val = k.val; rw [h1]; omega

theorem blk_g (c : Dev nD) (t : Fin cfg0.N) (l : Fin 2048) :
    iblk m c 3 t (ix2 0 l) = m ((c : Thread nD τ).loc main_arg3) (ix1 l) := by
  obtain ⟨-, -, -, ⟨h0, h1⟩, -⟩ := index_facts t
  rw [← V_g m c l]
  unfold iblk
  rw [View.read_apply]
  show V m c main_v2 _ = V m c main_v2 _
  congr 1
  funext a
  apply Fin.ext
  match a with
  | ⟨0, _⟩ => show win0_3.index t 0 * 1 + 1 * 0 = 0; rw [h0]
  | ⟨1, _⟩ => show win0_3.index t 1 * 2048 + 1 * l.val = l.val; rw [h1]; omega

theorem blk_h (c : Dev nD) (t : Fin cfg0.N) (l : Fin 2048) :
    iblk m c 4 t (ix2 0 l) = m ((c : Thread nD τ).loc main_arg4) (ix1 l) := by
  obtain ⟨-, -, -, -, ⟨h0, h1⟩, -⟩ := index_facts t
  rw [← V_h m c l]
  unfold iblk
  rw [View.read_apply]
  show V m c main_v3 _ = V m c main_v3 _
  congr 1
  funext a
  apply Fin.ext
  match a with
  | ⟨0, _⟩ => show win0_4.index t 0 * 1 + 1 * 0 = 0; rw [h0]
  | ⟨1, _⟩ => show win0_4.index t 1 * 2048 + 1 * l.val = l.val; rw [h1]; omega

/-- Where an index of block `t` lies in the first result. -/
theorem emb5 (t : Fin cfg0.N) (r : Fin 512) (l : Fin 2048) (R : Fin 8192) (hR : R.val = t.val * 512 + r.val) :
    ((cfg0.win 5).blk t).view.emb (ix2 r l) = (ix2 R l : S8192x2048.Idx) := by
  obtain ⟨-, -, -, -, -, ⟨h0, h1⟩, -⟩ := index_facts t
  funext a
  apply Fin.ext
  match a with
  | ⟨0, _⟩ => show win0_5.index t 0 * 512 + 1 * r.val = R.val; rw [h0, hR]; omega
  | ⟨1, _⟩ => show win0_5.index t 1 * 2048 + 1 * l.val = l.val; rw [h1]; omega

/-- … and in the second. -/
theorem emb6 (t : Fin cfg0.N) (r : Fin 512) (l : Fin 2048) (R : Fin 8192) (hR : R.val = t.val * 512 + r.val) :
    ((cfg0.win 6).blk t).view.emb (ix2 r l) = (ix2 R l : S8192x2048.Idx) := by
  obtain ⟨-, -, -, -, -, -, ⟨h0, h1⟩⟩ := index_facts t
  funext a
  apply Fin.ext
  match a with
  | ⟨0, _⟩ => show win0_6.index t 0 * 512 + 1 * r.val = R.val; rw [h0, hR]; omega
  | ⟨1, _⟩ => show win0_6.index t 1 * 2048 + 1 * l.val = l.val; rw [h1]; omega

/-- What the arguments make of the first result. -/
abbrev G5 (c : Dev nD) : Buf (Elt Ideal) ((c : Thread nD τ).loc main_v4_0) :=
  stream (m ((c : Thread nD τ).loc main_arg0)) (m ((c : Thread nD τ).loc main_arg1)) (m ((c : Thread nD τ).loc main_arg2))
    (m ((c : Thread nD τ).loc main_arg3))
/-- … and of the second. -/
abbrev G6 (c : Dev nD) : Buf (Elt Ideal) ((c : Thread nD τ).loc main_v4_1) :=
  nextIn (m ((c : Thread nD τ).loc main_arg0)) (m ((c : Thread nD τ).loc main_arg1)) (m ((c : Thread nD τ).loc main_arg2))
    (m ((c : Thread nD τ).loc main_arg3)) (m ((c : Thread nD τ).loc main_arg4))

section Body
variable (c : Dev nD) (i : grid0.Coords) (a2 : Memref sig .tc .vmem S512x2048 .bf16) (h2 : a2.IsWhole)
  (a3 : Memref sig .tc .vmem S2048x2048 .bf16) (h3 : a3.IsWhole) (a4 : Memref sig .tc .vmem S512x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S512x2048 .f32) (h7 : a7.IsWhole) (a8 : Memref sig .tc .vmem S512x2048 .bf16) (h8 : a8.IsWhole)
  (a9 : Memref sig .tc .vmem S512x2048 .f32) (h9 : a9.IsWhole) (hc0 : cond0_0 i) (hc1 : cond0_1 i)
  (x0 : Vec Ideal S512x2048 .bf16) (x1 : Vec Ideal S2048x2048 .bf16) (x2 : Vec Ideal S512x2048 .f32)
  (x3 x4 : Vec Ideal S1x2048 .f32)

/-- What the body leaves in the first result's block. -/
theorem out5_eq : out0_A_5 c i a2 h2 a3 h3 a4 h4 a5 h5 a6 h6 a7 h7 a8 h8 a9 h9 hc0 hc1 x0 x1 x2 x3 x4
    = k0_pay3 x2 (k0_pay2 k0_pay1 x0 x1) x3 := by
  unfold out0_A_5
  rw [View.read_writes_eq_canon _ _ _ (cover0_A_5 c i a2 h2 a3 h3 a4 h4 a5 h5 a6 h6 a7 h7 a8 h8 a9 h9 hc0 hc1 x0 x1 x2 x3 x4)]
  unfold kernelRun0_A
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h6.read_unread,
    View.ld_unit_zero (S := S512x2048) hz2, View.ld_unit_zero (S := S2048x2048) hz2, View.ld_unit_zero (S := S1x2048) hz2, shapeCast_self]

/-- … and in the second's. -/
theorem out6_eq : out0_A_6 c i a2 h2 a3 h3 a4 h4 a5 h5 a6 h6 a7 h7 a8 h8 a9 h9 hc0 hc1 x0 x1 x2 x3 x4
    = k0_pay4 x2 (k0_pay2 k0_pay1 x0 x1) x3 x4 := by
  unfold out0_A_6
  rw [View.read_writes_eq_canon _ _ _ (cover0_A_6 c i a2 h2 a3 h3 a4 h4 a5 h5 a6 h6 a7 h7 a8 h8 a9 h9 hc0 hc1 x0 x1 x2 x3 x4)]
  unfold kernelRun0_A
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h6.read_unread,
    View.ld_unit_zero (S := S512x2048) hz2, View.ld_unit_zero (S := S2048x2048) hz2, View.ld_unit_zero (S := S1x2048) hz2, shapeCast_self]
end Body

/-- A row of the body's product. -/
theorem prod_at (x0 : Vec Ideal S512x2048 .bf16) (x1 : Vec Ideal S2048x2048 .bf16) (r : Fin 512) (j : Fin 2048) :
    k0_pay2 k0_pay1 x0 x1 (ix2 r j) = ∑ k : Fin 2048, x0 (ix2 r k) * x1 (ix2 k j) := by
  pointwise [k0_pay2, k0_pay1]

/-- The first payload, row by row. -/
theorem pay3_at (x2 a : Vec Ideal S512x2048 .f32) (x3 : Vec Ideal S1x2048 .f32) (r : Fin 512) (j : Fin 2048) :
    k0_pay3 x2 a x3 (ix2 r j) = RowNorm.resid (fun j => a (ix2 r j)) (fun j => x2 (ix2 r j)) (fun j => x3 (ix2 0 j)) j := by
  pointwise [k0_pay3, RowNorm.resid, RowNorm.norm]

/-- The second payload, row by row. -/
theorem pay4_at (x2 a : Vec Ideal S512x2048 .f32) (x3 x4 : Vec Ideal S1x2048 .f32) (r : Fin 512) (j : Fin 2048) :
    k0_pay4 x2 a x3 x4 (ix2 r j) = RowNorm.next (fun j => a (ix2 r j)) (fun j => x2 (ix2 r j)) (fun j => x3 (ix2 0 j))
      (fun j => x4 (ix2 0 j)) j := by
  have h := pay3_at x2 a x3 r
  unfold k0_pay4 RowNorm.next
  generalize k0_pay3 x2 a x3 = y at h ⊢
  pointwise [RowNorm.norm]
  simp only [h]

/-- What point `t` writes back to the first result is block `t` of the new stream. -/
theorem flushed5_eq (c : Dev nD) (t : Fin cfg0.N) :
    (dats m 0 c).flushed 5 t = ((cfg0.win 5).blk t).view.read (Elt Ideal) (G5 m c) := by
  have ht : t.val < 16 := t.isLt
  rw [Value.flushed5_A, out5_eq]
  funext j
  rw [View.read_apply]
  show k0_pay3 (iblk m c 2 t) (k0_pay2 k0_pay1 (iblk m c 0 t) (iblk m c 1 t)) (iblk m c 3 t) j = G5 m c (((cfg0.win 5).blk t).view.emb j)
  idx_vars j
  obtain ⟨R, hR⟩ : ∃ R : Fin 8192, R.val = t.val * 512 + j0.val := ⟨⟨_, by have := j0.isLt; omega⟩, rfl⟩
  rw [emb5 t j0 j1 R hR, pay3_at]
  simp only [prod_at, blk_x m c t j0 _ R hR, blk_w, blk_r m c t j0 _ R hR, blk_g]
  rfl

/-- What point `t` writes back to the second result is block `t` of the next input. -/
theorem flushed6_eq (c : Dev nD) (t : Fin cfg0.N) :
    (dats m 0 c).flushed 6 t = ((cfg0.win 6).blk t).view.read (Elt Ideal) (G6 m c) := by
  have ht : t.val < 16 := t.isLt
  rw [Value.flushed6_A, out6_eq]
  funext j
  rw [View.read_apply]
  show k0_pay4 (iblk m c 2 t) (k0_pay2 k0_pay1 (iblk m c 0 t) (iblk m c 1 t)) (iblk m c 3 t) (iblk m c 4 t) j
    = G6 m c (((cfg0.win 6).blk t).view.emb j)
  idx_vars j
  obtain ⟨R, hR⟩ : ∃ R : Fin 8192, R.val = t.val * 512 + j0.val := ⟨⟨_, by have := j0.isLt; omega⟩, rfl⟩
  rw [emb6 t j0 j1 R hR, pay4_at]
  simp only [prod_at, blk_x m c t j0 _ R hR, blk_w, blk_r m c t j0 _ R hR, blk_g, blk_h]
  rfl

/-- The point whose blocks hold a row. -/
theorem point_of (i : S8192x2048.Idx) : ∃ t : Fin grid0.N, t.val = (i 0 : Nat) / 512 :=
  ⟨⟨(i 0 : Nat) / 512, by
    have h0 : (i 0 : Nat) < 8192 := (i 0).isLt
    show _ < 16
    omega⟩, rfl⟩

theorem cover5 (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  obtain ⟨t, ht⟩ := point_of i
  obtain ⟨-, -, -, -, -, ⟨e0, e1⟩, -⟩ := index_facts t
  refine ⟨t, (flush_all t).1, ?_⟩
  show i ∈ ((View.whole main_v4_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [e0]; omega
  | ⟨1, _⟩ =>
    show win0_5.index t 1 * 2048 ≤ (i 1 : Nat) ∧ (i 1 : Nat) < win0_5.index t 1 * 2048 + 2048
    rw [e1]; omega

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  obtain ⟨t, ht⟩ := point_of i
  obtain ⟨-, -, -, -, -, -, ⟨e0, e1⟩⟩ := index_facts t
  refine ⟨t, (flush_all t).2, ?_⟩
  show i ∈ ((View.whole main_v4_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [e0]; omega
  | ⟨1, _⟩ =>
    show win0_6.index t 1 * 2048 ≤ (i 1 : Nat) ∧ (i 1 : Nat) < win0_6.index t 1 * 2048 + 2048
    rw [e1]; omega

theorem final5 (c : Dev nD) : (dats m 0 c).arrAt 5 cfg0.N = G5 m c :=
  (dats m 0 c).arrAt_eq_of_cover 5 _ (fun t _ => flushed5_eq m c t) cover5
theorem final6 (c : Dev nD) : (dats m 0 c).arrAt 6 cfg0.N = G6 m c :=
  (dats m 0 c).arrAt_eq_of_cover 6 _ (fun t _ => flushed6_eq m c t) cover6

end Cert.OutIdeal.Residual

namespace Cert.OutRefIdeal.Residual

open Cert.OutRefIdeal Cert.OutRefIdeal.Gen

variable (m : (ℓ : Loc nD τ sig) → Buf (Elt Ideal) ℓ) (ρ : Dev nD → PrngReg)

/-- The reference's run: the same stream and the same next input. -/
theorem run : θ_run defs (onTc (τ := τ) (main (F := Ideal))) ⟨m, fun _ => 0, ρ⟩ fun r => ∀ c : Dev nD,
      r.2.mem ((c : Thread nD τ).loc main_v14)
        = Cert.OutIdeal.Residual.stream (m ((c : Thread nD τ).loc main_arg0)) (m ((c : Thread nD τ).loc main_arg1))
          (m ((c : Thread nD τ).loc main_arg2)) (m ((c : Thread nD τ).loc main_arg3))
      ∧ r.2.mem ((c : Thread nD τ).loc main_v28)
        = Cert.OutIdeal.Residual.nextIn (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2.1.trans ?_, (h c).2.2⟩) (Value.run m ρ)
  · funext i
    idx_vars i
    pointwise [Cert.OutIdeal.Residual.stream, Cert.OutIdeal.Residual.row, RowNorm.resid, RowNorm.norm]
  · funext i
    idx_vars i
    pointwise [Cert.OutIdeal.Residual.nextIn, Cert.OutIdeal.Residual.row, RowNorm.next, RowNorm.resid, RowNorm.norm]

end Cert.OutRefIdeal.Residual

namespace Cert.Proof

/-- Kernel and reference agree on equal arguments. -/
theorem algebraic_Out : Cert.algebraic_OutIdeal_OutRefIdeal :=
  fun m ρ m' ρ' _ hag => ⟨fun c => Cert.OutIdeal.Residual.G5 m c, fun c => Cert.OutIdeal.Residual.G6 m c,
    (θ_run _ _ _).mono (fun _ h c => ⟨(h c).1.trans (Cert.OutIdeal.Residual.final5 m c),
      (h c).2.1.trans (Cert.OutIdeal.Residual.final6 m c), (h c).2.2⟩)
      (Cert.OutIdeal.Value.run_blocks m ρ),
    (θ_run _ _ _).mono (fun _ h c => by
      obtain ⟨e0, e1, e2, e3, e4⟩ := hag c
      exact ⟨(h c).1.trans (by rw [e0, e1, e2, e3]), (h c).2.1.trans (by rw [e0, e1, e2, e3, e4]), (h c).2.2⟩)
      (Cert.OutRefIdeal.Residual.run m' ρ')⟩

end Cert.Proof

end
-- ==== Proof.MergeValue.lean ====
/-
  The gated merge of the two branches: what the tiled kernel leaves in its result array, and what the plain
  `sigmoid(g_a) * (y_a @ w_a) + sigmoid(g_b) * (y_b @ w_b)` leaves in its own, are the same function of the arguments.

  Grid point (a, b) makes rows 2048·a … and columns 256·b … of the result; the gates are two column ranges of `proj`.
-/
module

public import proofs.«01_k».proof.Defs
public import proofs.«01_k».proof.Proof.Gen.MergeIdeal.Value
public import proofs.«01_k».proof.Proof.Gen.MergeRefIdeal
public import proofs.«01_k».proof.Proof.Gen.MergeRefIdeal.Run
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MergeIdeal.Merged

open Cert.MergeIdeal Cert.MergeIdeal.Gen

/-- The logistic function of the extended reals, as both programs compute it. -/
def logistic (x : Ideal .f32) : Ideal .f32 := Ideal.div 1 (1 + Ideal.exp (-x))

/-- The merge of the two branches, index by index. -/
def merged (ya yb : Vec Ideal S8192x1024 .f32) (wa wb : Vec Ideal S2x1024x2048 .f32) (p : Vec Ideal S8192x10496 .f32) :
    Vec Ideal S8192x2048 .bf16 := fun i =>
  logistic (p (ix2 (i 0) ⟨6400 + (i 1).val, by have : (i 1).val < 2048 := (i 1).isLt; omega⟩))
      * (∑ k : Fin 1024, ya (ix2 (i 0) k) * wa (ix3 0 k (i 1)))
    + logistic (p (ix2 (i 0) ⟨8448 + (i 1).val, by have : (i 1).val < 2048 := (i 1).isLt; omega⟩))
      * (∑ k : Fin 1024, yb (ix2 (i 0) k) * wb (ix3 0 k (i 1)))

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Which blocks grid point `t` works on. -/
theorem index_facts : ∀ t : Fin grid0.N,
    (win0_0.index t 0 = t.val / 8 ∧ win0_0.index t 1 = 0) ∧ (win0_1.index t 0 = t.val / 8 ∧ win0_1.index t 1 = 0)
      ∧ (win0_2.index t 0 = 0 ∧ win0_2.index t 1 = 0 ∧ win0_2.index t 2 = t.val % 8)
      ∧ (win0_3.index t 0 = 0 ∧ win0_3.index t 1 = 0 ∧ win0_3.index t 2 = t.val % 8)
      ∧ (win0_4.index t 0 = t.val / 8 ∧ win0_4.index t 1 = 25 + t.val % 8)
      ∧ (win0_5.index t 0 = t.val / 8 ∧ win0_5.index t 1 = 33 + t.val % 8)
      ∧ (win0_6.index t 0 = t.val / 8 ∧ win0_6.index t 1 = t.val % 8) := by
  decide +kernel

/-- Every grid point writes its block back. -/
theorem flush_all : ∀ t : Fin grid0.N, win0_6.flush t = true := by
  decide +kernel

theorem V_rows_a (c : Dev nD) (i : S8192x1024.Idx) : V m c main_v0 i = m ((c : Thread nD τ).loc main_arg0) i := by
  unfold V
  simp only [hostOps0]
  after_reads_at
theorem V_rows_b (c : Dev nD) (i : S8192x1024.Idx) : V m c main_v1 i = m ((c : Thread nD τ).loc main_arg1) i := by
  unfold V
  simp only [hostOps0]
  after_reads_at

/-! The blocks grid point `t` reads, as entries of the arguments. -/

theorem blk_a (c : Dev nD) (t : Fin cfg0.N) (r : Fin 2048) (k : Fin 1024) (R : Fin 8192) (hR : R.val = t.val / 8 * 2048 + r.val) :
    iblk m c 0 t (ix2 r k) = m ((c : Thread nD τ).loc main_arg0) (ix2 R k) := by
  obtain ⟨⟨h0, h1⟩, -⟩ := index_facts t
  unfold iblk
  rw [View.read_apply]
  show V m c main_v0 _ = _
  rw [V_rows_a]
  congr 1
  funext a
  apply Fin.ext
  match a with
  | ⟨0, _⟩ => show win0_0.index t 0 * 2048 + 1 * r.val = R.val; rw [h0, hR]; omega
  | ⟨1, _⟩ => show win0_0.index t 1 * 1024 + 1 * k.val = k.val; rw [h1]; omega

theorem blk_b (c : Dev nD) (t : Fin cfg0.N) (r : Fin 2048) (k : Fin 1024) (R : Fin 8192) (hR : R.val = t.val / 8 * 2048 + r.val) :
    iblk m c 1 t (ix2 r k) = m ((c : Thread nD τ).loc main_arg1) (ix2 R k) := by
  obtain ⟨-, ⟨h0, h1⟩, -⟩ := index_facts t
  unfold iblk
  rw [View.read_apply]
  show V m c main_v1 _ = _
  rw [V_rows_b]
  congr 1
  funext a
  apply Fin.ext
  match a with
  | ⟨0, _⟩ => show win0_1.index t 0 * 2048 + 1 * r.val = R.val; rw [h0, hR]; omega
  | ⟨1, _⟩ => show win0_1.index t 1 * 1024 + 1 * k.val = k.val; rw [h1]; omega

theorem blk_wa (c : Dev nD) (t : Fin cfg0.N) (k : Fin 1024) (l : Fin 256) (L : Fin 2048) (hL : L.val = t.val % 8 * 256 + l.val) :
    iblk m c 2 t (ix3 0 k l) = m ((c : Thread nD τ).loc main_arg2) (ix3 0 k L) := by
  obtain ⟨-, -, ⟨h0, h1, h2⟩, -⟩ := index_facts t
  unfold iblk
  rw [View.read_apply]
  show m _ _ = m _ _
  congr 1
  funext a
  apply Fin.ext
  match a with
  | ⟨0, _⟩ => show win0_2.index t 0 * 1 + 1 * 0 = 0; rw [h0]
  | ⟨1, _⟩ => show win0_2.index t 1 * 1024 + 1 * k.val = k.val; rw [h1]; omega
  | ⟨2, _⟩ => show win0_2.index t 2 * 256 + 1 * l.val = L.val; rw [h2, hL]; omega

theorem blk_wb (c : Dev nD) (t : Fin cfg0.N) (k : Fin 1024) (l : Fin 256) (L : Fin 2048) (hL : L.val = t.val % 8 * 256 + l.val) :
    iblk m c 3 t (ix3 0 k l) = m ((c : Thread nD τ).loc main_arg3) (ix3 0 k L) := by
  obtain ⟨-, -, -, ⟨h0, h1, h2⟩, -⟩ := index_facts t
  unfold iblk
  rw [View.read_apply]
  show m _ _ = m _ _
  congr 1
  funext a
  apply Fin.ext
  match a with
  | ⟨0, _⟩ => show win0_3.index t 0 * 1 + 1 * 0 = 0; rw [h0]
  | ⟨1, _⟩ => show win0_3.index t 1 * 1024 + 1 * k.val = k.val; rw [h1]; omega
  | ⟨2, _⟩ => show win0_3.index t 2 * 256 + 1 * l.val = L.val; rw [h2, hL]; omega

theorem blk_ga (c : Dev nD) (t : Fin cfg0.N) (r : Fin 2048) (l : Fin 256) (R : Fin 8192) (hR : R.val = t.val / 8 * 2048 + r.val)
    (L : Fin 10496) (hL : L.val = 6400 + (t.val % 8 * 256 + l.val)) :
    iblk m c 4 t (ix2 r l) = m ((c : Thread nD τ).loc main_arg4) (ix2 R L) := by
  obtain ⟨-, -, -, -, ⟨h0, h1⟩, -⟩ := index_facts t
  unfold iblk
  rw [View.read_apply]
  show m _ _ = m _ _
  congr 1
  funext a
  apply Fin.ext
  match a with
  | ⟨0, _⟩ => show win0_4.index t 0 * 2048 + 1 * r.val = R.val; rw [h0, hR]; omega
  | ⟨1, _⟩ => show win0_4.index t 1 * 256 + 1 * l.val = L.val; rw [h1, hL]; omega

theorem blk_gb (c : Dev nD) (t : Fin cfg0.N) (r : Fin 2048) (l : Fin 256) (R : Fin 8192) (hR : R.val = t.val / 8 * 2048 + r.val)
    (L : Fin 10496) (hL : L.val = 8448 + (t.val % 8 * 256 + l.val)) :
    iblk m c 5 t (ix2 r l) = m ((c : Thread nD τ).loc main_arg4) (ix2 R L) := by
  obtain ⟨-, -, -, -, -, ⟨h0, h1⟩, -⟩ := index_facts t
  unfold iblk
  rw [View.read_apply]
  show m _ _ = m _ _
  congr 1
  funext a
  apply Fin.ext
  match a with
  | ⟨0, _⟩ => show win0_5.index t 0 * 2048 + 1 * r.val = R.val; rw [h0, hR]; omega
  | ⟨1, _⟩ => show win0_5.index t 1 * 256 + 1 * l.val = L.val; rw [h1, hL]; omega

/-- Where an index of block `t` lies in the result. -/
theorem emb_out (t : Fin cfg0.N) (r : Fin 2048) (l : Fin 256) (R : Fin 8192) (hR : R.val = t.val / 8 * 2048 + r.val)
    (L : Fin 2048) (hL : L.val = t.val % 8 * 256 + l.val) :
    ((cfg0.win 6).blk t).view.emb (ix2 r l) = (ix2 R L : S8192x2048.Idx) := by
  obtain ⟨-, -, -, -, -, -, ⟨h0, h1⟩⟩ := index_facts t
  funext a
  apply Fin.ext
  match a with
  | ⟨0, _⟩ => show win0_6.index t 0 * 2048 + 1 * r.val = R.val; rw [h0, hR]; omega
  | ⟨1, _⟩ => show win0_6.index t 1 * 256 + 1 * l.val = L.val; rw [h1, hL]; omega

/-- What the arguments merge to. -/
abbrev G (c : Dev nD) : Buf (Elt Ideal) ((c : Thread nD τ).loc main_v2) :=
  merged (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the merge. -/
theorem flushed_eq (c : Dev nD) (t : Fin cfg0.N) :
    (dats m 0 c).flushed 6 t = ((cfg0.win 6).blk t).view.read (Elt Ideal) (G m c) := by
  have ht : t.val < 32 := t.isLt
  rw [Value.flushed6]
  unfold out0_6
  rw [View.canon_unit_zero hz2]
  simp only [View.ld_unit_zero (S := S2048x1024) hz2, View.ld_unit_zero (S := S1x1024x256) hz3, View.ld_unit_zero (S := S2048x256) hz2]
  funext j
  rw [View.read_apply]
  show k0_pay1 (iblk m c 0 t) (iblk m c 2 t) (iblk m c 1 t) (iblk m c 3 t) (iblk m c 4 t) (iblk m c 5 t) j
    = G m c (((cfg0.win 6).blk t).view.emb j)
  idx_vars j
  obtain ⟨R, hR⟩ : ∃ R : Fin 8192, R.val = t.val / 8 * 2048 + j0.val := ⟨⟨_, by have := j0.isLt; omega⟩, rfl⟩
  obtain ⟨L, hL⟩ : ∃ L : Fin 2048, L.val = t.val % 8 * 256 + j1.val := ⟨⟨_, by have := j1.isLt; omega⟩, rfl⟩
  rw [emb_out t j0 j1 R hR L hL]
  pointwise [k0_pay1, G, merged, logistic]
  simp only [blk_a m c t j0 _ R hR, blk_b m c t j0 _ R hR, blk_wa m c t _ j1 L hL, blk_wb m c t _ j1 L hL,
    blk_ga m c t j0 j1 R hR ⟨6400 + L.val, by have := L.isLt; omega⟩ (by rw [← hL]),
    blk_gb m c t j0 j1 R hR ⟨8448 + L.val, by have := L.isLt; omega⟩ (by rw [← hL])]
  rw [zero_sub, zero_sub]

/-- An index lies in block `t` when its coordinates do. -/
theorem mem_blk (t : Fin cfg0.N) (i : S8192x2048.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v2).slice (win0_6.rect t)).set ↔ _
  rw [View.set_slice_whole, Rect.mem_set_unit]

/-- The blocks cover the result. -/
theorem cover (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  let t : Fin grid0.N := ⟨(i 0 : Nat) / 2048 * 8 + (i 1 : Nat) / 256, by
    show _ < 32
    omega⟩
  obtain ⟨-, -, -, -, -, -, ⟨e0, e1⟩⟩ := index_facts t
  refine ⟨t, flush_all t, (mem_blk t i).2 fun a => ?_⟩
  have ht : t.val = (i 0 : Nat) / 2048 * 8 + (i 1 : Nat) / 256 := rfl
  match a with
  | ⟨0, _⟩ =>
    show win0_6.index t 0 * 2048 ≤ (i 0 : Nat) ∧ (i 0 : Nat) < win0_6.index t 0 * 2048 + 2048
    rw [e0]; omega
  | ⟨1, _⟩ =>
    show win0_6.index t 1 * 256 ≤ (i 1 : Nat) ∧ (i 1 : Nat) < win0_6.index t 1 * 256 + 256
    rw [e1]; omega

/-- The result array ends as the merge. -/
theorem final (c : Dev nD) : (dats m 0 c).arrAt 6 cfg0.N = G m c :=
  (dats m 0 c).arrAt_eq_of_cover 6 _ (fun t _ => flushed_eq m c t) cover

end Cert.MergeIdeal.Merged

namespace Cert.MergeRefIdeal.Merged

open Cert.MergeRefIdeal Cert.MergeRefIdeal.Gen

variable (m : (ℓ : Loc nD τ sig) → Buf (Elt Ideal) ℓ) (ρ : Dev nD → PrngReg)

/-- The reference's run: the same merge. -/
theorem run : θ_run defs (onTc (τ := τ) (main (F := Ideal))) ⟨m, fun _ => 0, ρ⟩ fun r => ∀ c : Dev nD,
      r.2.mem ((c : Thread nD τ).loc main_v23)
        = Cert.MergeIdeal.Merged.merged (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2⟩) (Value.run m ρ)
  funext i
  idx_vars i
  pointwise [Cert.MergeIdeal.Merged.merged, Cert.MergeIdeal.Merged.logistic]

end Cert.MergeRefIdeal.Merged

namespace Cert.Proof

/-- Kernel and reference agree on equal arguments. -/
theorem algebraic_Merge : Cert.algebraic_MergeIdeal_MergeRefIdeal :=
  fun m ρ m' ρ' _ hag => ⟨fun c => Cert.MergeIdeal.Merged.G m c,
    (θ_run _ _ _).mono (fun _ h c => ⟨(h c).1.trans (Cert.MergeIdeal.Merged.final m c), (h c).2⟩)
      (Cert.MergeIdeal.Value.run_blocks m ρ),
    (θ_run _ _ _).mono (fun _ h c => ⟨(h c).1.trans (by
      obtain ⟨e0, e1, e2, e3, e4⟩ := hag c
      rw [e0, e1, e2, e3, e4]), (h c).2⟩) (Cert.MergeRefIdeal.Merged.run m' ρ')⟩

end Cert.Proof

end
-- ==== Proof.LastValue.lean ====
/-
  The last layer's down projection with its residual and norm: the tiled kernel and the plain
  `y = resid + rmsnorm(x @ w, g)` leave the same function of the arguments.

  Grid points 2a and 2a + 1 make rows 512·a … of the result: each adds the product over its half of the inner
  dimension, and the second ends the rows.
-/
module

public import proofs.«01_k».proof.Defs
public import proofs.«01_k».proof.Proof.Gen.LastIdeal.Value
public import proofs.«01_k».proof.Proof.Gen.LastRefIdeal
public import proofs.«01_k».proof.Proof.Gen.LastRefIdeal.Run
public import proofs.«01_k».proof.Proof.RowNorm
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.LastIdeal.Residual

open Cert.LastIdeal Cert.LastIdeal.Gen

/-- Row `R` of the product. -/
def row (x : Vec Ideal S8192x5632 .f32) (w : Vec Ideal S5632x2048 .f32) (R : Fin 8192) (j : Fin 2048) : Ideal .f32 :=
  ∑ k : Fin 5632, x (ix2 R k) * w (ix2 k j)

/-- The new residual stream. -/
def stream (x : Vec Ideal S8192x5632 .f32) (w : Vec Ideal S5632x2048 .f32) (r : Vec Ideal S8192x2048 .f32)
    (g : Vec Ideal S2048 .f32) : Vec Ideal S8192x2048 .f32 := fun i =>
  RowNorm.resid (row x w (i 0)) (fun j => r (ix2 (i 0) j)) (fun j => g (ix1 j)) (i 1)

variable (m : (ℓ : Loc nD τ sig) → Buf (Elt Ideal) ℓ) (ρ : Dev nD → PrngReg)

theorem hz2 : (![0, 0] : Fin 2 → Nat) = fun _ => 0 := funext fun a => by fin_cases a <;> rfl

/-- Which blocks grid point `t` works on. -/
theorem index_facts : ∀ t : Fin grid0.N,
    (win0_0.index t 0 = t.val / 2 ∧ win0_0.index t 1 = t.val % 2) ∧ (win0_1.index t 0 = t.val % 2 ∧ win0_1.index t 1 = 0)
      ∧ (win0_2.index t 0 = t.val / 2 ∧ win0_2.index t 1 = 0)
      ∧ (win0_3.index t 0 = 0 ∧ win0_3.index t 1 = 0)
      ∧ (win0_4.index t 0 = t.val / 2 ∧ win0_4.index t 1 = 0) := by
  decide +kernel

theorem V_rows (c : Dev nD) (i : S8192x5632.Idx) : V m c main_v0 i = m ((c : Thread nD τ).loc main_arg0) i := by
  unfold V
  simp only [hostOps0]
  after_reads_at
theorem V_w (c : Dev nD) (i : S5632x2048.Idx) : V m c main_v1 i = m ((c : Thread nD τ).loc main_arg1) i := by
  unfold V
  simp only [hostOps0]
  after_reads_at
theorem V_g (c : Dev nD) (j : Fin 2048) : V m c main_v2 (ix2 0 j : S1x2048.Idx) = m ((c : Thread nD τ).loc main_arg3) (ix1 j) := by
  unfold V
  simp only [hostOps0]
  after_reads_at
/-! The blocks grid point `t` reads, as entries of the arguments. -/

theorem blk_x (c : Dev nD) (t : Fin cfg0.N) (r : Fin 512) (k : Fin 2816) (R : Fin 8192) (hR : R.val = t.val / 2 * 512 + r.val)
    (K : Fin 5632) (hK : K.val = t.val % 2 * 2816 + k.val) :
    iblk m c 0 t (ix2 r k) = m ((c : Thread nD τ).loc main_arg0) (ix2 R K) := by
  obtain ⟨⟨h0, h1⟩, -⟩ := index_facts t
  unfold iblk
  rw [View.read_apply]
  show V m c main_v0 _ = _
  rw [V_rows]
  congr 1
  funext a
  apply Fin.ext
  match a with
  | ⟨0, _⟩ => show win0_0.index t 0 * 512 + 1 * r.val = R.val; rw [h0, hR]; omega
  | ⟨1, _⟩ => show win0_0.index t 1 * 2816 + 1 * k.val = K.val; rw [h1, hK]; omega

theorem blk_w (c : Dev nD) (t : Fin cfg0.N) (k : Fin 2816) (l : Fin 2048) (K : Fin 5632) (hK : K.val = t.val % 2 * 2816 + k.val) :
    iblk m c 1 t (ix2 k l) = m ((c : Thread nD τ).loc main_arg1) (ix2 K l) := by
  obtain ⟨-, ⟨h0, h1⟩, -⟩ := index_facts t
  unfold iblk
  rw [View.read_apply]
  show V m c main_v1 _ = _
  rw [V_w]
  congr 1
  funext a
  apply Fin.ext
  match a with
  | ⟨0, _⟩ => show win0_1.index t 0 * 2816 + 1 * k.val = K.val; rw [h0, hK]; omega
  | ⟨1, _⟩ => show win0_1.index t 1 * 2048 + 1 * l.val = l.val; rw [h1]; omega

theorem blk_r (c : Dev nD) (t : Fin cfg0.N) (r : Fin 512) (k : Fin 2048) (R : Fin 8192) (hR : R.val = t.val / 2 * 512 + r.val) :
    iblk m c 2 t (ix2 r k) = m ((c : Thread nD τ).loc main_arg2) (ix2 R k) := by
  obtain ⟨-, -, ⟨h0, h1⟩, -⟩ := index_facts t
  unfold iblk
  rw [View.read_apply]
  show V m c main_arg2 _ = _
  rw [V_main_arg2]
  congr 1
  funext a
  apply Fin.ext
  match a with
  | ⟨0, _⟩ => show win0_2.index t 0 * 512 + 1 * r.val = R.val; rw [h0, hR]; omega
  | ⟨1, _⟩ => show win0_2.index t 1 * 2048 + 1 * k.val = k.val; rw [h1]; omega

theorem blk_g (c : Dev nD) (t : Fin cfg0.N) (l : Fin 2048) :
    iblk m c 3 t (ix2 0 l) = m ((c : Thread nD τ).loc main_arg3) (ix1 l) := by
  obtain ⟨-, -, -, ⟨h0, h1⟩, -⟩ := index_facts t
  rw [← V_g m c l]
  unfold iblk
  rw [View.read_apply]
  show V m c main_v2 _ = V m c main_v2 _
  congr 1
  funext a
  apply Fin.ext
  match a with
  | ⟨0, _⟩ => show win0_3.index t 0 * 1 + 1 * 0 = 0; rw [h0]
  | ⟨1, _⟩ => show win0_3.index t 1 * 2048 + 1 * l.val = l.val; rw [h1]; omega

/-- Where an index of block `t` lies in the result. -/
theorem emb4 (t : Fin cfg0.N) (r : Fin 512) (l : Fin 2048) (R : Fin 8192) (hR : R.val = t.val / 2 * 512 + r.val) :
    ((cfg0.win 4).blk t).view.emb (ix2 r l) = (ix2 R l : S8192x2048.Idx) := by
  obtain ⟨-, -, -, -, h0, h1⟩ := index_facts t
  funext a
  apply Fin.ext
  match a with
  | ⟨0, _⟩ => show win0_4.index t 0 * 512 + 1 * r.val = R.val; rw [h0, hR]; omega
  | ⟨1, _⟩ => show win0_4.index t 1 * 2048 + 1 * l.val = l.val; rw [h1]; omega

/-- What the arguments make of the result. -/
abbrev G4 (c : Dev nD) : Buf (Elt Ideal) ((c : Thread nD τ).loc main_v3) :=
  stream (m ((c : Thread nD τ).loc main_arg0)) (m ((c : Thread nD τ).loc main_arg1)) (m ((c : Thread nD τ).loc main_arg2))
    (m ((c : Thread nD τ).loc main_arg3))
section Body
variable (c : Dev nD) (i : grid0.Coords) (a2 : Memref sig .tc .vmem S512x2816 .bf16) (h2 : a2.IsWhole)
  (a3 : Memref sig .tc .vmem S2816x2048 .bf16) (h3 : a3.IsWhole) (a4 : Memref sig .tc .vmem S512x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S512x2048 .f32) (h7 : a7.IsWhole)
  (x0 : Vec Ideal S512x2816 .bf16) (x1 : Vec Ideal S2816x2048 .bf16) (x2 : Vec Ideal S512x2048 .f32)
  (x3 : Vec Ideal S1x2048 .f32) (xs : Vec Ideal S512x2048 .f32)

/-- What the first of a pair of points leaves in the running sum. -/
theorem sum_first (hc0 : cond0_0 i) (hc1 : ¬cond0_1 i) :
    sout0_A_0 c i a2 h2 a3 h3 a4 h4 a5 h5 a6 h6 a7 h7 hc0 hc1 x0 x1 x2 x3 = k0_pay2 k0_pay1 x0 x1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h7.read_unread,
    View.ld_unit_zero (S := S512x2048) hz2, View.ld_unit_zero (S := S512x2816) hz2, View.ld_unit_zero (S := S2816x2048) hz2,
    View.ld_unit_zero (S := S1x2048) hz2, shapeCast_self]

/-- What the second leaves in the result's block, over the running sum. -/
theorem out4_eq (hc0 : ¬cond0_0 i) (hc1 : cond0_1 i) :
    out0_B_4 c i a2 h2 a3 h3 a4 h4 a5 h5 a6 h6 a7 h7 hc0 hc1 x0 x1 x2 x3 xs = k0_pay3 x2 (k0_pay2 xs x0 x1) x3 := by
  unfold out0_B_4
  rw [View.read_writes_eq_canon _ _ _ (cover0_B_4 c i a2 h2 a3 h3 a4 h4 a5 h5 a6 h6 a7 h7 hc0 hc1 x0 x1 x2 x3 xs)]
  unfold kernelRun0_B
  dsimp only
  sl_unfold_words
  simp only [View.canon_cons_unit_zero (S := S512x2048) hz2, View.canon_unit_zero (S := S512x2048) hz2,
    View.readCov_unit_zero (S := S512x2048) _ hz2, View.readCov_cons_toLoadRect, View.readAt_eq_ld,
    h2.read_unread, h3.read_unread, h4.read_unread, h5.read_unread, h7.read_unread,
    View.ld_unit_zero (S := S512x2048) hz2, View.ld_unit_zero (S := S512x2816) hz2, View.ld_unit_zero (S := S2816x2048) hz2,
    View.ld_unit_zero (S := S1x2048) hz2, shapeCast_self]

end Body

/-- The body adds a row of its product to the running sum. -/
theorem prod_at (xs : Vec Ideal S512x2048 .f32) (x0 : Vec Ideal S512x2816 .bf16) (x1 : Vec Ideal S2816x2048 .bf16) (r : Fin 512) (j : Fin 2048) :
    k0_pay2 xs x0 x1 (ix2 r j) = xs (ix2 r j) + ∑ k : Fin 2816, x0 (ix2 r k) * x1 (ix2 k j) := by
  pointwise [k0_pay2]

/-- The running sum starts at zero. -/
theorem zero_at (r : Fin 512) (j : Fin 2048) : (k0_pay1 (F := Ideal)) (ix2 r j) = 0 := by
  pointwise [k0_pay1]

/-- The two halves of the inner dimension make the whole row. -/
theorem row_halves (x : Vec Ideal S8192x5632 .f32) (w : Vec Ideal S5632x2048 .f32) (R : Fin 8192) (j : Fin 2048) :
    row x w R j = (∑ k : Fin 2816, x (ix2 R (Fin.castAdd 2816 k)) * w (ix2 (Fin.castAdd 2816 k) j))
      + ∑ k : Fin 2816, x (ix2 R (Fin.natAdd 2816 k)) * w (ix2 (Fin.natAdd 2816 k) j) :=
  Fin.sum_univ_add (fun k : Fin (2816 + 2816) => x (ix2 R k) * w (ix2 k j))

/-- What the running sum holds after both points of a pair, over the two points' blocks. -/
theorem acc_at (c : Dev nD) (s t : Fin cfg0.N) (hs : s.val % 2 = 0) (hst : t.val = s.val + 1) (r : Fin 512) (R : Fin 8192)
    (hR : R.val = t.val / 2 * 512 + r.val) (j : Fin 2048) :
    k0_pay2 (k0_pay2 k0_pay1 (iblk m c 0 s) (iblk m c 1 s)) (iblk m c 0 t) (iblk m c 1 t) (ix2 r j)
      = row (m ((c : Thread nD τ).loc main_arg0)) (m ((c : Thread nD τ).loc main_arg1)) R j := by
  rw [prod_at, prod_at, zero_at, row_halves, zero_add]
  congr 1
  · refine Finset.sum_congr rfl fun k _ => ?_
    rw [blk_x m c s r k R (by rw [hR]; omega) (Fin.castAdd 2816 k) (by show k.val = _; omega),
      blk_w m c s k j (Fin.castAdd 2816 k) (by show k.val = _; omega)]
  · refine Finset.sum_congr rfl fun k _ => ?_
    rw [blk_x m c t r k R hR (Fin.natAdd 2816 k) (by show 2816 + k.val = _; omega),
      blk_w m c t k j (Fin.natAdd 2816 k) (by show 2816 + k.val = _; omega)]

/-- The running sum the second point of a pair finds. -/
theorem carried (c : Dev nD) (s t : Fin cfg0.N) (hs : s.val % 2 = 0) (hst : t.val = s.val + 1) (h : t.val - 1 < cfg0.N) :
    (outsAt0 m c (t.val - 1) h).2 = k0_pay2 k0_pay1 (iblk m c 0 s) (iblk m c 1 s) := by
  obtain ⟨n, hn⟩ := s
  have e : t.val - 1 = n := by dsimp only at hst; omega
  have hs' : ¬n % 2 = 1 := by dsimp only at hs; omega
  subst e
  rw [outsAt0_A m c ⟨t.val - 1, hn⟩ hs hs']
  dsimp only
  rw [sum_first]

/-- The payload, row by row. -/
theorem pay3_at (x2 a : Vec Ideal S512x2048 .f32) (x3 : Vec Ideal S1x2048 .f32) (r : Fin 512) (j : Fin 2048) :
    k0_pay3 x2 a x3 (ix2 r j) = RowNorm.resid (fun j => a (ix2 r j)) (fun j => x2 (ix2 r j)) (fun j => x3 (ix2 0 j)) j := by
  pointwise [k0_pay3, RowNorm.resid, RowNorm.norm]

/-- What the second point of a pair writes back to the result. -/
theorem flushed4_eq (c : Dev nD) (t : Fin cfg0.N) (hf : (cfg0.win 4).flush t = true) :
    (dats m 0 c).flushed 4 t = ((cfg0.win 4).blk t).view.read (Elt Ideal) (G4 m c) := by
  have ht : t.val < 32 := t.isLt
  have h1 : t.val % 2 = 1 := (flush0_4 t).1 hf
  obtain ⟨s, hst⟩ : ∃ s : Fin cfg0.N, t.val = s.val + 1 := ⟨⟨t.val - 1, by have := t.isLt; omega⟩, by dsimp only; omega⟩
  have hs : s.val % 2 = 0 := by omega
  rw [Value.flushed4_B m c t (by omega) h1, out4_eq, carried m c s t hs hst]
  funext j
  rw [View.read_apply]
  show k0_pay3 (iblk m c 2 t) (k0_pay2 (k0_pay2 k0_pay1 (iblk m c 0 s) (iblk m c 1 s)) (iblk m c 0 t) (iblk m c 1 t)) (iblk m c 3 t) j = G4 m c (((cfg0.win 4).blk t).view.emb j)
  idx_vars j
  obtain ⟨R, hR⟩ : ∃ R : Fin 8192, R.val = t.val / 2 * 512 + j0.val := ⟨⟨_, by have := j0.isLt; omega⟩, rfl⟩
  rw [emb4 t j0 j1 R hR, pay3_at]
  simp only [acc_at m c s t hs hst j0 R hR, blk_r m c t j0 _ R hR, blk_g]
  rfl

/-- The point that writes a row back. -/
theorem point_of (i : S8192x2048.Idx) : ∃ t : Fin grid0.N, t.val = 2 * ((i 0 : Nat) / 512) + 1 :=
  ⟨⟨2 * ((i 0 : Nat) / 512) + 1, by
    have h0 : (i 0 : Nat) < 8192 := (i 0).isLt
    show _ < 32
    omega⟩, rfl⟩

theorem cover4 (i : S8192x2048.Idx) : ∃ t : Fin cfg0.N, (cfg0.win 4).flush t = true ∧ i ∈ ((cfg0.win 4).blk t).view.set := by
  have h0 : (i 0 : Nat) < 8192 := (i 0).isLt
  have h1 : (i 1 : Nat) < 2048 := (i 1).isLt
  obtain ⟨t, ht⟩ := point_of i
  obtain ⟨-, -, -, -, e0, e1⟩ := index_facts t
  refine ⟨t, (flush0_4 t).2 (by omega), ?_⟩
  show i ∈ ((View.whole main_v3).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [e0]; omega
  | ⟨1, _⟩ =>
    show win0_4.index t 1 * 2048 ≤ (i 1 : Nat) ∧ (i 1 : Nat) < win0_4.index t 1 * 2048 + 2048
    rw [e1]; omega

theorem final4 (c : Dev nD) : (dats m 0 c).arrAt 4 cfg0.N = G4 m c :=
  (dats m 0 c).arrAt_eq_of_cover 4 _ (flushed4_eq m c) cover4
end Cert.LastIdeal.Residual

namespace Cert.LastRefIdeal.Residual

open Cert.LastRefIdeal Cert.LastRefIdeal.Gen

variable (m : (ℓ : Loc nD τ sig) → Buf (Elt Ideal) ℓ) (ρ : Dev nD → PrngReg)

/-- The reference's run: the same stream. -/
theorem run : θ_run defs (onTc (τ := τ) (main (F := Ideal))) ⟨m, fun _ => 0, ρ⟩ fun r => ∀ c : Dev nD,
      r.2.mem ((c : Thread nD τ).loc main_v14)
        = Cert.LastIdeal.Residual.stream (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (Value.run m ρ)
  funext i
  idx_vars i
  pointwise [Cert.LastIdeal.Residual.stream, Cert.LastIdeal.Residual.row, RowNorm.resid, RowNorm.norm]

end Cert.LastRefIdeal.Residual

namespace Cert.Proof

/-- Kernel and reference agree on equal arguments. -/
theorem algebraic_Last : Cert.algebraic_LastIdeal_LastRefIdeal :=
  fun m ρ m' ρ' _ hag => ⟨fun c => Cert.LastIdeal.Residual.G4 m c,
    (θ_run _ _ _).mono (fun _ h c => ⟨(h c).1.trans (Cert.LastIdeal.Residual.final4 m c), (h c).2⟩)
      (Cert.LastIdeal.Value.run_blocks m ρ),
    (θ_run _ _ _).mono (fun _ h c => by
      obtain ⟨e0, e1, e2, e3⟩ := hag c
      exact ⟨(h c).1.trans (by rw [e0, e1, e2, e3]), (h c).2⟩)
      (Cert.LastRefIdeal.Residual.run m' ρ')⟩

end Cert.Proof

end
-- ==== Proof.LastSampleValue.lean ====
/-
  The last layer's down projection of the sample group, with its residual and norm: the tiled kernel and the plain
  `y = resid + rmsnorm(x @ w, g)` leave the same function of the arguments.

  The two grid points make all 32 rows: each adds the product over its half of the inner dimension, and the second
  ends the rows.
-/
module

public import proofs.«01_k».proof.Defs
public import proofs.«01_k».proof.Proof.Gen.LastSampleIdeal.Value
public import proofs.«01_k».proof.Proof.Gen.LastSampleRefIdeal
public import proofs.«01_k».proof.Proof.Gen.LastSampleRefIdeal.Run
public import proofs.«01_k».proof.Proof.RowNorm
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.LastSampleIdeal.Residual

open Cert.LastSampleIdeal Cert.LastSampleIdeal.Gen

/-- Row `R` of the product. -/
def row (x : Vec Ideal S32x5632 .f32) (w : Vec Ideal S5632x2048 .f32) (R : Fin 32) (j : Fin 2048) : Ideal .f32 :=
  ∑ k : Fin 5632, x (ix2 R k) * w (ix2 k j)

/-- The new residual stream. -/
def stream (x : Vec Ideal S32x5632 .f32) (w : Vec Ideal S5632x2048 .f32) (r : Vec Ideal S32x2048 .f32)
    (g : Vec Ideal S2048 .f32) : Vec Ideal S32x2048 .f32 := fun i =>
  RowNorm.resid (row x w (i 0)) (fun j => r (ix2 (i 0) j)) (fun j => g (ix1 j)) (i 1)

variable (m : (ℓ : Loc nD τ sig) → Buf (Elt Ideal) ℓ) (ρ : Dev nD → PrngReg)

theorem hz2 : (![0, 0] : Fin 2 → Nat) = fun _ => 0 := funext fun a => by fin_cases a <;> rfl

/-- Which blocks grid point `t` works on. -/
theorem index_facts : ∀ t : Fin grid0.N,
    (win0_0.index t 0 = t.val / 2 ∧ win0_0.index t 1 = t.val % 2) ∧ (win0_1.index t 0 = t.val % 2 ∧ win0_1.index t 1 = 0)
      ∧ (win0_2.index t 0 = t.val / 2 ∧ win0_2.index t 1 = 0)
      ∧ (win0_3.index t 0 = 0 ∧ win0_3.index t 1 = 0)
      ∧ (win0_4.index t 0 = t.val / 2 ∧ win0_4.index t 1 = 0) := by
  decide +kernel

theorem V_rows (c : Dev nD) (i : S32x5632.Idx) : V m c main_v0 i = m ((c : Thread nD τ).loc main_arg0) i := by
  unfold V
  simp only [hostOps0]
  after_reads_at
theorem V_w (c : Dev nD) (i : S5632x2048.Idx) : V m c main_v1 i = m ((c : Thread nD τ).loc main_arg1) i := by
  unfold V
  simp only [hostOps0]
  after_reads_at
theorem V_g (c : Dev nD) (j : Fin 2048) : V m c main_v2 (ix2 0 j : S1x2048.Idx) = m ((c : Thread nD τ).loc main_arg3) (ix1 j) := by
  unfold V
  simp only [hostOps0]
  after_reads_at
/-! The blocks grid point `t` reads, as entries of the arguments. -/

theorem blk_x (c : Dev nD) (t : Fin cfg0.N) (r : Fin 32) (k : Fin 2816) (R : Fin 32) (hR : R.val = t.val / 2 * 32 + r.val)
    (K : Fin 5632) (hK : K.val = t.val % 2 * 2816 + k.val) :
    iblk m c 0 t (ix2 r k) = m ((c : Thread nD τ).loc main_arg0) (ix2 R K) := by
  obtain ⟨⟨h0, h1⟩, -⟩ := index_facts t
  unfold iblk
  rw [View.read_apply]
  show V m c main_v0 _ = _
  rw [V_rows]
  congr 1
  funext a
  apply Fin.ext
  match a with
  | ⟨0, _⟩ => show win0_0.index t 0 * 32 + 1 * r.val = R.val; rw [h0, hR]; omega
  | ⟨1, _⟩ => show win0_0.index t 1 * 2816 + 1 * k.val = K.val; rw [h1, hK]; omega

theorem blk_w (c : Dev nD) (t : Fin cfg0.N) (k : Fin 2816) (l : Fin 2048) (K : Fin 5632) (hK : K.val = t.val % 2 * 2816 + k.val) :
    iblk m c 1 t (ix2 k l) = m ((c : Thread nD τ).loc main_arg1) (ix2 K l) := by
  obtain ⟨-, ⟨h0, h1⟩, -⟩ := index_facts t
  unfold iblk
  rw [View.read_apply]
  show V m c main_v1 _ = _
  rw [V_w]
  congr 1
  funext a
  apply Fin.ext
  match a with
  | ⟨0, _⟩ => show win0_1.index t 0 * 2816 + 1 * k.val = K.val; rw [h0, hK]; omega
  | ⟨1, _⟩ => show win0_1.index t 1 * 2048 + 1 * l.val = l.val; rw [h1]; omega

theorem blk_r (c : Dev nD) (t : Fin cfg0.N) (r : Fin 32) (k : Fin 2048) (R : Fin 32) (hR : R.val = t.val / 2 * 32 + r.val) :
    iblk m c 2 t (ix2 r k) = m ((c : Thread nD τ).loc main_arg2) (ix2 R k) := by
  obtain ⟨-, -, ⟨h0, h1⟩, -⟩ := index_facts t
  unfold iblk
  rw [View.read_apply]
  show V m c main_arg2 _ = _
  rw [V_main_arg2]
  congr 1
  funext a
  apply Fin.ext
  match a with
  | ⟨0, _⟩ => show win0_2.index t 0 * 32 + 1 * r.val = R.val; rw [h0, hR]; omega
  | ⟨1, _⟩ => show win0_2.index t 1 * 2048 + 1 * k.val = k.val; rw [h1]; omega

theorem blk_g (c : Dev nD) (t : Fin cfg0.N) (l : Fin 2048) :
    iblk m c 3 t (ix2 0 l) = m ((c : Thread nD τ).loc main_arg3) (ix1 l) := by
  obtain ⟨-, -, -, ⟨h0, h1⟩, -⟩ := index_facts t
  rw [← V_g m c l]
  unfold iblk
  rw [View.read_apply]
  show V m c main_v2 _ = V m c main_v2 _
  congr 1
  funext a
  apply Fin.ext
  match a with
  | ⟨0, _⟩ => show win0_3.index t 0 * 1 + 1 * 0 = 0; rw [h0]
  | ⟨1, _⟩ => show win0_3.index t 1 * 2048 + 1 * l.val = l.val; rw [h1]; omega

/-- Where an index of block `t` lies in the result. -/
theorem emb4 (t : Fin cfg0.N) (r : Fin 32) (l : Fin 2048) (R : Fin 32) (hR : R.val = t.val / 2 * 32 + r.val) :
    ((cfg0.win 4).blk t).view.emb (ix2 r l) = (ix2 R l : S32x2048.Idx) := by
  obtain ⟨-, -, -, -, h0, h1⟩ := index_facts t
  funext a
  apply Fin.ext
  match a with
  | ⟨0, _⟩ => show win0_4.index t 0 * 32 + 1 * r.val = R.val; rw [h0, hR]; omega
  | ⟨1, _⟩ => show win0_4.index t 1 * 2048 + 1 * l.val = l.val; rw [h1]; omega

/-- What the arguments make of the result. -/
abbrev G4 (c : Dev nD) : Buf (Elt Ideal) ((c : Thread nD τ).loc main_v3) :=
  stream (m ((c : Thread nD τ).loc main_arg0)) (m ((c : Thread nD τ).loc main_arg1)) (m ((c : Thread nD τ).loc main_arg2))
    (m ((c : Thread nD τ).loc main_arg3))
section Body
variable (c : Dev nD) (i : grid0.Coords) (a2 : Memref sig .tc .vmem S32x2816 .bf16) (h2 : a2.IsWhole)
  (a3 : Memref sig .tc .vmem S2816x2048 .bf16) (h3 : a3.IsWhole) (a4 : Memref sig .tc .vmem S32x2048 .f32) (h4 : a4.IsWhole)
  (a5 : Memref sig .tc .vmem S1x2048 .f32) (h5 : a5.IsWhole) (a6 : Memref sig .tc .vmem S32x2048 .f32) (h6 : a6.IsWhole)
  (a7 : Memref sig .tc .vmem S32x2048 .f32) (h7 : a7.IsWhole)
  (x0 : Vec Ideal S32x2816 .bf16) (x1 : Vec Ideal S2816x2048 .bf16) (x2 : Vec Ideal S32x2048 .f32)
  (x3 : Vec Ideal S1x2048 .f32) (xs : Vec Ideal S32x2048 .f32)

/-- What the first of a pair of points leaves in the running sum. -/
theorem sum_first (hc0 : cond0_0 i) (hc1 : ¬cond0_1 i) :
    sout0_A_0 c i a2 h2 a3 h3 a4 h4 a5 h5 a6 h6 a7 h7 hc0 hc1 x0 x1 x2 x3 = k0_pay2 k0_pay1 x0 x1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  simp only [View.canon_cons_unit_zero (S := S32x2048) hz2, View.canon_unit_zero (S := S32x2048) hz2,
    View.readCov_unit_zero (S := S32x2048) _ hz2, View.readCov_cons_toLoadRect, View.readAt_eq_ld,
    h2.read_unread, h3.read_unread, h4.read_unread, h5.read_unread, h7.read_unread,
    View.ld_unit_zero (S := S32x2048) hz2, View.ld_unit_zero (S := S32x2816) hz2, View.ld_unit_zero (S := S2816x2048) hz2,
    View.ld_unit_zero (S := S1x2048) hz2, shapeCast_self]

/-- What the second leaves in the result's block, over the running sum. -/
theorem out4_eq (hc0 : ¬cond0_0 i) (hc1 : cond0_1 i) :
    out0_B_4 c i a2 h2 a3 h3 a4 h4 a5 h5 a6 h6 a7 h7 hc0 hc1 x0 x1 x2 x3 xs = k0_pay3 x2 (k0_pay2 xs x0 x1) x3 := by
  unfold out0_B_4
  rw [View.read_writes_eq_canon _ _ _ (cover0_B_4 c i a2 h2 a3 h3 a4 h4 a5 h5 a6 h6 a7 h7 hc0 hc1 x0 x1 x2 x3 xs)]
  unfold kernelRun0_B
  dsimp only
  sl_unfold_words
  simp only [View.canon_cons_unit_zero (S := S32x2048) hz2, View.canon_unit_zero (S := S32x2048) hz2,
    View.readCov_unit_zero (S := S32x2048) _ hz2, View.readCov_cons_toLoadRect, View.readAt_eq_ld,
    h2.read_unread, h3.read_unread, h4.read_unread, h5.read_unread, h7.read_unread,
    View.ld_unit_zero (S := S32x2048) hz2, View.ld_unit_zero (S := S32x2816) hz2, View.ld_unit_zero (S := S2816x2048) hz2,
    View.ld_unit_zero (S := S1x2048) hz2, shapeCast_self]

end Body

/-- The body adds a row of its product to the running sum. -/
theorem prod_at (xs : Vec Ideal S32x2048 .f32) (x0 : Vec Ideal S32x2816 .bf16) (x1 : Vec Ideal S2816x2048 .bf16) (r : Fin 32) (j : Fin 2048) :
    k0_pay2 xs x0 x1 (ix2 r j) = xs (ix2 r j) + ∑ k : Fin 2816, x0 (ix2 r k) * x1 (ix2 k j) := by
  pointwise [k0_pay2]

/-- The running sum starts at zero. -/
theorem zero_at (r : Fin 32) (j : Fin 2048) : (k0_pay1 (F := Ideal)) (ix2 r j) = 0 := by
  pointwise [k0_pay1]

/-- The two halves of the inner dimension make the whole row. -/
theorem row_halves (x : Vec Ideal S32x5632 .f32) (w : Vec Ideal S5632x2048 .f32) (R : Fin 32) (j : Fin 2048) :
    row x w R j = (∑ k : Fin 2816, x (ix2 R (Fin.castAdd 2816 k)) * w (ix2 (Fin.castAdd 2816 k) j))
      + ∑ k : Fin 2816, x (ix2 R (Fin.natAdd 2816 k)) * w (ix2 (Fin.natAdd 2816 k) j) :=
  Fin.sum_univ_add (fun k : Fin (2816 + 2816) => x (ix2 R k) * w (ix2 k j))

/-- What the running sum holds after both points of a pair, over the two points' blocks. -/
theorem acc_at (c : Dev nD) (s t : Fin cfg0.N) (hs : s.val % 2 = 0) (hst : t.val = s.val + 1) (r : Fin 32) (R : Fin 32)
    (hR : R.val = t.val / 2 * 32 + r.val) (j : Fin 2048) :
    k0_pay2 (k0_pay2 k0_pay1 (iblk m c 0 s) (iblk m c 1 s)) (iblk m c 0 t) (iblk m c 1 t) (ix2 r j)
      = row (m ((c : Thread nD τ).loc main_arg0)) (m ((c : Thread nD τ).loc main_arg1)) R j := by
  rw [prod_at, prod_at, zero_at, row_halves, zero_add]
  congr 1
  · refine Finset.sum_congr rfl fun k _ => ?_
    rw [blk_x m c s r k R (by rw [hR]; omega) (Fin.castAdd 2816 k) (by show k.val = _; omega),
      blk_w m c s k j (Fin.castAdd 2816 k) (by show k.val = _; omega)]
  · refine Finset.sum_congr rfl fun k _ => ?_
    rw [blk_x m c t r k R hR (Fin.natAdd 2816 k) (by show 2816 + k.val = _; omega),
      blk_w m c t k j (Fin.natAdd 2816 k) (by show 2816 + k.val = _; omega)]

/-- The running sum the second point of a pair finds. -/
theorem carried (c : Dev nD) (s t : Fin cfg0.N) (hs : s.val % 2 = 0) (hst : t.val = s.val + 1) (h : t.val - 1 < cfg0.N) :
    (outsAt0 m c (t.val - 1) h).2 = k0_pay2 k0_pay1 (iblk m c 0 s) (iblk m c 1 s) := by
  obtain ⟨n, hn⟩ := s
  have e : t.val - 1 = n := by dsimp only at hst; omega
  have hs' : ¬n % 2 = 1 := by dsimp only at hs; omega
  subst e
  rw [outsAt0_A m c ⟨t.val - 1, hn⟩ hs hs']
  dsimp only
  rw [sum_first]

/-- The payload, row by row. -/
theorem pay3_at (x2 a : Vec Ideal S32x2048 .f32) (x3 : Vec Ideal S1x2048 .f32) (r : Fin 32) (j : Fin 2048) :
    k0_pay3 x2 a x3 (ix2 r j) = RowNorm.resid (fun j => a (ix2 r j)) (fun j => x2 (ix2 r j)) (fun j => x3 (ix2 0 j)) j := by
  pointwise [k0_pay3, RowNorm.resid, RowNorm.norm]

/-- What the second point of a pair writes back to the result. -/
theorem flushed4_eq (c : Dev nD) (t : Fin cfg0.N) (hf : (cfg0.win 4).flush t = true) :
    (dats m 0 c).flushed 4 t = ((cfg0.win 4).blk t).view.read (Elt Ideal) (G4 m c) := by
  have ht : t.val < 2 := t.isLt
  have h1 : t.val % 2 = 1 := (flush0_4 t).1 hf
  obtain ⟨s, hst⟩ : ∃ s : Fin cfg0.N, t.val = s.val + 1 := ⟨⟨t.val - 1, by have := t.isLt; omega⟩, by dsimp only; omega⟩
  have hs : s.val % 2 = 0 := by omega
  rw [Value.flushed4_B m c t (by omega) h1, out4_eq, carried m c s t hs hst]
  funext j
  rw [View.read_apply]
  show k0_pay3 (iblk m c 2 t) (k0_pay2 (k0_pay2 k0_pay1 (iblk m c 0 s) (iblk m c 1 s)) (iblk m c 0 t) (iblk m c 1 t)) (iblk m c 3 t) j = G4 m c (((cfg0.win 4).blk t).view.emb j)
  idx_vars j
  obtain ⟨R, hR⟩ : ∃ R : Fin 32, R.val = t.val / 2 * 32 + j0.val := ⟨⟨_, by have := j0.isLt; omega⟩, rfl⟩
  rw [emb4 t j0 j1 R hR, pay3_at]
  simp only [acc_at m c s t hs hst j0 R hR, blk_r m c t j0 _ R hR, blk_g]
  rfl

/-- The point that writes a row back. -/
theorem point_of (i : S32x2048.Idx) : ∃ t : Fin grid0.N, t.val = 2 * ((i 0 : Nat) / 32) + 1 :=
  ⟨⟨2 * ((i 0 : Nat) / 32) + 1, by
    have h0 : (i 0 : Nat) < 32 := (i 0).isLt
    show _ < 2
    omega⟩, rfl⟩

theorem cover4 (i : S32x2048.Idx) : ∃ t : Fin cfg0.N, (cfg0.win 4).flush t = true ∧ i ∈ ((cfg0.win 4).blk t).view.set := by
  have h0 : (i 0 : Nat) < 32 := (i 0).isLt
  have h1 : (i 1 : Nat) < 2048 := (i 1).isLt
  obtain ⟨t, ht⟩ := point_of i
  obtain ⟨-, -, -, -, e0, e1⟩ := index_facts t
  refine ⟨t, (flush0_4 t).2 (by omega), ?_⟩
  show i ∈ ((View.whole main_v3).slice (win0_4.rect t)).set
  rw [View.set_slice_whole, Rect.mem_set_unit]
  intro a
  match a with
  | ⟨0, _⟩ =>
    show win0_4.index t 0 * 32 ≤ (i 0 : Nat) ∧ (i 0 : Nat) < win0_4.index t 0 * 32 + 32
    rw [e0]; omega
  | ⟨1, _⟩ =>
    show win0_4.index t 1 * 2048 ≤ (i 1 : Nat) ∧ (i 1 : Nat) < win0_4.index t 1 * 2048 + 2048
    rw [e1]; omega

theorem final4 (c : Dev nD) : (dats m 0 c).arrAt 4 cfg0.N = G4 m c :=
  (dats m 0 c).arrAt_eq_of_cover 4 _ (flushed4_eq m c) cover4
end Cert.LastSampleIdeal.Residual

namespace Cert.LastSampleRefIdeal.Residual

open Cert.LastSampleRefIdeal Cert.LastSampleRefIdeal.Gen

variable (m : (ℓ : Loc nD τ sig) → Buf (Elt Ideal) ℓ) (ρ : Dev nD → PrngReg)

/-- The reference's run: the same stream. -/
theorem run : θ_run defs (onTc (τ := τ) (main (F := Ideal))) ⟨m, fun _ => 0, ρ⟩ fun r => ∀ c : Dev nD,
      r.2.mem ((c : Thread nD τ).loc main_v14)
        = Cert.LastSampleIdeal.Residual.stream (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (Value.run m ρ)
  funext i
  idx_vars i
  pointwise [Cert.LastSampleIdeal.Residual.stream, Cert.LastSampleIdeal.Residual.row, RowNorm.resid, RowNorm.norm]

end Cert.LastSampleRefIdeal.Residual

namespace Cert.Proof

/-- Kernel and reference agree on equal arguments. -/
theorem algebraic_LastSample : Cert.algebraic_LastSampleIdeal_LastSampleRefIdeal :=
  fun m ρ m' ρ' _ hag => ⟨fun c => Cert.LastSampleIdeal.Residual.G4 m c,
    (θ_run _ _ _).mono (fun _ h c => ⟨(h c).1.trans (Cert.LastSampleIdeal.Residual.final4 m c), (h c).2⟩)
      (Cert.LastSampleIdeal.Value.run_blocks m ρ),
    (θ_run _ _ _).mono (fun _ h c => by
      obtain ⟨e0, e1, e2, e3⟩ := hag c
      exact ⟨(h c).1.trans (by rw [e0, e1, e2, e3]), (h c).2⟩)
      (Cert.LastSampleRefIdeal.Residual.run m' ρ')⟩

end Cert.Proof

end
-- ==== Proof.ProjSampleValue.lean ====
/-
  The `w_in` projection of the sample group: the tiled matrix product of its 32 rows and the plain `jnp.dot` leave
  the same function of the two arguments.

  Grid point t multiplies all rows of `h` by columns 256·t … of the first layer's weights.
-/
module

public import proofs.«01_k».proof.Defs
public import proofs.«01_k».proof.Proof.Gen.ProjSampleIdeal.Value
public import proofs.«01_k».proof.Proof.Gen.ProjSampleRefIdeal
public import proofs.«01_k».proof.Proof.Gen.ProjSampleRefIdeal.Run
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ProjSampleIdeal.Product

open Cert.ProjSampleIdeal Cert.ProjSampleIdeal.Gen

/-- The product of the rows `x` with the first member of the stack `w`. -/
def product (x : Vec Ideal S32x2048 .f32) (w : Vec Ideal S2x2048x10496 .f32) : Vec Ideal S32x10496 .f32 :=
  fun i => ∑ k : Fin 2048, x (ix2 (i 0) k) * w (ix3 0 k (i 1))

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Which blocks grid point `t` works on. -/
theorem index_facts : ∀ t : Fin grid0.N,
    win0_0.index t 0 = t.val / 41 ∧ win0_0.index t 1 = 0
      ∧ win0_1.index t 0 = 0 ∧ win0_1.index t 1 = 0 ∧ win0_1.index t 2 = t.val % 41
      ∧ win0_2.index t 0 = t.val / 41 ∧ win0_2.index t 1 = t.val % 41 := by
  decide +kernel

/-- Every grid point writes its block back. -/
theorem flush_all : ∀ t : Fin grid0.N, win0_2.flush t = true := by
  decide +kernel

/-- The rows the region finds are the argument's: the rounding to bf16 is the identity. -/
theorem V_rows (c : Dev nD) (i : S32x2048.Idx) : V m c main_v0 i = m ((c : Thread nD τ).loc main_arg0) i := by
  unfold V
  simp only [hostOps0]
  after_reads_at

/-- What point `t` writes back is block `t` of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  obtain ⟨e00, e01, e10, e11, e12, e20, e21⟩ := index_facts t
  rw [Value.flushed2]
  unfold out0_2
  rw [View.canon_unit_zero hz2]
  simp only [View.ld_unit_zero (S := S32x2048) hz2, View.ld_unit_zero (S := S1x2048x256) hz3]
  funext j
  show k0_pay1 (iblk m c 0 t) (iblk m c 1 t) j = product _ _ _
  idx_vars j
  pointwise [k0_pay1, product]
  refine Finset.sum_congr rfl fun k _ => ?_
  congr 1
  · unfold iblk
    rw [View.read_apply]
    show V m c main_v0 _ = _
    rw [V_rows]
    congr 1
    funext a
    apply Fin.ext
    match a with
    | ⟨0, _⟩ => show win0_0.index t 0 * 32 + 1 * j0.val = win0_2.index t 0 * 32 + 1 * j0.val; rw [e00, e20]
    | ⟨1, _⟩ => show win0_0.index t 1 * 2048 + 1 * k.val = k.val; rw [e01]; omega
  · unfold iblk
    rw [View.read_apply]
    show m _ _ = m _ _
    congr 1
    funext a
    apply Fin.ext
    match a with
    | ⟨0, _⟩ => show win0_1.index t 0 * 1 + 1 * 0 = 0; rw [e10]
    | ⟨1, _⟩ => show win0_1.index t 1 * 2048 + 1 * k.val = k.val; rw [e11]; omega
    | ⟨2, _⟩ => show win0_1.index t 2 * 256 + 1 * j1.val = win0_2.index t 1 * 256 + 1 * j1.val; rw [e12, e21]

/-- An index lies in block `t` when its coordinates do. -/
theorem mem_blk (t : Fin cfg0.N) (i : S32x10496.Idx) :
    i ∈ ((cfg0.win 2).blk t).view.set ↔ ∀ a, win0_2.index t a * win0_2.size a ≤ (i a : Nat)
      ∧ (i a : Nat) < win0_2.index t a * win0_2.size a + win0_2.xsize (grid0.coords t) a := by
  show i ∈ ((View.whole main_v1).slice (win0_2.rect t)).set ↔ _
  rw [View.set_slice_whole, Rect.mem_set_unit]

/-- The blocks cover the result. -/
theorem cover (i : S32x10496.Idx) : ∃ t : Fin cfg0.N, (cfg0.win 2).flush t = true ∧ i ∈ ((cfg0.win 2).blk t).view.set := by
  have h0 : (i 0 : Nat) < 32 := (i 0).isLt
  have h1 : (i 1 : Nat) < 10496 := (i 1).isLt
  let t : Fin grid0.N := ⟨(i 0 : Nat) / 32 * 41 + (i 1 : Nat) / 256, by
    show _ < 41
    omega⟩
  obtain ⟨-, -, -, -, -, e20, e21⟩ := index_facts t
  refine ⟨t, flush_all t, (mem_blk t i).2 fun a => ?_⟩
  have ht : t.val = (i 0 : Nat) / 32 * 41 + (i 1 : Nat) / 256 := rfl
  match a with
  | ⟨0, _⟩ =>
    show win0_2.index t 0 * 32 ≤ (i 0 : Nat) ∧ (i 0 : Nat) < win0_2.index t 0 * 32 + 32
    rw [e20]; omega
  | ⟨1, _⟩ =>
    show win0_2.index t 1 * 256 ≤ (i 1 : Nat) ∧ (i 1 : Nat) < win0_2.index t 1 * 256 + 256
    rw [e21]; omega

/-- The result array ends as the product. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

/-- The kernel's run: the product in the result, the arguments kept. -/
theorem run : θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ProjSampleIdeal.Product

namespace Cert.ProjSampleRefIdeal.Product

open Cert.ProjSampleRefIdeal Cert.ProjSampleRefIdeal.Gen

variable (m : (ℓ : Loc nD τ sig) → Buf (Elt Ideal) ℓ) (ρ : Dev nD → PrngReg)

/-- The reference's run: the same product. -/
theorem run : θ_run defs (onTc (τ := τ) (main (F := Ideal))) ⟨m, fun _ => 0, ρ⟩ fun r => ∀ c : Dev nD,
      r.2.mem ((c : Thread nD τ).loc main_v2)
        = Cert.ProjSampleIdeal.Product.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  funext i
  idx_vars i
  pointwise [Cert.ProjSampleIdeal.Product.product]

end Cert.ProjSampleRefIdeal.Product

namespace Cert.Proof

/-- Kernel and reference agree on equal arguments. -/
theorem algebraic_ProjSample : Cert.algebraic_ProjSampleIdeal_ProjSampleRefIdeal :=
  fun m ρ m' ρ' _ hag => ⟨fun c => Cert.ProjSampleIdeal.Product.product (m (c.tc.loc Cert.ProjSampleIdeal.main_arg0)) (m (c.tc.loc Cert.ProjSampleIdeal.main_arg1)), Cert.ProjSampleIdeal.Product.run m ρ,
    (θ_run _ _ _).mono (fun _ h c => ⟨(h c).1.trans (by rw [(hag c).1, (hag c).2]), (h c).2⟩)
      (Cert.ProjSampleRefIdeal.Product.run m' ρ')⟩

end Cert.Proof

end
-- ==== Proof.UpSampleValue.lean ====
/-
  The up projection of the sample group: the tiled matrix product of its 32 rows and the plain `jnp.dot` leave the
  same function of the two arguments.

  Grid point t multiplies all rows of `h` by columns 512·t … of the first layer's weights.
-/
module

public import proofs.«01_k».proof.Defs
public import proofs.«01_k».proof.Proof.Gen.UpSampleIdeal.Value
public import proofs.«01_k».proof.Proof.Gen.UpSampleRefIdeal
public import proofs.«01_k».proof.Proof.Gen.UpSampleRefIdeal.Run
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UpSampleIdeal.Product

open Cert.UpSampleIdeal Cert.UpSampleIdeal.Gen

/-- The product of the rows `x` with the first member of the stack `w`. -/
def product (x : Vec Ideal S32x2048 .f32) (w : Vec Ideal S2x2048x11264 .f32) : Vec Ideal S32x11264 .f32 :=
  fun i => ∑ k : Fin 2048, x (ix2 (i 0) k) * w (ix3 0 k (i 1))

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Which blocks grid point `t` works on. -/
theorem index_facts : ∀ t : Fin grid0.N,
    win0_0.index t 0 = t.val / 22 ∧ win0_0.index t 1 = 0
      ∧ win0_1.index t 0 = 0 ∧ win0_1.index t 1 = 0 ∧ win0_1.index t 2 = t.val % 22
      ∧ win0_2.index t 0 = t.val / 22 ∧ win0_2.index t 1 = t.val % 22 := by
  decide +kernel

/-- Every grid point writes its block back. -/
theorem flush_all : ∀ t : Fin grid0.N, win0_2.flush t = true := by
  decide +kernel

/-- The rows the region finds are the argument's: the rounding to bf16 is the identity. -/
theorem V_rows (c : Dev nD) (i : S32x2048.Idx) : V m c main_v0 i = m ((c : Thread nD τ).loc main_arg0) i := by
  unfold V
  simp only [hostOps0]
  after_reads_at

/-- What point `t` writes back is block `t` of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  obtain ⟨e00, e01, e10, e11, e12, e20, e21⟩ := index_facts t
  rw [Value.flushed2]
  unfold out0_2
  rw [View.canon_unit_zero hz2]
  simp only [View.ld_unit_zero (S := S32x2048) hz2, View.ld_unit_zero (S := S1x2048x512) hz3]
  funext j
  show k0_pay1 (iblk m c 0 t) (iblk m c 1 t) j = product _ _ _
  idx_vars j
  pointwise [k0_pay1, product]
  refine Finset.sum_congr rfl fun k _ => ?_
  congr 1
  · unfold iblk
    rw [View.read_apply]
    show V m c main_v0 _ = _
    rw [V_rows]
    congr 1
    funext a
    apply Fin.ext
    match a with
    | ⟨0, _⟩ => show win0_0.index t 0 * 32 + 1 * j0.val = win0_2.index t 0 * 32 + 1 * j0.val; rw [e00, e20]
    | ⟨1, _⟩ => show win0_0.index t 1 * 2048 + 1 * k.val = k.val; rw [e01]; omega
  · unfold iblk
    rw [View.read_apply]
    show m _ _ = m _ _
    congr 1
    funext a
    apply Fin.ext
    match a with
    | ⟨0, _⟩ => show win0_1.index t 0 * 1 + 1 * 0 = 0; rw [e10]
    | ⟨1, _⟩ => show win0_1.index t 1 * 2048 + 1 * k.val = k.val; rw [e11]; omega
    | ⟨2, _⟩ => show win0_1.index t 2 * 512 + 1 * j1.val = win0_2.index t 1 * 512 + 1 * j1.val; rw [e12, e21]

/-- An index lies in block `t` when its coordinates do. -/
theorem mem_blk (t : Fin cfg0.N) (i : S32x11264.Idx) :
    i ∈ ((cfg0.win 2).blk t).view.set ↔ ∀ a, win0_2.index t a * win0_2.size a ≤ (i a : Nat)
      ∧ (i a : Nat) < win0_2.index t a * win0_2.size a + win0_2.xsize (grid0.coords t) a := by
  show i ∈ ((View.whole main_v1).slice (win0_2.rect t)).set ↔ _
  rw [View.set_slice_whole, Rect.mem_set_unit]

/-- The blocks cover the result. -/
theorem cover (i : S32x11264.Idx) : ∃ t : Fin cfg0.N, (cfg0.win 2).flush t = true ∧ i ∈ ((cfg0.win 2).blk t).view.set := by
  have h0 : (i 0 : Nat) < 32 := (i 0).isLt
  have h1 : (i 1 : Nat) < 11264 := (i 1).isLt
  let t : Fin grid0.N := ⟨(i 0 : Nat) / 32 * 22 + (i 1 : Nat) / 512, by
    show _ < 22
    omega⟩
  obtain ⟨-, -, -, -, -, e20, e21⟩ := index_facts t
  refine ⟨t, flush_all t, (mem_blk t i).2 fun a => ?_⟩
  have ht : t.val = (i 0 : Nat) / 32 * 22 + (i 1 : Nat) / 512 := rfl
  match a with
  | ⟨0, _⟩ =>
    show win0_2.index t 0 * 32 ≤ (i 0 : Nat) ∧ (i 0 : Nat) < win0_2.index t 0 * 32 + 32
    rw [e20]; omega
  | ⟨1, _⟩ =>
    show win0_2.index t 1 * 512 ≤ (i 1 : Nat) ∧ (i 1 : Nat) < win0_2.index t 1 * 512 + 512
    rw [e21]; omega

/-- The result array ends as the product. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

/-- The kernel's run: the product in the result, the arguments kept. -/
theorem run : θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.UpSampleIdeal.Product

namespace Cert.UpSampleRefIdeal.Product

open Cert.UpSampleRefIdeal Cert.UpSampleRefIdeal.Gen

variable (m : (ℓ : Loc nD τ sig) → Buf (Elt Ideal) ℓ) (ρ : Dev nD → PrngReg)

/-- The reference's run: the same product. -/
theorem run : θ_run defs (onTc (τ := τ) (main (F := Ideal))) ⟨m, fun _ => 0, ρ⟩ fun r => ∀ c : Dev nD,
      r.2.mem ((c : Thread nD τ).loc main_v2)
        = Cert.UpSampleIdeal.Product.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  funext i
  idx_vars i
  pointwise [Cert.UpSampleIdeal.Product.product]

end Cert.UpSampleRefIdeal.Product

namespace Cert.Proof

/-- Kernel and reference agree on equal arguments. -/
theorem algebraic_UpSample : Cert.algebraic_UpSampleIdeal_UpSampleRefIdeal :=
  fun m ρ m' ρ' _ hag => ⟨fun c => Cert.UpSampleIdeal.Product.product (m (c.tc.loc Cert.UpSampleIdeal.main_arg0)) (m (c.tc.loc Cert.UpSampleIdeal.main_arg1)), Cert.UpSampleIdeal.Product.run m ρ,
    (θ_run _ _ _).mono (fun _ h c => ⟨(h c).1.trans (by rw [(hag c).1, (hag c).2]), (h c).2⟩)
      (Cert.UpSampleRefIdeal.Product.run m' ρ')⟩

end Cert.Proof

end
-- ==== Proof.FfnBits.lean ====
/-
  The kernel and its ideal form have one text, read at two interpretations of a float: the run proved of that text
  for any interpretation is the run of both.
-/
module

public import proofs.«01_k».proof.Proof.FfnFrame
public import proofs.«01_k».proof.Proof.Gen.Ffn.Frame

@[expose] public section

set_option maxRecDepth 16384

noncomputable section

namespace Cert.Ffn.Hand

open Cert.Ffn
open Idealize.ShloMosaic Idealize.ShloMosaic.TcCoe Idealize.SL.Sem

variable {F : FTy → Type} [FloatOps F]

/-- The body tables are the same. -/
theorem defs₀_eq : Cert.Ffn.defs₀ (F := F) = Cert.FfnIdeal.defs₀ (F := F) := by
  unfold Cert.Ffn.defs₀ Cert.FfnIdeal.defs₀
  refine congrArg Defs.onTc (funext fun l => ?_)
  match l with
  | ⟨0, _⟩ => rfl
  | ⟨n + 1, h⟩ => exact absurd h (Nat.not_lt.2 (Nat.le_add_left _ _))

/-- So are the definitions the program runs under. -/
theorem defs_eq : Cert.Ffn.defs (F := F) = Cert.FfnIdeal.defs (F := F) := by
  show Pipeline.defs Cert.Ffn.pcfgs Cert.Ffn.defs₀ = _
  rw [defs₀_eq]
  rfl

/-- The frame, by the one run. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.FfnIdeal.Hand.frame m ρ

end Cert.Ffn.Hand

end
-- ==== Proof.MobaModel.lean ====
/-
  The body of the MoBA attention call with its unrolled loops rolled up again: the same vector operations over the
  same piece lists, by recursion over the key blocks, for any number of them.
-/
module

public import proofs.«01_k».proof.Defs
public import proofs.«01_k».proof.Proof.Gen.KernelIdeal.Frame
public import Idealize.ShloMosaic.Lib.MatmulPlain

@[expose] public section

set_option maxRecDepth 16384

noncomputable section

open Idealize.ShloMosaic Idealize.ShloMosaic.TcCoe Idealize.SL.Sem

namespace Cert.Moba

open Cert.KernelIdeal Cert.KernelIdeal.Gen

/-- A row of the eight fits. -/
theorem slices8 (n : Nat) (hn : n < 8) : S8x256.Slices ![n, 0] S1x256 := by
  refine ⟨rfl, fun a => ?_⟩
  match a with
  | ⟨0, _⟩ => show n + 1 ≤ 8; omega
  | ⟨1, _⟩ => show 0 + 256 ≤ 256; omega

/-- A block of a head's scores fits. -/
theorem inbBlk (h n : Nat) (hh : h < 2) (hn : n < 8) : ∀ a, (![h, 256 * n, 0] : Fin 3 → Nat) a + S1x256x256.size a ≤ S2x2048x256.size a := by
  intro a
  match a with
  | ⟨0, _⟩ => show h + 1 ≤ 2; omega
  | ⟨1, _⟩ => show 256 * n + 256 ≤ 2048; omega
  | ⟨2, _⟩ => show 0 + 256 ≤ 256; omega

/-- All the blocks of a head fit. -/
theorem inbAll (N h : Nat) (hh : h < 2) (hN : N ≤ 8) : ∀ a, (![h, 0, 0] : Fin 3 → Nat) a + Shape.size ⟨3, ![1, 256 * N, 256]⟩ a ≤ S2x2048x256.size a := by
  intro a
  match a with
  | ⟨0, _⟩ => show h + 1 ≤ 2; omega
  | ⟨1, _⟩ => show 0 + 256 * N ≤ 2048; omega
  | ⟨2, _⟩ => show 0 + 256 ≤ 256; omega

theorem inbQ (h : Nat) (hh : h < 2) : ∀ a, (![0, 0, 128 * h] : Fin 3 → Nat) a + S1x256x128.size a ≤ S1x256x256.size a := by
  intro a
  match a with
  | ⟨0, _⟩ => show 0 + 1 ≤ 1; omega
  | ⟨1, _⟩ => show 0 + 256 ≤ 256; omega
  | ⟨2, _⟩ => show 128 * h + 128 ≤ 256; omega

theorem inbM (h : Nat) (hh : h < 2) : ∀ a, (![h, 0, 0] : Fin 3 → Nat) a + S1x8x128.size a ≤ S2x8x128.size a := by
  intro a
  match a with
  | ⟨0, _⟩ => show h + 1 ≤ 2; omega
  | ⟨1, _⟩ => show 0 + 8 ≤ 8; omega
  | ⟨2, _⟩ => show 0 + 128 ≤ 128; omega

theorem inbK (N h : Nat) (hh : h < 2) (hN : N ≤ 8) : ∀ a, (![h, 0, 0] : Fin 3 → Nat) a + Shape.size ⟨3, ![1, 256 * N, 128]⟩ a ≤ S2x2048x128.size a := by
  intro a
  match a with
  | ⟨0, _⟩ => show h + 1 ≤ 2; omega
  | ⟨1, _⟩ => show 0 + 256 * N ≤ 2048; omega
  | ⟨2, _⟩ => show 0 + 128 ≤ 128; omega

theorem inbV (N h : Nat) (hh : h < 2) (hN : N ≤ 8) : ∀ a, (![h, 0, 0] : Fin 3 → Nat) a + Shape.size ⟨3, ![1, 128, 256 * N]⟩ a ≤ S2x128x2048.size a := by
  intro a
  match a with
  | ⟨0, _⟩ => show h + 1 ≤ 2; omega
  | ⟨1, _⟩ => show 0 + 128 ≤ 128; omega
  | ⟨2, _⟩ => show 0 + 256 * N ≤ 2048; omega

theorem casts32 (N M : Nat) : Shape.ShapeCasts ⟨3, ![1, 256 * N, M]⟩ ⟨2, ![256 * N, M]⟩ := by
  simp [Shape.ShapeCasts, Shape.numel, Fin.prod_univ_succ]
theorem casts23 (N M : Nat) : Shape.ShapeCasts ⟨2, ![256 * N, M]⟩ ⟨3, ![1, 256 * N, M]⟩ := by
  simp [Shape.ShapeCasts, Shape.numel, Fin.prod_univ_succ]
theorem castsV (N : Nat) : Shape.ShapeCasts ⟨3, ![1, 128, 256 * N]⟩ ⟨2, ![128, 256 * N]⟩ := by
  simp [Shape.ShapeCasts, Shape.numel, Fin.prod_univ_succ]

/-- The rectangle of key block `n` of head `h`. -/
abbrev blkR (h n : Nat) (hh : h < 2) (hn : n < 8) : Rect S2x2048x256 :=
  Rect.unit ![h, 256 * n, 0] S1x256x256.size (inbBlk h n hh hn)

/-- The number of every row. -/
abbrev rowNo : IVec S8x256 32 := iota .tc S8x256 32 [0] iota_S8x256_d0_w32

/-- One step of the rank count: which blocks block `m`, a past one, beats. -/
def rankStep (i2 : BitVec 32) (g : FVec Ideal S8x256 .f32) (m : Nat) (hm : m < 8) (r : FVec Ideal S8x256 .f32) : FVec Ideal S8x256 .f32 :=
  addf r (mulf
    (select (ori (cmpf .ogt (broadcastTo S8x256 (extractStridedSlice S1x256 ![m, 0] g (slices8 m hm)) broadcasts_S1x256_S8x256) g)
        (andi (cmpf .oeq (broadcastTo S8x256 (extractStridedSlice S1x256 ![m, 0] g (slices8 m hm)) broadcasts_S1x256_S8x256) g)
          (cmpi .sgt rowNo (broadcast S8x256 (BitVec.ofNat 32 m)))))
      (broadcast S8x256 (Scalar.ofBits .f32 0x3F800000#32)) (broadcast S8x256 (Scalar.ofBits .f32 0x00000000#32)))
    (broadcast S8x256 (Scalar.select (Scalar.cmpi .sgt i2 (BitVec.ofNat 32 m)) (Scalar.ofBits .f32 0x3F800000#32) (Scalar.ofBits .f32 0x00000000#32))))

/-- How many past blocks beat each block. -/
def rank (i2 : BitVec 32) (g : FVec Ideal S8x256 .f32) : FVec Ideal S8x256 .f32 :=
  rankStep i2 g 7 (by decide) (rankStep i2 g 6 (by decide) (rankStep i2 g 5 (by decide) (rankStep i2 g 4 (by decide)
    (rankStep i2 g 3 (by decide) (rankStep i2 g 2 (by decide) (rankStep i2 g 1 (by decide) (rankStep i2 g 0 (by decide)
      (broadcast S8x256 (Scalar.ofBits .f32 0x00000000#32)))))))))

/-- Which blocks a query attends: its own, and the past ones of rank under three. -/
def att (i2 : BitVec 32) (g : FVec Ideal S8x256 .f32) : FVec Ideal S8x256 .f32 :=
  select (ori (cmpi .eq rowNo (broadcast S8x256 i2))
      (andi (cmpi .slt rowNo (broadcast S8x256 i2)) (cmpf .olt (rank i2 g) (broadcast S8x256 (Scalar.ofBits .f32 0x40400000#32)))))
    (broadcast S8x256 (Scalar.ofBits .f32 0x3F800000#32)) (broadcast S8x256 (Scalar.ofBits .f32 0x00000000#32))

/-- The gates of a head. -/
def gate (qv : Vec Ideal S1x256x128 .f32) (km : Vec Ideal S1x8x128 .f32) : FVec Ideal S8x256 .f32 :=
  matmul (φ₁ := .f32) (φ₂ := .f32) dot_S8x128_S256x128_S8x256_1_1_0_0_n_n (some .fp32) (shapeCast S8x128 km shapeCasts_S1x8x128_S8x128)
    (shapeCast S256x128 qv shapeCasts_S1x256x128_S256x128) (constant S8x256 .f32 0x00000000#32)

/-- The scores of a block, the unattended ones masked. -/
def masked (a : FVec Ideal S8x256 .f32) (n : Nat) (hn : n < 8) (s : FVec Ideal S256x256 .f32) : FVec Ideal S256x256 .f32 :=
  select (broadcastTo S256x256 (shapeCast S1x256
      (cmpf .ogt (extractStridedSlice S1x256 ![n, 0] a (slices8 n hn)) (broadcast S1x256 (Scalar.ofBits .f32 0x3F000000#32)))
      shapeCasts_S1x256_S1x256) broadcasts_S1x256_S256x256)
    s (broadcast S256x256 (Named.named κ "mask" 0xF149F2CA#32))

section Lists
variable (v : View sig .tc .vmem S2x2048x256 .f32) (N : Nat) (a0 a1 : FVec Ideal S8x256 .f32)
  (bt : Nat → Nat → Vec Ideal S1x1x256x256 .f32) (D : List (View.Piece (Elt Ideal) S2x2048x256 .f32))

/-- The attended blocks of head `h`. -/
def attOf (h : Nat) : FVec Ideal S8x256 .f32 := if h = 0 then a0 else a1

/-- The masked scores of block `n` of head `h`, read from the pieces `L`. -/
def scores (L : List (View.Piece (Elt Ideal) S2x2048x256 .f32)) (h n : Nat) (hh : h < 2) (hn : n < 8) : FVec Ideal S256x256 .f32 :=
  masked (attOf a0 a1 h) n hn
    (if N ≤ n + 2 then
      addf (shapeCast S256x256 (v.readCov L (blkR h n hh hn).toLoadRect) shapeCasts_S1x256x256_S256x256)
        (shapeCast S256x256 (bt h (N - 1 - n)) shapeCasts_S1x1x256x256_S256x256)
    else
      shapeCast S256x256 (v.readCov L (blkR h n hh hn).toLoadRect) shapeCasts_S1x256x256_S256x256)

/-- The pieces after the masked scores of block `n` of head `h` are stored. -/
def stored (L : List (View.Piece (Elt Ideal) S2x2048x256 .f32)) (h n : Nat) (hh : h < 2) (hn : n < 8) :
    List (View.Piece (Elt Ideal) S2x2048x256 .f32) :=
  ⟨blkR h n hh hn, shapeCast S1x256x256 (scores v N a0 a1 bt L h n hh hn) shapeCasts_S256x256_S1x256x256⟩ :: L

/-- The pieces after the first `n` blocks of both heads. -/
def sList : (n : Nat) → n ≤ 8 → List (View.Piece (Elt Ideal) S2x2048x256 .f32)
  | 0, _ => D
  | n + 1, hn => stored v N a0 a1 bt (stored v N a0 a1 bt (sList n (Nat.le_of_succ_le hn)) 0 n (by decide) hn) 1 n (by decide) hn

/-- The masked scores of block `n` of head `h`. -/
def sVal (h n : Nat) (hn : n < 8) : FVec Ideal S256x256 .f32 :=
  if h = 0 then scores v N a0 a1 bt (sList v N a0 a1 bt D n (Nat.le_of_lt hn)) 0 n (by decide) hn
  else scores v N a0 a1 bt (stored v N a0 a1 bt (sList v N a0 a1 bt D n (Nat.le_of_lt hn)) 0 n (by decide) hn) 1 n (by decide) hn

/-- The running maximum after the first `n` blocks. -/
def mRun (h : Nat) : (n : Nat) → n ≤ 8 → FVec Ideal S1x256 .f32
  | 0, _ => broadcast S1x256 (Named.named κ "mask" 0xF149F2CA#32)
  | n + 1, hn => maximumf (mRun h n (Nat.le_of_succ_le hn)) (shapeCast S1x256
      (multiReduction .maximumf [0] S256 (sVal v N a0 a1 bt D h n hn) 0xFF800000#32 reduces_S256x256_S256 (.inl rfl) rfl) shapeCasts_S256_S1x256)

variable (hN : N ≤ 8)

/-- The exponentials of block `n`. -/
def eVal (h n : Nat) (hh : h < 2) (hn : n < 8) : FVec Ideal S256x256 .f32 :=
  exp (subf (shapeCast S256x256 (v.readCov (sList v N a0 a1 bt D N hN) (blkR h n hh hn).toLoadRect) shapeCasts_S1x256x256_S256x256)
    (broadcastTo S256x256 (mRun v N a0 a1 bt D h N hN) broadcasts_S1x256_S256x256))

/-- The running sum of the exponentials after the first `n` blocks. -/
def lRun (h : Nat) (hh : h < 2) : (n : Nat) → n ≤ 8 → FVec Ideal S1x256 .f32
  | 0, _ => broadcast S1x256 (Scalar.ofBits .f32 0x00000000#32)
  | n + 1, hn => addf (lRun h hh n (Nat.le_of_succ_le hn)) (shapeCast S1x256
      (multiReduction .add [0] S256 (eVal v N a0 a1 bt D hN h n hh hn) 0x00000000#32 reduces_S256x256_S256 (.inl rfl) rfl) shapeCasts_S256_S1x256)

/-- The pieces of the exponentials of the first `n` blocks of both heads. -/
def pList : (n : Nat) → n ≤ 8 → List (View.Piece (Elt Ideal) S2x2048x256 .bf16)
  | 0, _ => []
  | n + 1, hn =>
    ⟨blkR 1 n (by decide) hn, shapeCast S1x256x256 (truncf .bf16 (eVal v N a0 a1 bt D hN 1 n (by decide) hn) bitsLt_bf16_f32) shapeCasts_S256x256_S1x256x256⟩ ::
    ⟨blkR 0 n (by decide) hn, shapeCast S1x256x256 (truncf .bf16 (eVal v N a0 a1 bt D hN 0 n (by decide) hn) bitsLt_bf16_f32) shapeCasts_S256x256_S1x256x256⟩ ::
    pList n (Nat.le_of_succ_le hn)

/-- The products of head `h`'s keys and scaled queries, as the pieces the body starts from. -/
def dPiece (h : Nat) (hh : h < 2) (q : Vec Ideal S1x256x128 .f32) (kb : Vec Ideal ⟨3, ![1, 256 * N, 128]⟩ .bf16) :
    View.Piece (Elt Ideal) S2x2048x256 .f32 :=
  ⟨Rect.unit (s := S2x2048x256) ![h, 0, 0] (Shape.size ⟨3, ![1, 256 * N, 256]⟩) (inbAll N h hh hN),
   shapeCast (⟨3, ![1, 256 * N, 256]⟩ : Shape) (matmul (φ₁ := .bf16) (φ₂ := .bf16) (DotDims.transposedRhs (256 * N) 128 256) none
      (shapeCast (⟨2, ![256 * N, 128]⟩ : Shape) kb (casts32 N 128))
      (truncf .bf16 (mulf (shapeCast S256x128 q shapeCasts_S1x256x128_S256x128) (broadcast S256x128 (Scalar.ofBits .f32 0x3DB504F3#32))) bitsLt_bf16_f32)
      (constant (F := Ideal) (⟨2, ![256 * N, 256]⟩ : Shape) .f32 0x00000000#32)) (casts23 N 256)⟩

/-- The exponentials of head `h`, all the blocks. -/
def pAll (w : View sig .tc .vmem S2x2048x256 .bf16) (h : Nat) (hh : h < 2) : Vec Ideal ⟨3, ![1, 256 * N, 256]⟩ .bf16 :=
  w.readCov (pList v N a0 a1 bt D hN N hN) (Rect.unit (s := S2x2048x256) ![h, 0, 0] (Shape.size ⟨3, ![1, 256 * N, 256]⟩) (inbAll N h hh hN)).toLoadRect

/-- What the body stores of head `h`. -/
def outVal (w : View sig .tc .vmem S2x2048x256 .bf16) (h : Nat) (hh : h < 2) (vt : Vec Ideal ⟨3, ![1, 128, 256 * N]⟩ .bf16) : FVec Ideal S1x256x128 .bf16 :=
  shapeCast S1x256x128 (truncf .bf16 (transpose S256x128 [1, 0]
    (divf (matmul (φ₁ := .bf16) (φ₂ := .bf16) (DotDims.plain 128 (256 * N) 256) none
        (shapeCast (⟨2, ![128, 256 * N]⟩ : Shape) vt (castsV N))
        (shapeCast (⟨2, ![256 * N, 256]⟩ : Shape) (pAll v N a0 a1 bt D hN w h hh) (casts32 N 256))
        (constant S128x256 .f32 0x00000000#32))
      (broadcastTo S128x256 (lRun v N a0 a1 bt D hN h hh N hN) broadcasts_S1x256_S128x256))
    transposes_S128x256_p1_0_S256x128) bitsLt_bf16_f32) shapeCasts_S256x128_S1x256x128

end Lists

/-- The pieces the body leaves in the output block. -/
def outL (v : View sig .tc .vmem S2x2048x256 .f32) (w : View sig .tc .vmem S2x2048x256 .bf16) (N : Nat) (hN : N ≤ 8) (i2 : BitVec 32)
    (q : (h : Nat) → h < 2 → Vec Ideal S1x256x128 .f32) (km : (h : Nat) → h < 2 → Vec Ideal S1x8x128 .f32)
    (bt : Nat → Nat → Vec Ideal S1x1x256x256 .f32)
    (kb : (h : Nat) → h < 2 → Vec Ideal ⟨3, ![1, 256 * N, 128]⟩ .bf16) (vt : (h : Nat) → h < 2 → Vec Ideal ⟨3, ![1, 128, 256 * N]⟩ .bf16) :
    List (View.Piece (Elt Ideal) S1x256x256 .bf16) :=
  [⟨Rect.unit (s := S1x256x256) ![0, 0, 128] S1x256x128.size (inbQ 1 (by decide)),
     outVal v N (att i2 (gate (q 0 (by decide)) (km 0 (by decide)))) (att i2 (gate (q 1 (by decide)) (km 1 (by decide)))) bt
       [dPiece N hN 1 (by decide) (q 1 (by decide)) (kb 1 (by decide)), dPiece N hN 0 (by decide) (q 0 (by decide)) (kb 0 (by decide))] hN w 1 (by decide) (vt 1 (by decide))⟩,
   ⟨Rect.unit (s := S1x256x256) ![0, 0, 0] S1x256x128.size (inbQ 0 (by decide)),
     outVal v N (att i2 (gate (q 0 (by decide)) (km 0 (by decide)))) (att i2 (gate (q 1 (by decide)) (km 1 (by decide)))) bt
       [dPiece N hN 1 (by decide) (q 1 (by decide)) (kb 1 (by decide)), dPiece N hN 0 (by decide) (q 0 (by decide)) (kb 0 (by decide))] hN w 0 (by decide) (vt 0 (by decide))⟩]

section Reads
variable (c : Dev nD) (i : grid0.Coords) (arg3 : Memref sig .tc .vmem S1x256x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2x2x256x256 .f32) (harg6 : arg6.IsWhole) (arg7 : Memref sig .tc .vmem S1x256x256 .bf16) (harg7 : arg7.IsWhole) (arg8 : Memref sig .tc .vmem S2x2048x128 .bf16) (harg8 : arg8.IsWhole) (arg9 : Memref sig .tc .vmem S2x128x2048 .bf16) (harg9 : arg9.IsWhole) (arg10 : Memref sig .tc .vmem S2x8x128 .f32) (harg10 : arg10.IsWhole) (arg11 : Memref sig .tc .vmem S2x2048x256 .f32) (harg11 : arg11.IsWhole) (arg12 : Memref sig .tc .vmem S2x2048x256 .bf16) (harg12 : arg12.IsWhole)
    (x0 : Vec Ideal S1x256x256 .f32) (x1 : Vec Ideal S1x2048x256 .f32) (x2 : Vec Ideal S1x2048x256 .f32) (x3 : Vec Ideal S2x2x256x256 .f32) (xs0 : Vec Ideal S2x2048x128 .bf16) (xs1 : Vec Ideal S2x128x2048 .bf16) (xs2 : Vec Ideal S2x8x128 .f32)

/-- The tile of head `h` the body adds `d` blocks before its own. -/
def tile (h d : Nat) : Vec Ideal S1x1x256x256 .f32 :=
  View.readAt (Elt Ideal) arg6.view (Rect.unit (s := S2x2x256x256) ![h % 2, d % 2, 0, 0] S1x1x256x256.size (by
    intro a
    match a with
    | ⟨0, _⟩ => show h % 2 + 1 ≤ 2; omega
    | ⟨1, _⟩ => show d % 2 + 1 ≤ 2; omega
    | ⟨2, _⟩ => show 0 + 256 ≤ 256; omega
    | ⟨3, _⟩ => show 0 + 256 ≤ 256; omega)).toLoadRect (harg6.unread x3)

/-- The queries of head `h`. -/
def qOf (h : Nat) (hh : h < 2) : Vec Ideal S1x256x128 .f32 :=
  View.readAt (Elt Ideal) arg3.view (Rect.unit (s := S1x256x256) ![0, 0, 128 * h] S1x256x128.size (inbQ h hh)).toLoadRect (harg3.unread x0)

/-- The block means of head `h`. -/
def kmOf (h : Nat) (hh : h < 2) : Vec Ideal S1x8x128 .f32 :=
  View.readAt (Elt Ideal) arg10.view (Rect.unit (s := S2x8x128) ![h, 0, 0] S1x8x128.size (inbM h hh)).toLoadRect (harg10.unread xs2)

/-- The rounded keys of head `h`. -/
def kbOf (N h : Nat) (hh : h < 2) (hN : N ≤ 8) : Vec Ideal ⟨3, ![1, 256 * N, 128]⟩ .bf16 :=
  View.readAt (Elt Ideal) arg8.view (Rect.unit (s := S2x2048x128) ![h, 0, 0] (Shape.size ⟨3, ![1, 256 * N, 128]⟩) (inbK N h hh hN)).toLoadRect (harg8.unread xs0)

/-- The rounded transposed values of head `h`. -/
def vtOf (N h : Nat) (hh : h < 2) (hN : N ≤ 8) : Vec Ideal ⟨3, ![1, 128, 256 * N]⟩ .bf16 :=
  View.readAt (Elt Ideal) arg9.view (Rect.unit (s := S2x128x2048) ![h, 0, 0] (Shape.size ⟨3, ![1, 128, 256 * N]⟩) (inbV N h hh hN)).toLoadRect (harg9.unread xs1)

end Reads

end Cert.Moba

end
-- ==== Proof.MobaCases.lean ====
/-
  Each case of the MoBA attention body leaves the pieces of the model at its own number of key blocks.
-/
module

public import proofs.«01_k».proof.Proof.MobaModel

@[expose] public section

set_option maxRecDepth 16384

noncomputable section

open Idealize.ShloMosaic Idealize.ShloMosaic.TcCoe Idealize.SL.Sem

namespace Cert.Moba

open Cert.KernelIdeal Cert.KernelIdeal.Gen

variable (c : Dev nD) (i : grid0.Coords) (arg3 : Memref sig .tc .vmem S1x256x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2x2x256x256 .f32) (harg6 : arg6.IsWhole) (arg7 : Memref sig .tc .vmem S1x256x256 .bf16) (harg7 : arg7.IsWhole) (arg8 : Memref sig .tc .vmem S2x2048x128 .bf16) (harg8 : arg8.IsWhole) (arg9 : Memref sig .tc .vmem S2x128x2048 .bf16) (harg9 : arg9.IsWhole) (arg10 : Memref sig .tc .vmem S2x8x128 .f32) (harg10 : arg10.IsWhole) (arg11 : Memref sig .tc .vmem S2x2048x256 .f32) (harg11 : arg11.IsWhole) (arg12 : Memref sig .tc .vmem S2x2048x256 .bf16) (harg12 : arg12.IsWhole)
    (x0 : Vec Ideal S1x256x256 .f32) (x1 : Vec Ideal S1x2048x256 .f32) (x2 : Vec Ideal S1x2048x256 .f32) (x3 : Vec Ideal S2x2x256x256 .f32) (xs0 : Vec Ideal S2x2048x128 .bf16) (xs1 : Vec Ideal S2x128x2048 .bf16) (xs2 : Vec Ideal S2x8x128 .f32)

theorem run_A (hc0 hc1 hc2 hc3 hc4 hc5 hc6 hc7 hc8) :
    (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).1
    = outL arg11.view arg12.view 1 (by decide) (BitVec.ofNat 32 (i 2).val) (qOf arg3 harg3 x0)
        (fun h hh => arg10.view.readCov (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).2.2.2.1 (Rect.unit (s := S2x8x128) ![h, 0, 0] S1x8x128.size (inbM h hh)).toLoadRect)
        (tile arg6 harg6 x3)
        (fun h hh => arg8.view.readCov (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).2.1 (Rect.unit (s := S2x2048x128) ![h, 0, 0] (Shape.size ⟨3, ![1, 256 * 1, 128]⟩) (inbK 1 h hh (by decide))).toLoadRect)
        (fun h hh => arg9.view.readCov (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).2.2.1 (Rect.unit (s := S2x128x2048) ![h, 0, 0] (Shape.size ⟨3, ![1, 128, 256 * 1]⟩) (inbV 1 h hh (by decide))).toLoadRect) := by
  unfold kernelRun0_A
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_B (hc0 hc1 hc2 hc3 hc4 hc5 hc6 hc7 hc8) :
    (kernelRun0_B (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 2 (by decide) (BitVec.ofNat 32 (i 2).val) (qOf arg3 harg3 x0) (kmOf arg10 harg10 xs2)
        (tile arg6 harg6 x3) (fun h hh => kbOf arg8 harg8 xs0 2 h hh (by decide)) (fun h hh => vtOf arg9 harg9 xs1 2 h hh (by decide)) := by
  unfold kernelRun0_B
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_C (hc0 hc1 hc2 hc3 hc4 hc5 hc6 hc7 hc8) :
    (kernelRun0_C (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 3 (by decide) (BitVec.ofNat 32 (i 2).val) (qOf arg3 harg3 x0) (kmOf arg10 harg10 xs2)
        (tile arg6 harg6 x3) (fun h hh => kbOf arg8 harg8 xs0 3 h hh (by decide)) (fun h hh => vtOf arg9 harg9 xs1 3 h hh (by decide)) := by
  unfold kernelRun0_C
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_D (hc0 hc1 hc2 hc3 hc4 hc5 hc6 hc7 hc8) :
    (kernelRun0_D (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 4 (by decide) (BitVec.ofNat 32 (i 2).val) (qOf arg3 harg3 x0) (kmOf arg10 harg10 xs2)
        (tile arg6 harg6 x3) (fun h hh => kbOf arg8 harg8 xs0 4 h hh (by decide)) (fun h hh => vtOf arg9 harg9 xs1 4 h hh (by decide)) := by
  unfold kernelRun0_D
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_E (hc0 hc1 hc2 hc3 hc4 hc5 hc6 hc7 hc8) :
    (kernelRun0_E (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 5 (by decide) (BitVec.ofNat 32 (i 2).val) (qOf arg3 harg3 x0) (kmOf arg10 harg10 xs2)
        (tile arg6 harg6 x3) (fun h hh => kbOf arg8 harg8 xs0 5 h hh (by decide)) (fun h hh => vtOf arg9 harg9 xs1 5 h hh (by decide)) := by
  unfold kernelRun0_E
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_F (hc0 hc1 hc2 hc3 hc4 hc5 hc6 hc7 hc8) :
    (kernelRun0_F (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 6 (by decide) (BitVec.ofNat 32 (i 2).val) (qOf arg3 harg3 x0) (kmOf arg10 harg10 xs2)
        (tile arg6 harg6 x3) (fun h hh => kbOf arg8 harg8 xs0 6 h hh (by decide)) (fun h hh => vtOf arg9 harg9 xs1 6 h hh (by decide)) := by
  unfold kernelRun0_F
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_G (hc0 hc1 hc2 hc3 hc4 hc5 hc6 hc7 hc8) :
    (kernelRun0_G (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 7 (by decide) (BitVec.ofNat 32 (i 2).val) (qOf arg3 harg3 x0) (kmOf arg10 harg10 xs2)
        (tile arg6 harg6 x3) (fun h hh => kbOf arg8 harg8 xs0 7 h hh (by decide)) (fun h hh => vtOf arg9 harg9 xs1 7 h hh (by decide)) := by
  unfold kernelRun0_G
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

theorem run_H (hc0 hc1 hc2 hc3 hc4 hc5 hc6 hc7 hc8) :
    (kernelRun0_H (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3 xs0 xs1 xs2).1
    = outL arg11.view arg12.view 8 (by decide) (BitVec.ofNat 32 (i 2).val) (qOf arg3 harg3 x0) (kmOf arg10 harg10 xs2)
        (tile arg6 harg6 x3) (fun h hh => kbOf arg8 harg8 xs0 8 h hh (by decide)) (fun h hh => vtOf arg9 harg9 xs1 8 h hh (by decide)) := by
  unfold kernelRun0_H
  dsimp only
  sl_unfold_words
  dsimp only [outL, outVal, pAll, pList, lRun, eVal, mRun, sVal, sList, stored, scores, masked, dPiece, attOf, att, rank, rankStep, gate, rowNo, qOf, kmOf, tile, kbOf, vtOf, blkR, dreduceIte,
    Nat.reduceMul, Nat.reduceSub, Nat.reduceMod, Nat.reduceAdd, Nat.reduceLeDiff, Nat.reduceEqDiff, Nat.one_ne_zero]
  rfl

end Cert.Moba

end
-- ==== Proof.MobaMath.lean ====
/-
  Facts the MoBA attention call rests on: the three greatest of eight are those of rank below three, in the order a
  stable sort gives.
-/
module

public import Idealize.ShloMosaic.Lib.SortFacts
public import Idealize.ShloMosaic.PureOps.Ideal

@[expose] public section

noncomputable section

open Idealize.ShloMosaic

namespace Cert.Moba

section Rank
variable {n : Nat} (x : Fin n → EReal)

/-- `m` comes before `k`: greater, or equal and of lower index. -/
def beats (m k : Fin n) : Prop := x k < x m ∨ (x m = x k ∧ m < k)

instance (m k : Fin n) : Decidable (beats x m k) := Classical.dec _

theorem beats_total (m k : Fin n) (h : ¬ beats x m k) : m = k ∨ beats x k m := by
  unfold beats at *
  push Not at h
  obtain ⟨h1, h2⟩ := h
  rcases lt_or_eq_of_le h1 with h1 | h1
  · exact .inr (.inl h1)
  · rcases lt_trichotomy m k with h3 | h3 | h3
    · exact absurd h3 (not_lt.mpr (h2 h1))
    · exact .inl h3
    · exact .inr (.inr ⟨h1.symm, h3⟩)

theorem beats_asymm (m k : Fin n) (h : beats x m k) : ¬ beats x k m := by
  unfold beats at *
  rintro (h' | ⟨h', h''⟩) <;> rcases h with h | ⟨h, h2⟩
  · exact lt_asymm h h'
  · exact h'.ne h
  · exact h.ne h'
  · exact lt_asymm h2 h''

theorem beats_trans (a b c : Fin n) (h : beats x a b) (h' : beats x b c) : beats x a c := by
  unfold beats at *
  rcases h with h | ⟨h, h2⟩ <;> rcases h' with h' | ⟨h', h2'⟩
  · exact .inl (lt_trans h' h)
  · exact .inl (h' ▸ h)
  · exact .inl (h ▸ h')
  · exact .inr ⟨h.trans h', lt_trans h2 h2'⟩

variable (R : Fin n → Fin n → Bool) (hR : ∀ m k, R m k = decide (x k < x m))
include hR

theorem pairwise_insert (a : Fin n) (l : List (Fin n)) (ha : ∀ b ∈ l, a < b) (hl : l.Pairwise (beats x)) :
    (insertBefore R a l).Pairwise (beats x) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · rw [hR, decide_eq_true_eq] at h; exact .inl h
      · exact hl.1 c hc'
    · rename_i h
      rw [hR, decide_eq_true_eq, not_lt] at h
      have hab : beats x a b := by
        rcases lt_or_eq_of_le h with h | h
        · exact .inl h
        · exact .inr ⟨h.symm, ha b (List.mem_cons_self)⟩
      refine List.pairwise_cons.mpr ⟨fun c hc => ?_, List.pairwise_cons.mpr hl⟩
      rcases List.mem_cons.mp hc with rfl | hc'
      · exact hab
      · exact beats_trans x _ _ _ hab (hl.1 c hc')

theorem pairwise_sorted (l : List (Fin n)) (hl : l.Pairwise (· < ·)) : (stableSort R l).Pairwise (beats x) := by
  induction l with
  | nil => exact List.Pairwise.nil
  | cons a l ih =>
    rw [List.pairwise_cons] at hl
    unfold stableSort
    exact pairwise_insert x R hR a _ (fun b hb => hl.1 b ((perm_stableSort R l).mem_iff.mp hb)) (ih hl.2)

theorem sorted_beats (i j : Fin n) (hij : i < j) : beats x (sortedFrom R i) (sortedFrom R j) := by
  have hp := List.pairwise_iff_get.mp (pairwise_sorted x R hR (List.finRange n) (List.pairwise_lt_finRange n))
  unfold sortedFrom
  exact hp _ _ hij

/-- The element a stable sort puts at place `j` is beaten by `j` elements. -/
theorem card_beats (j : Fin n) : (Finset.univ.filter fun m => beats x m (sortedFrom R j)).card = j.val := by
  have e : (Finset.univ.filter fun m => beats x m (sortedFrom R j)) = (Finset.univ.filter fun i : Fin n => i < j).image (sortedFrom R) := by
    ext m
    simp only [Finset.mem_filter, Finset.mem_univ, true_and, Finset.mem_image]
    constructor
    · intro h
      obtain ⟨i, rfl⟩ := sortedFrom_surjective R m
      refine ⟨i, ?_, rfl⟩
      rcases lt_trichotomy i j with h1 | rfl | h1
      · exact h1
      · exact absurd h (beats_asymm x _ _ h)
      · exact absurd h (beats_asymm x _ _ (sorted_beats x R hR j i h1))
    · rintro ⟨i, hi, rfl⟩
      exact sorted_beats x R hR i j hi
  rw [e, Finset.card_image_of_injective _ (sortedFrom_injective R)]
  have : (Finset.univ.filter fun i : Fin n => i < j) = Finset.Iio j := by ext; simp
  rw [this, Fin.card_Iio]

/-- An element is among the first `t` of the sort when fewer than `t` beat it. -/
theorem among_first (t : Nat) (k : Fin n) :
    (∃ j : Fin n, j.val < t ∧ sortedFrom R j = k) ↔ (Finset.univ.filter fun m => beats x m k).card < t := by
  constructor
  · rintro ⟨j, hj, rfl⟩
    rw [card_beats x R hR]; exact hj
  · intro h
    obtain ⟨j, rfl⟩ := sortedFrom_surjective R k
    rw [card_beats x R hR] at h
    exact ⟨j, h, rfl⟩

end Rank

section Softmax

/-- A sum of products by one nonnegative real is the product of the sum. -/
theorem sum_mul_real {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih, EReal.right_distrib_of_nonneg_of_ne_top (by exact_mod_cast hc) (EReal.coe_ne_top c)]

theorem exp_real (r : ℝ) : Ideal.exp (r : EReal) = (Real.exp r : EReal) := rfl
theorem exp_bot : Ideal.exp ⊥ = 0 := rfl

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The weights of real or absent scores are real, nonnegative, and their sum is a positive real. -/
theorem weights_real {ι : Type} [Fintype ι] (s : ι → EReal) (M : EReal) (k0 : ι) (hk0 : s k0 ≠ ⊥) (hs : ∀ k, s k ≠ ⊤)
    (hle : ∀ k, s k ≤ M) (hM : ∃ k, s k = M) : ∃ L : ℝ, 0 < L ∧ ∑ k, Ideal.exp (s k - M) = (L : EReal) := by
  obtain ⟨k1, rfl⟩ := hM
  have hb : s k1 ≠ ⊥ := fun h => hk0 (le_bot_iff.mp (h ▸ hle k0))
  obtain ⟨M, hM⟩ : ∃ r : ℝ, s k1 = r := ⟨(s k1).toReal, (EReal.coe_toReal (hs k1) hb).symm⟩
  have hx : ∀ k, ∃ e : ℝ, 0 ≤ e ∧ Ideal.exp (s k - s k1) = (e : EReal) := by
    intro k
    rw [hM]
    rcases eq_or_ne (s k) ⊥ with h | h
    · exact ⟨0, le_refl _, by rw [h, EReal.bot_sub]; exact exp_bot⟩
    · obtain ⟨r, hr⟩ : ∃ r : ℝ, s k = r := ⟨(s k).toReal, (EReal.coe_toReal (hs k) h).symm⟩
      exact ⟨Real.exp (r - M), (Real.exp_pos _).le, by rw [hr, ← EReal.coe_sub]; rfl⟩
  choose e he0 he using hx
  refine ⟨∑ k, e k, ?_, ?_⟩
  · refine Finset.sum_pos' (fun k _ => he0 k) ⟨k1, Finset.mem_univ _, ?_⟩
    have := he k1
    rw [hM, ← EReal.coe_sub, sub_self] at this
    have h1 : e k1 = Real.exp 0 := EReal.coe_eq_coe_iff.mp this.symm
    rw [h1, Real.exp_zero]; exact one_pos
  · rw [Finset.sum_congr rfl fun k _ => he k, coe_sum]

/-- Dividing the weighted sum is weighting by the divided weights. -/
theorem weighted {ι : Type} [Fintype ι] (e v : ι → EReal) (L : ℝ) (hL : 0 < L) :
    Ideal.div (∑ k, v k * e k) (L : EReal) = ∑ k, Ideal.div (e k) (L : EReal) * v k := by
  have h0 : (L : EReal) ≠ 0 := by exact_mod_cast hL.ne'
  have hd : ∀ x : EReal, Ideal.div x (L : EReal) = x * ((L⁻¹ : ℝ) : EReal) := by
    intro x; unfold Ideal.div; rw [if_neg h0, ← EReal.coe_inv]
  rw [hd, sum_mul_real _ _ _ (inv_nonneg.mpr hL.le)]
  refine Finset.sum_congr rfl fun k _ => ?_
  rw [hd]; ac_rfl

end Softmax

section Bucket

/-- The bucket of a distance from sixteen on by its logarithm is the number of thresholds it reaches. -/
theorem log_ge (n j : Nat) (hn : 0 < n) : (j : ℝ) ≤ Real.log ((n : ℝ) / 16) / Real.log 8 * 16 ↔ 16 ^ 16 * 8 ^ j ≤ n ^ 16 := by
  have h8 : 0 < Real.log 8 := Real.log_pos (by norm_num)
  have hn' : (0 : ℝ) < n := by exact_mod_cast hn
  have e : Real.log ((n : ℝ) / 16) / Real.log 8 * 16 = (Real.log ((n : ℝ) ^ 16) - Real.log ((16 : ℝ) ^ 16)) / Real.log 8 := by
    rw [Real.log_div hn'.ne' (by norm_num), Real.log_pow, Real.log_pow]; push_cast; ring
  rw [e, le_div_iff₀ h8, le_sub_iff_add_le', ← Real.log_pow, ← Real.log_mul (by positivity) (by positivity),
    Real.log_le_log_iff (by positivity) (by positivity)]
  exact_mod_cast Iff.rfl

end Bucket

end Cert.Moba

end
-- ==== Proof.MobaRead.lean ====
/-
  The model of the MoBA attention body read at an index: masked scores, their maximum, the sum of their exponentials
  and the weighted values, as sums over the keys of the first blocks.
-/
module

public import proofs.«01_k».proof.Proof.MobaModel
public import proofs.«01_k».proof.Proof.MobaMath
public import Idealize.ShloMosaic.Lib.Pointwise

@[expose] public section

set_option maxRecDepth 16384

noncomputable section

open Idealize.ShloMosaic Idealize.ShloMosaic.TcCoe Idealize.SL.Sem

namespace Cert.Moba

open Cert.KernelIdeal Cert.KernelIdeal.Gen

/-- One half, as the kernel writes it. -/
abbrev half : EReal := Ideal.ofBits FTy.f32 0x3F000000#32

theorem mask_eq : (Named.named κ "mask" 0xF149F2CA#32 : Ideal .f32) = (⊥ : EReal) := by
  rfl

theorem masked_at (a : FVec Ideal S8x256 .f32) (n : Nat) (hn : n < 8) (s : FVec Ideal S256x256 .f32) (k r : Fin 256) :
    masked a n hn s (ix2 k r) = if half < a (ix2 ⟨n, hn⟩ r) then s (ix2 k r) else (⊥ : EReal) := by
  rw [← mask_eq]
  pointwise [masked]

theorem emb_blk (h n : Nat) (hh : h < 2) (hn : n < 8) (k r : Fin 256) :
    (blkR h n hh hn).toLoadRect.idx (ix3 (0 : Fin 1) k r) = ix3 (⟨h, hh⟩ : Fin 2) (⟨256 * n + k.val, by omega⟩ : Fin 2048) r := by
  funext a; apply Fin.ext
  match a with
  | ⟨0, _⟩ => show h + 1 * 0 = h; omega
  | ⟨1, _⟩ => show 256 * n + 1 * k.val = 256 * n + k.val; omega
  | ⟨2, _⟩ => show 0 + 1 * r.val = r.val; omega

theorem emb_blk' (h n : Nat) (hh : h < 2) (hn : n < 8) (k r : Fin 256) :
    (blkR h n hh hn).emb (ix3 (0 : Fin 1) k r) = ix3 (⟨h, hh⟩ : Fin 2) (⟨256 * n + k.val, by omega⟩ : Fin 2048) r :=
  emb_blk h n hh hn k r

theorem not_mem_blk (h n : Nat) (hh : h < 2) (hn : n < 8) (h' m : Nat) (hh' : h' < 2) (hm : m < 8) (k r : Fin 256) (hne : ¬ (h' = h ∧ m = n)) :
    (ix3 (⟨h', hh'⟩ : Fin 2) (⟨256 * m + k.val, by omega⟩ : Fin 2048) r : S2x2048x256.Idx) ∉ (blkR h n hh hn).set := by
  rw [Rect.mem_set_unit]
  intro H
  have h0 : h ≤ h' ∧ h' < h + 1 := H 0
  have h1 : 256 * n ≤ 256 * m + k.val ∧ 256 * m + k.val < 256 * n + 256 := H 1
  omega

theorem canon_skip {e : EltTy} (h n : Nat) (hh : h < 2) (hn : n < 8) (w : S1x256x256.Idx → Elt Ideal e) (L : List (View.Piece (Elt Ideal) S2x2048x256 e))
    (h' m : Nat) (hh' : h' < 2) (hm : m < 8) (k r : Fin 256) (hne : ¬ (h' = h ∧ m = n)) :
    View.canon (⟨blkR h n hh hn, w⟩ :: L) (ix3 (⟨h', hh'⟩ : Fin 2) (⟨256 * m + k.val, by omega⟩ : Fin 2048) r)
      = View.canon L (ix3 (⟨h', hh'⟩ : Fin 2) (⟨256 * m + k.val, by omega⟩ : Fin 2048) r) :=
  View.canon_cons_of_not_mem (⟨blkR h n hh hn, w⟩ : View.Piece (Elt Ideal) S2x2048x256 e) L (not_mem_blk h n hh hn h' m hh' hm k r hne)

theorem cast_at (w : Vec Ideal S1x256x256 .f32) (k r : Fin 256) :
    shapeCast S256x256 w shapeCasts_S1x256x256_S256x256 (ix2 k r) = w (ix3 0 k r) := by
  pointwise []

theorem cast_at' {α : Type} (w : S256x256.Idx → α) (k r : Fin 256) :
    shapeCast S1x256x256 w shapeCasts_S256x256_S1x256x256 (ix3 (0 : Fin 1) k r) = w (ix2 k r) := by
  pointwise []

theorem trunc_at (x : FVec Ideal S256x256 .f32) (j : S256x256.Idx) : (truncf .bf16 x bitsLt_bf16_f32 : FVec Ideal S256x256 .bf16) j = x j := rfl

theorem castT_at (w : Vec Ideal S1x1x256x256 .f32) (k r : Fin 256) :
    shapeCast S256x256 w shapeCasts_S1x1x256x256_S256x256 (ix2 k r) = w (ix4 0 0 k r) := by
  pointwise []

theorem max_at (s : FVec Ideal S256x256 .f32) (r : Fin 256) :
    shapeCast S1x256 (multiReduction .maximumf [0] S256 s 0xFF800000#32 reduces_S256x256_S256 (.inl rfl) rfl) shapeCasts_S256_S1x256 (ix2 (0 : Fin 1) r)
     = Finset.fold max (Ideal.ofBits FTy.f32 0xFF800000#32) (fun k : Fin 256 => s (ix2 k r)) Finset.univ := by
  pointwise []

theorem add_at (s : FVec Ideal S256x256 .f32) (r : Fin 256) :
    shapeCast S1x256 (multiReduction .add [0] S256 s 0x00000000#32 reduces_S256x256_S256 (.inl rfl) rfl) shapeCasts_S256_S1x256 (ix2 (0 : Fin 1) r)
     = ∑ k : Fin 256, s (ix2 k r) := by
  pointwise []

theorem bot_bits : Ideal.ofBits FTy.f32 0xFF800000#32 = ⊥ := by
  rfl

section Lists
variable (v : View sig .tc .vmem S2x2048x256 .f32) (N : Nat) (a0 a1 : FVec Ideal S8x256 .f32)
  (bt : Nat → Nat → Vec Ideal S1x1x256x256 .f32) (D L : List (View.Piece (Elt Ideal) S2x2048x256 .f32))

/-- The masked score of key `k` of block `m` for query `r` of head `h`, from the pieces `L`. -/
def sc (h : Nat) (hh : h < 2) (m : Fin 8) (k r : Fin 256) : EReal :=
  if half < attOf a0 a1 h (ix2 m r) then
    (if N ≤ m.val + 2 then View.canon L (ix3 (⟨h, hh⟩ : Fin 2) (⟨256 * m.val + k.val, by omega⟩ : Fin 2048) r) + bt h (N - 1 - m.val) (ix4 0 0 k r)
     else View.canon L (ix3 (⟨h, hh⟩ : Fin 2) (⟨256 * m.val + k.val, by omega⟩ : Fin 2048) r))
  else ⊥

theorem readCov_blk (h n : Nat) (hh : h < 2) (hn : n < 8) (k r : Fin 256) :
    v.readCov L (blkR h n hh hn).toLoadRect (ix3 (0 : Fin 1) k r) = View.canon L (ix3 (⟨h, hh⟩ : Fin 2) (⟨256 * n + k.val, by omega⟩ : Fin 2048) r) := by
  rw [View.readCov_eq_canon']
  exact congrArg (View.canon L) (emb_blk h n hh hn k r)

theorem scores_at (h n : Nat) (hh : h < 2) (hn : n < 8) (k r : Fin 256) :
    scores v N a0 a1 bt L h n hh hn (ix2 k r) = sc N a0 a1 bt L h hh ⟨n, hn⟩ k r := by
  unfold scores sc
  rw [masked_at]
  by_cases hN : N ≤ n + 2
  · rw [if_pos hN, if_pos hN]
    show (if _ then shapeCast _ _ _ _ + shapeCast _ _ _ _ else ⊥) = _
    rw [cast_at, castT_at, readCov_blk]
  · rw [if_neg hN, if_neg hN, cast_at, readCov_blk]

/-- Storing a block changes that block. -/
theorem canon_stored (h n : Nat) (hh : h < 2) (hn : n < 8) (h' m : Nat) (hh' : h' < 2) (hm : m < 8) (k r : Fin 256) :
    View.canon (stored v N a0 a1 bt L h n hh hn) (ix3 (⟨h', hh'⟩ : Fin 2) (⟨256 * m + k.val, by omega⟩ : Fin 2048) r)
      = if h' = h ∧ m = n then sc N a0 a1 bt L h hh ⟨n, hn⟩ k r
        else View.canon L (ix3 (⟨h', hh'⟩ : Fin 2) (⟨256 * m + k.val, by omega⟩ : Fin 2048) r) := by
  unfold stored
  split
  · rename_i e
    obtain ⟨rfl, rfl⟩ := e
    rw [← emb_blk' h' m hh' hm k r, View.canon_cons_emb]
    exact (cast_at' _ k r).trans (scores_at v N a0 a1 bt L h' m hh' hm k r)
  · rename_i e
    exact View.canon_cons_of_not_mem _ _ (not_mem_blk h n hh hn h' m hh' hm k r e)

theorem sc_congr (L' : List (View.Piece (Elt Ideal) S2x2048x256 .f32)) (h : Nat) (hh : h < 2) (m : Fin 8) (k r : Fin 256)
    (e : View.canon L (ix3 (⟨h, hh⟩ : Fin 2) (⟨256 * m.val + k.val, by omega⟩ : Fin 2048) r)
      = View.canon L' (ix3 (⟨h, hh⟩ : Fin 2) (⟨256 * m.val + k.val, by omega⟩ : Fin 2048) r)) :
    sc N a0 a1 bt L h hh m k r = sc N a0 a1 bt L' h hh m k r := by
  unfold sc; rw [e]

/-- After the first `n` blocks those are masked, the others as they were. -/
theorem canon_sList (n : Nat) (hn : n ≤ 8) (h m : Nat) (hh : h < 2) (hm : m < 8) (k r : Fin 256) :
    View.canon (sList v N a0 a1 bt D n hn) (ix3 (⟨h, hh⟩ : Fin 2) (⟨256 * m + k.val, by omega⟩ : Fin 2048) r)
      = if m < n then sc N a0 a1 bt D h hh ⟨m, hm⟩ k r
        else View.canon D (ix3 (⟨h, hh⟩ : Fin 2) (⟨256 * m + k.val, by omega⟩ : Fin 2048) r) := by
  induction n generalizing h m k r with
  | zero => rw [if_neg (by omega)]; rfl
  | succ n ih =>
    have ih' := ih (by omega)
    show View.canon (stored v N a0 a1 bt (stored v N a0 a1 bt (sList v N a0 a1 bt D n _) 0 n _ _) 1 n _ _) _ = _
    rw [canon_stored (hm := hm)]
    split
    · rename_i e
      obtain ⟨rfl, rfl⟩ := e
      rw [if_pos (by omega)]
      refine sc_congr N a0 a1 bt _ _ 1 _ _ k r ?_
      show View.canon _ (ix3 (⟨1, _⟩ : Fin 2) (⟨256 * m + k.val, _⟩ : Fin 2048) r) = _
      rw [canon_stored v N a0 a1 bt _ 0 m _ _ 1 m hh hm k r, if_neg (by omega), ih' 1 m hh hm, if_neg (by omega)]
    · rename_i e
      rw [canon_stored (hm := hm)]
      split
      · rename_i e'
        obtain ⟨rfl, rfl⟩ := e'
        rw [if_pos (by omega)]
        refine sc_congr N a0 a1 bt _ _ 0 _ _ k r ?_
        show View.canon _ (ix3 (⟨0, _⟩ : Fin 2) (⟨256 * m + k.val, _⟩ : Fin 2048) r) = _
        rw [ih' 0 m hh hm, if_neg (by omega)]
      · rename_i e'
        rw [ih' h m hh hm]
        by_cases hmn : m < n
        · rw [if_pos hmn, if_pos (by omega)]
        · rw [if_neg hmn, if_neg (by omega)]

theorem sVal_at (h n : Nat) (hh : h < 2) (hn : n < 8) (k r : Fin 256) :
    sVal v N a0 a1 bt D h n hn (ix2 k r) = sc N a0 a1 bt D h hh ⟨n, hn⟩ k r := by
  unfold sVal
  by_cases h0 : h = 0
  · subst h0
    rw [if_pos rfl, scores_at]
    refine sc_congr N a0 a1 bt _ _ 0 _ _ k r ?_
    show View.canon _ (ix3 (⟨0, _⟩ : Fin 2) (⟨256 * n + k.val, _⟩ : Fin 2048) r) = _
    rw [canon_sList v N a0 a1 bt D n _ 0 n hh hn, if_neg (by omega)]
  · obtain rfl : h = 1 := by omega
    rw [if_neg h0, scores_at]
    refine sc_congr N a0 a1 bt _ _ 1 _ _ k r ?_
    show View.canon _ (ix3 (⟨1, _⟩ : Fin 2) (⟨256 * n + k.val, _⟩ : Fin 2048) r) = _
    rw [canon_stored v N a0 a1 bt _ 0 n _ _ 1 n hh hn k r, if_neg (by omega), canon_sList v N a0 a1 bt D n _ 1 n hh hn, if_neg (by omega)]

/-- The masked score, absent from block `N` on. -/
def scN (h : Nat) (hh : h < 2) (m : Fin 8) (k r : Fin 256) : EReal :=
  if m.val < N then sc N a0 a1 bt D h hh m k r else ⊥

/-- The running maximum bounds the masked scores so far and is one of them, or absent. -/
theorem mRun_at (h : Nat) (hh : h < 2) (r : Fin 256) (n : Nat) (hn : n ≤ 8) :
    (∀ m : Fin 8, m.val < n → ∀ k, sc N a0 a1 bt D h hh m k r ≤ mRun v N a0 a1 bt D h n hn (ix2 (0 : Fin 1) r))
    ∧ (mRun v N a0 a1 bt D h n hn (ix2 (0 : Fin 1) r) = (⊥ : EReal)
      ∨ ∃ m : Fin 8, m.val < n ∧ ∃ k, sc N a0 a1 bt D h hh m k r = mRun v N a0 a1 bt D h n hn (ix2 (0 : Fin 1) r)) := by
  induction n with
  | zero => exact ⟨fun m hm => absurd hm (Nat.not_lt_zero _), .inl mask_eq⟩
  | succ n ih =>
    obtain ⟨i1, i2⟩ := ih (by omega)
    have e : mRun v N a0 a1 bt D h (n + 1) hn (ix2 (0 : Fin 1) r)
        = max (mRun v N a0 a1 bt D h n (by omega) (ix2 (0 : Fin 1) r)) (Finset.fold max ⊥ (fun k : Fin 256 => sc N a0 a1 bt D h hh ⟨n, hn⟩ k r) Finset.univ) := by
      show max (mRun v N a0 a1 bt D h n _ (ix2 (0 : Fin 1) r)) (shapeCast S1x256 _ _ (ix2 (0 : Fin 1) r)) = _
      rw [max_at, bot_bits]
      congr 2
      funext k
      exact sVal_at v N a0 a1 bt D h n hh hn k r
    rw [e]
    constructor
    · intro m hm k
      rcases Nat.lt_succ_iff_lt_or_eq.mp hm with hm | hm
      · exact le_max_of_le_left (i1 m hm k)
      · obtain rfl : m = ⟨n, hn⟩ := Fin.ext hm
        refine le_max_of_le_right ((Finset.le_fold_max _).mpr (.inr ⟨k, Finset.mem_univ _, le_refl _⟩))
    · rcases max_choice (mRun v N a0 a1 bt D h n (by omega) (ix2 (0 : Fin 1) r)) (Finset.fold max ⊥ (fun k : Fin 256 => sc N a0 a1 bt D h hh ⟨n, hn⟩ k r) Finset.univ) with hc | hc
      · rw [hc]
        rcases i2 with i2 | ⟨m, hm, k, hk⟩
        · exact .inl i2
        · exact .inr ⟨m, by omega, k, hk⟩
      · rw [hc]
        rcases (Finset.le_fold_max (c := Finset.fold max ⊥ (fun k : Fin 256 => sc N a0 a1 bt D h hh ⟨n, hn⟩ k r) Finset.univ)
            (f := fun k : Fin 256 => sc N a0 a1 bt D h hh ⟨n, hn⟩ k r) (b := ⊥) (s := Finset.univ)).mp (le_refl _) with hb | ⟨k, -, hk⟩
        · exact .inl (le_bot_iff.mp hb)
        · refine .inr ⟨⟨n, hn⟩, by simp, k, le_antisymm ((Finset.le_fold_max _).mpr (.inr ⟨k, Finset.mem_univ _, le_refl _⟩)) hk⟩

variable (hN : N ≤ 8)

/-- The maximum of the masked scores. -/
abbrev mx (h : Nat) (r : Fin 256) : EReal := mRun v N a0 a1 bt D h N hN (ix2 (0 : Fin 1) r)

theorem eVal_at (h n : Nat) (hh : h < 2) (hn : n < 8) (hnN : n < N) (k r : Fin 256) :
    eVal v N a0 a1 bt D hN h n hh hn (ix2 k r) = Ideal.exp (scN N a0 a1 bt D h hh ⟨n, hn⟩ k r - mx v N a0 a1 bt D hN h r) := by
  have e : eVal v N a0 a1 bt D hN h n hh hn (ix2 k r)
      = Ideal.exp (v.readCov (sList v N a0 a1 bt D N hN) (blkR h n hh hn).toLoadRect (ix3 (0 : Fin 1) k r) - mx v N a0 a1 bt D hN h r) := by
    rw [← cast_at (v.readCov (sList v N a0 a1 bt D N hN) (blkR h n hh hn).toLoadRect) k r]
    unfold mx eVal
    generalize mRun v N a0 a1 bt D h N hN = M
    show Ideal.exp (_ - broadcastTo S256x256 M broadcasts_S1x256_S256x256 (ix2 k r)) = _
    congr 2
    pointwise []
  rw [e, readCov_blk, canon_sList v N a0 a1 bt D N hN h n hh hn, if_pos hnN]
  unfold scN
  rw [if_pos hnN]

/-- A sum over the first blocks, one more. -/
theorem sum_succ (f : Fin 8 → EReal) (n : Nat) (hn : n < 8) :
    ∑ m ∈ Finset.univ.filter (fun m : Fin 8 => m.val < n + 1), f m = (∑ m ∈ Finset.univ.filter (fun m : Fin 8 => m.val < n), f m) + f ⟨n, hn⟩ := by
  have : Finset.univ.filter (fun m : Fin 8 => m.val < n + 1) = insert ⟨n, hn⟩ (Finset.univ.filter (fun m : Fin 8 => m.val < n)) := by
    ext m; simp [Fin.ext_iff]; omega
  rw [this, Finset.sum_insert (by simp), add_comm]

theorem lRun_at (h : Nat) (hh : h < 2) (r : Fin 256) (n : Nat) (hn : n ≤ 8) (hnN : n ≤ N) :
    lRun v N a0 a1 bt D hN h hh n hn (ix2 (0 : Fin 1) r)
      = ∑ m ∈ Finset.univ.filter (fun m : Fin 8 => m.val < n), ∑ k, Ideal.exp (scN N a0 a1 bt D h hh m k r - mx v N a0 a1 bt D hN h r) := by
  induction n with
  | zero => simp; exact Ideal.ofBits_zero .f32
  | succ n ih =>
    rw [sum_succ _ n hn, ← ih (by omega) (by omega)]
    show _ + shapeCast S1x256 _ _ (ix2 (0 : Fin 1) r) = _
    rw [add_at]
    congr 1
    exact Finset.sum_congr rfl fun k _ => eVal_at v N a0 a1 bt D hN h n hh hn (by omega) k r

theorem pPiece_at (h n : Nat) (hh : h < 2) (hn : n < 8) (hnN : n < N) (L : List (View.Piece (Elt Ideal) S2x2048x256 .bf16)) (k r : Fin 256) :
    View.canon (⟨blkR h n hh hn, shapeCast S1x256x256 (truncf .bf16 (eVal v N a0 a1 bt D hN h n hh hn) bitsLt_bf16_f32) shapeCasts_S256x256_S1x256x256⟩ :: L)
      (ix3 (⟨h, hh⟩ : Fin 2) (⟨256 * n + k.val, by omega⟩ : Fin 2048) r)
      = Ideal.exp (scN N a0 a1 bt D h hh ⟨n, hn⟩ k r - mx v N a0 a1 bt D hN h r) := by
  rw [← eVal_at v N a0 a1 bt D hN h n hh hn hnN k r]
  generalize eVal v N a0 a1 bt D hN h n hh hn = x
  rw [← emb_blk' h n hh hn k r, View.canon_cons_emb]
  exact (cast_at' _ k r).trans (trunc_at x _)

theorem canon_pList (n : Nat) (hn : n ≤ 8) (hnN : n ≤ N) (h m : Nat) (hh : h < 2) (hm : m < 8) (hmn : m < n) (k r : Fin 256) :
    View.canon (pList v N a0 a1 bt D hN n hn) (ix3 (⟨h, hh⟩ : Fin 2) (⟨256 * m + k.val, by omega⟩ : Fin 2048) r)
      = Ideal.exp (scN N a0 a1 bt D h hh ⟨m, hm⟩ k r - mx v N a0 a1 bt D hN h r) := by
  induction n with
  | zero => omega
  | succ n ih =>
    rw [pList]
    by_cases e1 : h = 1 ∧ m = n
    · obtain ⟨rfl, rfl⟩ := e1
      exact pPiece_at v N a0 a1 bt D hN 1 m hh hm (by omega) _ k r
    · refine (canon_skip 1 n (by decide) hn _ _ h m hh hm k r e1).trans ?_
      by_cases e2 : h = 0 ∧ m = n
      · obtain ⟨rfl, rfl⟩ := e2
        exact pPiece_at v N a0 a1 bt D hN 0 m hh hm (by omega) _ k r
      · refine (canon_skip 0 n (by decide) hn _ _ h m hh hm k r e2).trans ?_
        exact ih (by omega) (by omega) (by omega)

/-- All the keys below `256 * N`, by blocks. -/
theorem sum_blocks (hN : N ≤ 8) (f : Fin (256 * N) → EReal) (g : Fin 8 → Fin 256 → EReal)
    (hfg : ∀ (m : Fin 8) (hm : m.val < N) (k : Fin 256), f ⟨256 * m.val + k.val, by have := m.isLt; omega⟩ = g m k) :
    ∑ kk, f kk = ∑ m ∈ Finset.univ.filter (fun m : Fin 8 => m.val < N), ∑ k, g m k := by
  rw [← Finset.sum_product']
  symm
  refine Finset.sum_bij' (fun p hp => ⟨256 * p.1.val + p.2.val, ?_⟩) (fun kk _ => (⟨kk.val / 256, ?_⟩, ⟨kk.val % 256, ?_⟩)) ?_ ?_ ?_ ?_ ?_
  · have := (Finset.mem_filter.mp (Finset.mem_product.mp hp).1).2
    omega
  · have := kk.isLt; omega
  · omega
  · intros; exact Finset.mem_univ _
  · intro kk _
    have := kk.isLt
    simp only [Finset.mem_product, Finset.mem_filter, Finset.mem_univ, true_and, and_true]
    omega
  · rintro ⟨m, k⟩ hp
    refine Prod.ext (Fin.ext ?_) (Fin.ext ?_)
    · show (256 * m.val + k.val) / 256 = m.val; omega
    · show (256 * m.val + k.val) % 256 = k.val; omega
  · intro kk _
    apply Fin.ext
    show 256 * (kk.val / 256) + kk.val % 256 = kk.val; omega
  · rintro ⟨m, k⟩ hp
    exact (hfg m (Finset.mem_filter.mp (Finset.mem_product.mp hp).1).2 k).symm

/-- Blocks from `N` on add nothing where every term is zero there. -/
theorem sum_lt (f : Fin 8 → EReal) (hf : ∀ m : Fin 8, ¬ m.val < N → f m = 0) :
    ∑ m ∈ Finset.univ.filter (fun m : Fin 8 => m.val < N), f m = ∑ m, f m := by
  rw [Finset.sum_filter]
  refine Finset.sum_congr rfl fun m _ => ?_
  split
  · rfl
  · rename_i h; exact (hf m h).symm

theorem exp_absent (h : Nat) (hh : h < 2) (m : Fin 8) (k r : Fin 256) (M : EReal) (hm : ¬ m.val < N) :
    Ideal.exp (scN N a0 a1 bt D h hh m k r - M) = 0 := by
  unfold scN
  rw [if_neg hm, EReal.bot_sub]
  rfl

theorem pAll_at (w : View sig .tc .vmem S2x2048x256 .bf16) (h : Nat) (hh : h < 2) (kk : Fin (256 * N)) (r : Fin 256) (m : Fin 8) (hm : m.val < N) (k : Fin 256) (e : kk.val = 256 * m.val + k.val) :
    pAll v N a0 a1 bt D hN w h hh (ix3 (0 : Fin 1) kk r) = Ideal.exp (scN N a0 a1 bt D h hh m k r - mx v N a0 a1 bt D hN h r) := by
  unfold pAll
  rw [View.readCov_eq_canon', ← canon_pList v N a0 a1 bt D hN N hN (le_refl _) h m.val hh m.isLt hm k r]
  refine congrArg (View.canon _) ?_
  funext a; apply Fin.ext
  match a with
  | ⟨0, _⟩ => show h + 1 * 0 = h; omega
  | ⟨1, _⟩ => show 0 + 1 * kk.val = 256 * m.val + k.val; omega
  | ⟨2, _⟩ => show 0 + 1 * r.val = r.val; omega

theorem dropUnit_at {α : Type} (A B : Nat) (x : (⟨3, ![1, A, B]⟩ : Shape).Idx → α) (hc : Shape.ShapeCasts ⟨3, ![1, A, B]⟩ ⟨2, ![A, B]⟩) (i : Fin A) (j : Fin B) :
    shapeCast (⟨2, ![A, B]⟩ : Shape) x hc (ix2 i j) = x (ix3 (0 : Fin 1) i j) := by
  refine (shapeCast_dropUnit_apply ![A, B] x hc (ix2 i j)).trans (congrArg x ?_)
  funext a
  match a with
  | ⟨0, _⟩ => rfl
  | ⟨1, _⟩ => rfl
  | ⟨2, _⟩ => rfl

theorem addUnit_at {α : Type} (A B : Nat) (x : (⟨2, ![A, B]⟩ : Shape).Idx → α) (hc : Shape.ShapeCasts ⟨2, ![A, B]⟩ ⟨3, ![1, A, B]⟩) (i : Fin A) (j : Fin B) :
    shapeCast (⟨3, ![1, A, B]⟩ : Shape) x hc (ix3 (0 : Fin 1) i j) = x (ix2 i j) := by
  refine (shapeCast_addUnit_apply ![A, B] x hc (ix3 (0 : Fin 1) i j)).trans (congrArg x ?_)
  funext a
  match a with
  | ⟨0, _⟩ => rfl
  | ⟨1, _⟩ => rfl

theorem div_at (vt : FVec Ideal ⟨3, ![1, 128, 256 * N]⟩ .bf16) (p : FVec Ideal ⟨3, ![1, 256 * N, 256]⟩ .bf16) (l : FVec Ideal S1x256 .f32) (r : Fin 256) (d : Fin 128) :
    (shapeCast S1x256x128 (truncf .bf16 (transpose S256x128 [1, 0]
      (divf (matmul (φ₁ := .bf16) (φ₂ := .bf16) (DotDims.plain 128 (256 * N) 256) none
          (shapeCast (⟨2, ![128, 256 * N]⟩ : Shape) vt (castsV N))
          (shapeCast (⟨2, ![256 * N, 256]⟩ : Shape) p (casts32 N 256))
          (constant S128x256 .f32 0x00000000#32))
        (broadcastTo S128x256 l broadcasts_S1x256_S128x256))
      transposes_S128x256_p1_0_S256x128) bitsLt_bf16_f32) shapeCasts_S256x128_S1x256x128 : FVec Ideal S1x256x128 .bf16) (ix3 (0 : Fin 1) r d)
      = Ideal.div (∑ kk : Fin (256 * N), vt (ix3 (0 : Fin 1) d kk) * p (ix3 (0 : Fin 1) kk r)) (l (ix2 (0 : Fin 1) r)) := by
  have hm := Ideal.matmul_plain_apply (M := 128) (K := 256 * N) (N := 256) (φ₁ := .bf16) (φ₂ := .bf16) none
      (shapeCast (⟨2, ![128, 256 * N]⟩ : Shape) vt (castsV N)) (shapeCast (⟨2, ![256 * N, 256]⟩ : Shape) p (casts32 N 256))
      (constant S128x256 .f32 0x00000000#32) d r
  rw [show (constant (F := Ideal) S128x256 .f32 0x00000000#32 : FVec Ideal S128x256 .f32) (ValueIdx.ix2 d r) = 0 from Ideal.ofBits_zero .f32, zero_add] at hm
  have hs : ∑ kk : Fin (256 * N), shapeCast (⟨2, ![128, 256 * N]⟩ : Shape) vt (castsV N) (ValueIdx.ix2 d kk) * shapeCast (⟨2, ![256 * N, 256]⟩ : Shape) p (casts32 N 256) (ValueIdx.ix2 kk r)
      = ∑ kk : Fin (256 * N), vt (ix3 (0 : Fin 1) d kk) * p (ix3 (0 : Fin 1) kk r) :=
    Finset.sum_congr rfl fun kk _ => congrArg₂ (· * ·) (dropUnit_at 128 (256 * N) vt (castsV N) d kk) (dropUnit_at (256 * N) 256 p (casts32 N 256) kk r)
  rw [hs] at hm
  refine (addUnit_at 256 128 _ _ r d).trans ?_
  refine Eq.trans ?_ (congrArg (fun z => Ideal.div z (l (ix2 (0 : Fin 1) r))) hm)
  pointwise []
  rfl

/-- What the body stores of head `h`: the values weighted by the exponentials, over the sum of the exponentials. -/
theorem outVal_at (w : View sig .tc .vmem S2x2048x256 .bf16) (h : Nat) (hh : h < 2) (vt : Vec Ideal ⟨3, ![1, 128, 256 * N]⟩ .bf16)
    (V : Fin 8 → Fin 256 → Fin 128 → EReal)
    (hV : ∀ (m : Fin 8) (hm : m.val < N) (k : Fin 256) (d : Fin 128), vt (ix3 (0 : Fin 1) d ⟨256 * m.val + k.val, by have := m.isLt; omega⟩) = V m k d)
    (r : Fin 256) (d : Fin 128) :
    outVal v N a0 a1 bt D hN w h hh vt (ix3 (0 : Fin 1) r d)
      = Ideal.div (∑ m, ∑ k, V m k d * Ideal.exp (scN N a0 a1 bt D h hh m k r - mx v N a0 a1 bt D hN h r))
          (∑ m, ∑ k, Ideal.exp (scN N a0 a1 bt D h hh m k r - mx v N a0 a1 bt D hN h r)) := by
  have e : outVal v N a0 a1 bt D hN w h hh vt (ix3 (0 : Fin 1) r d)
      = Ideal.div (∑ kk : Fin (256 * N), vt (ix3 (0 : Fin 1) d kk) * pAll v N a0 a1 bt D hN w h hh (ix3 (0 : Fin 1) kk r))
        (lRun v N a0 a1 bt D hN h hh N hN (ix2 (0 : Fin 1) r)) := by
    unfold outVal
    exact div_at N vt _ _ r d
  rw [e,
    lRun_at v N a0 a1 bt D hN h hh r N hN (le_refl _), sum_lt N _ fun m hm => Finset.sum_eq_zero fun k _ => exp_absent N a0 a1 bt D h hh m k r _ hm]
  congr 1
  refine (sum_blocks N hN _ (fun m k => V m k d * Ideal.exp (scN N a0 a1 bt D h hh m k r - mx v N a0 a1 bt D hN h r)) fun m hm k => ?_).trans
    (sum_lt N _ fun m hm => Finset.sum_eq_zero fun k _ => by rw [exp_absent N a0 a1 bt D h hh m k r _ hm, mul_zero])
  show vt _ * pAll v N a0 a1 bt D hN w h hh _ = _
  rw [hV m hm k d, pAll_at v N a0 a1 bt D hN w h hh _ r m hm k rfl]

end Lists

/-- The products of the keys and the scaled queries, head `h`. -/
def dots (N h : Nat) (hh : h < 2) (q : (h : Nat) → h < 2 → Vec Ideal S1x256x128 .f32) (kb : (h : Nat) → h < 2 → Vec Ideal ⟨3, ![1, 256 * N, 128]⟩ .bf16)
    (kk : Fin (256 * N)) (r : Fin 256) : EReal :=
  ∑ d : Fin 128, kb h hh (ix3 (0 : Fin 1) kk d) * (q h hh (ix3 (0 : Fin 1) r d) * Ideal.ofBits FTy.f32 0x3DB504F3#32)

theorem dVec_at (N : Nat) (q : FVec Ideal S1x256x128 .f32) (kb : FVec Ideal ⟨3, ![1, 256 * N, 128]⟩ .bf16) (kk : Fin (256 * N)) (r : Fin 256) :
    (shapeCast (⟨3, ![1, 256 * N, 256]⟩ : Shape) (matmul (φ₁ := .bf16) (φ₂ := .bf16) (DotDims.transposedRhs (256 * N) 128 256) none
      (shapeCast (⟨2, ![256 * N, 128]⟩ : Shape) kb (casts32 N 128))
      (truncf .bf16 (mulf (shapeCast S256x128 q shapeCasts_S1x256x128_S256x128) (broadcast S256x128 (Scalar.ofBits .f32 0x3DB504F3#32))) bitsLt_bf16_f32)
      (constant (F := Ideal) (⟨2, ![256 * N, 256]⟩ : Shape) .f32 0x00000000#32)) (casts23 N 256) : FVec Ideal ⟨3, ![1, 256 * N, 256]⟩ .f32) (ix3 (0 : Fin 1) kk r)
    = ∑ d : Fin 128, kb (ix3 (0 : Fin 1) kk d) * (q (ix3 (0 : Fin 1) r d) * Ideal.ofBits FTy.f32 0x3DB504F3#32) := by
  refine (addUnit_at (256 * N) 256 _ _ kk r).trans ?_
  refine (Ideal.matmul_transposedRhs_apply (M := 256 * N) (K := 128) (N := 256) (φ₁ := .bf16) (φ₂ := .bf16) none _ _ _ kk r).trans ?_
  rw [show (constant (F := Ideal) (⟨2, ![256 * N, 256]⟩ : Shape) .f32 0x00000000#32 : FVec Ideal ⟨2, ![256 * N, 256]⟩ .f32) (ValueIdx.ix2 kk r) = 0 from Ideal.ofBits_zero .f32, zero_add]
  refine Finset.sum_congr rfl fun d _ => congrArg₂ (· * ·) (dropUnit_at (256 * N) 128 _ _ kk d) ?_
  show shapeCast S256x128 q shapeCasts_S1x256x128_S256x128 (ix2 r d) * _ = _
  rw [show shapeCast S256x128 q shapeCasts_S1x256x128_S256x128 (ix2 r d) = q (ix3 0 r d) from dropUnit_at 256 128 _ _ r d]
  rfl

theorem dPiece_at (N : Nat) (hN : N ≤ 8) (h : Nat) (hh : h < 2) (q : (h : Nat) → h < 2 → Vec Ideal S1x256x128 .f32) (kb : (h : Nat) → h < 2 → Vec Ideal ⟨3, ![1, 256 * N, 128]⟩ .bf16)
    (kk : Fin (256 * N)) (r : Fin 256) :
    (dPiece N hN h hh (q h hh) (kb h hh)).2 (ix3 (0 : Fin 1) kk r) = dots N h hh q kb kk r := by
  exact dVec_at N (q h hh) (kb h hh) kk r

theorem emb_all (N : Nat) (hN : N ≤ 8) (h : Nat) (hh : h < 2) (kk : Fin (256 * N)) (r : Fin 256) :
    (Rect.unit (s := S2x2048x256) ![h, 0, 0] (Shape.size ⟨3, ![1, 256 * N, 256]⟩) (inbAll N h hh hN)).emb (ix3 (0 : Fin 1) kk r)
      = ix3 (⟨h, hh⟩ : Fin 2) (⟨kk.val, by omega⟩ : Fin 2048) r := by
  funext a; apply Fin.ext
  match a with
  | ⟨0, _⟩ => show h + 1 * 0 = h; omega
  | ⟨1, _⟩ => show 0 + 1 * kk.val = kk.val; omega
  | ⟨2, _⟩ => show 0 + 1 * r.val = r.val; omega

theorem canon_dots (N : Nat) (hN : N ≤ 8) (q : (h : Nat) → h < 2 → Vec Ideal S1x256x128 .f32) (kb : (h : Nat) → h < 2 → Vec Ideal ⟨3, ![1, 256 * N, 128]⟩ .bf16)
    (h : Nat) (hh : h < 2) (kk : Fin (256 * N)) (r : Fin 256) :
    View.canon [dPiece N hN 1 (by decide) (q 1 (by decide)) (kb 1 (by decide)), dPiece N hN 0 (by decide) (q 0 (by decide)) (kb 0 (by decide))]
      (ix3 (⟨h, hh⟩ : Fin 2) (⟨kk.val, by omega⟩ : Fin 2048) r) = dots N h hh q kb kk r := by
  by_cases h0 : h = 0
  · subst h0
    rw [View.canon_cons_of_not_mem]
    · rw [← emb_all N hN 0 hh kk r]
      exact (View.canon_cons_emb _ _ _ _).trans (dPiece_at N hN 0 hh q kb kk r)
    · show _ ∉ (Rect.unit (s := S2x2048x256) ![1, 0, 0] (Shape.size ⟨3, ![1, 256 * N, 256]⟩) (inbAll N 1 (by decide) hN)).set
      rw [Rect.mem_set_unit]
      intro H
      have h0 : 1 ≤ 0 ∧ 0 < 1 + 1 := H 0
      omega
  · obtain rfl : h = 1 := by omega
    rw [← emb_all N hN 1 hh kk r]
    exact (View.canon_cons_emb _ _ _ _).trans (dPiece_at N hN 1 hh q kb kk r)

/-- The masked score of key `k` of block `m`: the attended test `A`, the product `X`, the tile `B`. -/
def score (N : Nat) (A : Fin 8 → Fin 256 → Prop) [∀ m r, Decidable (A m r)] (X : Fin 8 → Fin 256 → Fin 256 → EReal) (B : Nat → Fin 256 → Fin 256 → EReal) (m : Fin 8) (k r : Fin 256) : EReal :=
  if m.val < N then (if A m r then (if N ≤ m.val + 2 then X m k r + B (N - 1 - m.val) k r else X m k r) else ⊥) else ⊥

/-- What the body leaves in the output block at query `r` and column `d` of head `h`. -/
theorem outL_at (v : View sig .tc .vmem S2x2048x256 .f32) (w : View sig .tc .vmem S2x2048x256 .bf16) (N : Nat) (hN : N ≤ 8) (i2 : BitVec 32)
    (q : (h : Nat) → h < 2 → Vec Ideal S1x256x128 .f32) (km : (h : Nat) → h < 2 → Vec Ideal S1x8x128 .f32)
    (bt : Nat → Nat → Vec Ideal S1x1x256x256 .f32)
    (kb : (h : Nat) → h < 2 → Vec Ideal ⟨3, ![1, 256 * N, 128]⟩ .bf16) (vt : (h : Nat) → h < 2 → Vec Ideal ⟨3, ![1, 128, 256 * N]⟩ .bf16)
    (h : Nat) (hh : h < 2) (A : Fin 8 → Fin 256 → Prop) [∀ m r, Decidable (A m r)] (X : Fin 8 → Fin 256 → Fin 256 → EReal) (B : Nat → Fin 256 → Fin 256 → EReal) (V : Fin 8 → Fin 256 → Fin 128 → EReal)
    (hA : ∀ m r, half < att i2 (gate (q h hh) (km h hh)) (ix2 m r) ↔ A m r)
    (hX : ∀ (m : Fin 8) (hm : m.val < N) (k r : Fin 256), dots N h hh q kb ⟨256 * m.val + k.val, by have := m.isLt; omega⟩ r = X m k r)
    (hB : ∀ e k r, bt h e (ix4 0 0 k r) = B e k r)
    (hV : ∀ (m : Fin 8) (hm : m.val < N) (k : Fin 256) (d : Fin 128), vt h hh (ix3 (0 : Fin 1) d ⟨256 * m.val + k.val, by have := m.isLt; omega⟩) = V m k d)
    (r : Fin 256) :
    ∃ M : EReal, (∀ m k, score N A X B m k r ≤ M) ∧ (M = ⊥ ∨ ∃ m k, score N A X B m k r = M) ∧ ∀ d : Fin 128,
      View.canon (outL v w N hN i2 q km bt kb vt) (ix3 (0 : Fin 1) r (⟨128 * h + d.val, by omega⟩ : Fin 256))
        = Ideal.div (∑ m, ∑ k, V m k d * Ideal.exp (score N A X B m k r - M)) (∑ m, ∑ k, Ideal.exp (score N A X B m k r - M)) := by
  let a0 := att i2 (gate (q 0 (by decide)) (km 0 (by decide)))
  let a1 := att i2 (gate (q 1 (by decide)) (km 1 (by decide)))
  let D := [dPiece N hN 1 (by decide) (q 1 (by decide)) (kb 1 (by decide)), dPiece N hN 0 (by decide) (q 0 (by decide)) (kb 0 (by decide))]
  have ha : ∀ m r, half < attOf a0 a1 h (ix2 m r) ↔ A m r := by
    intro m r
    rw [← hA]
    have e : attOf a0 a1 h = att i2 (gate (q h hh) (km h hh)) := by
      unfold attOf
      by_cases h0 : h = 0
      · subst h0; rfl
      · obtain rfl : h = 1 := by omega
        rfl
    rw [e]
  have hs : ∀ m k r, scN N a0 a1 bt D h hh m k r = score N A X B m k r := by
    intro m k r
    unfold scN score sc
    by_cases hm : m.val < N
    · rw [if_pos hm, if_pos hm]
      have hc : View.canon D (ix3 (⟨h, hh⟩ : Fin 2) (⟨256 * m.val + k.val, by omega⟩ : Fin 2048) r) = X m k r :=
        (canon_dots N hN q kb h hh ⟨256 * m.val + k.val, by have := m.isLt; omega⟩ r).trans (hX m hm k r)
      rw [hc, hB]
      by_cases hAm : A m r
      · rw [if_pos hAm, if_pos ((ha m r).mpr hAm)]
      · rw [if_neg hAm, if_neg (fun hc => hAm ((ha m r).mp hc))]
    · rw [if_neg hm, if_neg hm]
  obtain ⟨b1, b2⟩ := mRun_at v N a0 a1 bt D h hh r N hN
  refine ⟨mx v N a0 a1 bt D hN h r, ?_, ?_, ?_⟩
  · intro m k
    rw [← hs]
    unfold scN
    split
    · rename_i hm; exact b1 m hm k
    · exact bot_le
  · rcases b2 with b2 | ⟨m, hm, k, hk⟩
    · exact .inl b2
    · refine .inr ⟨m, k, ?_⟩
      rw [← hs]; unfold scN; rw [if_pos hm]; exact hk
  · intro d
    have e := outVal_at v N a0 a1 bt D hN w h hh (vt h hh) V hV r d
    simp only [hs] at e
    rw [← e]
    by_cases h0 : h = 0
    · subst h0
      unfold outL
      rw [View.canon_cons_of_not_mem]
      · have hi : (ix3 (0 : Fin 1) r (⟨128 * 0 + d.val, by omega⟩ : Fin 256) : S1x256x256.Idx)
            = (Rect.unit (s := S1x256x256) ![0, 0, 0] S1x256x128.size (inbQ 0 (by decide))).emb (ix3 (0 : Fin 1) r d) := by
          funext a; apply Fin.ext
          match a with
          | ⟨0, _⟩ => rfl
          | ⟨1, _⟩ => show r.val = 0 + 1 * r.val; omega
          | ⟨2, _⟩ => show 128 * 0 + d.val = 0 + 1 * d.val; omega
        rw [hi]
        exact View.canon_cons_emb _ _ _ _
      · show _ ∉ (Rect.unit (s := S1x256x256) ![0, 0, 128] S1x256x128.size (inbQ 1 (by decide))).set
        rw [Rect.mem_set_unit]
        intro H
        have h0 : 128 ≤ 128 * 0 + d.val ∧ 128 * 0 + d.val < 128 + 128 := H 2
        omega
    · obtain rfl : h = 1 := by omega
      unfold outL
      have hi : (ix3 (0 : Fin 1) r (⟨128 * 1 + d.val, by omega⟩ : Fin 256) : S1x256x256.Idx)
            = (Rect.unit (s := S1x256x256) ![0, 0, 128] S1x256x128.size (inbQ 1 (by decide))).emb (ix3 (0 : Fin 1) r d) := by
          funext a; apply Fin.ext
          match a with
          | ⟨0, _⟩ => rfl
          | ⟨1, _⟩ => show r.val = 0 + 1 * r.val; omega
          | ⟨2, _⟩ => show 128 * 1 + d.val = 128 + 1 * d.val; omega
      rw [hi]
      exact View.canon_cons_emb _ _ _ _

end Cert.Moba

end
-- ==== Proof.MobaFill.lean ====
/-
  What the first point of a sweep leaves in the carried scratch: the keys, the transposed values and the block means
  of two heads, block by block.
-/
module

public import proofs.«01_k».proof.Proof.MobaRead

@[expose] public section

set_option maxRecDepth 16384

noncomputable section

open Idealize.ShloMosaic Idealize.ShloMosaic.TcCoe Idealize.SL.Sem

namespace Cert.Moba

open Cert.KernelIdeal Cert.KernelIdeal.Gen

section Fill
variable {s : Shape} {e : EltTy} (P : Nat → Nat → View.Piece (Elt Ideal) s e)

/-- The pieces of the first `n` blocks of head `h`, on top of `tail`. -/
def fillPart (h : Nat) (tail : List (View.Piece (Elt Ideal) s e)) : Nat → List (View.Piece (Elt Ideal) s e)
  | 0 => tail
  | n + 1 => P h n :: fillPart h tail n

theorem fillPart_miss (h : Nat) (tail : List (View.Piece (Elt Ideal) s e)) (n : Nat) (y : s.Idx) (hy : ∀ m < n, y ∉ (P h m).1.set) :
    View.canon (fillPart P h tail n) y = View.canon tail y := by
  induction n with
  | zero => rfl
  | succ n ih =>
    rw [fillPart, View.canon_cons_of_not_mem _ _ (hy n (by omega))]
    exact ih fun m hm => hy m (by omega)

theorem fillPart_hit (h : Nat) (tail : List (View.Piece (Elt Ideal) s e)) (n m : Nat) (hm : m < n) (x : (P h m).1.shape.Idx)
    (hy : ∀ m' < n, m' ≠ m → (P h m).1.emb x ∉ (P h m').1.set) :
    View.canon (fillPart P h tail n) ((P h m).1.emb x) = (P h m).2 x := by
  induction n with
  | zero => omega
  | succ n ih =>
    rw [fillPart]
    rcases eq_or_ne m n with rfl | hne
    · exact View.canon_cons_emb (P h m).1 (P h m).2 _ x
    · rw [View.canon_cons_of_not_mem _ _ (hy n (by omega) hne.symm)]
      exact ih (by omega) fun m' hm' hne' => hy m' (by omega) hne'

/-- Eight blocks of each of two heads, none meeting another: a block reads as it was stored. -/
theorem fill_at (h m : Nat) (hh : h < 2) (hm : m < 8) (x : (P h m).1.shape.Idx)
    (hy : ∀ h' m', h' < 2 → m' < 8 → (h' ≠ h ∨ m' ≠ m) → (P h m).1.emb x ∉ (P h' m').1.set) :
    View.canon (fillPart P 1 (fillPart P 0 [] 8) 8) ((P h m).1.emb x) = (P h m).2 x := by
  by_cases h0 : h = 0
  · subst h0
    rw [fillPart_miss P 1 _ 8 _ fun m' hm' => hy 1 m' (by decide) hm' (.inl (by decide))]
    exact fillPart_hit P 0 _ 8 m hm x fun m' hm' hne => hy 0 m' hh hm' (.inr hne)
  · obtain rfl : h = 1 := by omega
    exact fillPart_hit P 1 _ 8 m hm x fun m' hm' hne => hy 1 m' hh hm' (.inr hne)

end Fill

theorem inbKV (h n : Nat) : ∀ a, (![0, 256 * (n % 8), 128 * (h % 2)] : Fin 3 → Nat) a + S1x256x128.size a ≤ S1x2048x256.size a := by
  intro a
  match a with
  | ⟨0, _⟩ => show 0 + 1 ≤ 1; omega
  | ⟨1, _⟩ => show 256 * (n % 8) + 256 ≤ 2048; omega
  | ⟨2, _⟩ => show 128 * (h % 2) + 128 ≤ 256; omega

/-- A block of keys or values of a head, as read. -/
def kvBlk (arg : Memref sig .tc .vmem S1x2048x256 .f32) (harg : arg.IsWhole) (x : Vec Ideal S1x2048x256 .f32) (h n : Nat) : FVec Ideal S1x256x128 .f32 :=
  View.readAt (Elt Ideal) arg.view (Rect.unit (s := S1x2048x256) ![0, 256 * (n % 8), 128 * (h % 2)] S1x256x128.size (inbKV h n)).toLoadRect (harg.unread x)

/-- The block without its leading dimension. -/
def kvMat (arg : Memref sig .tc .vmem S1x2048x256 .f32) (harg : arg.IsWhole) (x : Vec Ideal S1x2048x256 .f32) (h n : Nat) : FVec Ideal S256x128 .f32 :=
  shapeCast S256x128 (kvBlk arg harg x h n) shapeCasts_S1x256x128_S256x128

/-- The block rounded. -/
def kbMat (w : FVec Ideal S256x128 .f32) : FVec Ideal S256x128 .bf16 := truncf .bf16 w bitsLt_bf16_f32

/-- The block transposed and rounded. -/
def vtMat (w : FVec Ideal S256x128 .f32) : FVec Ideal S128x256 .bf16 :=
  truncf .bf16 (transpose S128x256 [1, 0] w transposes_S256x128_p1_0_S128x256) bitsLt_bf16_f32

/-- The block's mean along its rows. -/
def kmMat (w : FVec Ideal S256x128 .f32) : FVec Ideal S1x128 .f32 :=
  mulf (shapeCast S1x128 (multiReduction .add [0] S128 w 0x00000000#32 reduces_S256x128_S128 (.inl rfl) rfl) shapeCasts_S128_S1x128)
    (broadcast S1x128 (Scalar.ofBits .f32 0x3B800000#32))

section Pieces
variable (arg : Memref sig .tc .vmem S1x2048x256 .f32) (harg : arg.IsWhole) (x : Vec Ideal S1x2048x256 .f32)

/-- The rounded keys of a block. -/
def kbP (h n : Nat) : View.Piece (Elt Ideal) S2x2048x128 .bf16 :=
  ⟨Rect.unit (s := S2x2048x128) ![h % 2, 256 * (n % 8), 0] S1x256x128.size (by
      intro a
      match a with
      | ⟨0, _⟩ => show h % 2 + 1 ≤ 2; omega
      | ⟨1, _⟩ => show 256 * (n % 8) + 256 ≤ 2048; omega
      | ⟨2, _⟩ => show 0 + 128 ≤ 128; omega),
    shapeCast S1x256x128 (kbMat (kvMat arg harg x h n)) shapeCasts_S256x128_S1x256x128⟩

/-- The rounded transposed values of a block. -/
def vtP (h n : Nat) : View.Piece (Elt Ideal) S2x128x2048 .bf16 :=
  ⟨Rect.unit (s := S2x128x2048) ![h % 2, 0, 256 * (n % 8)] S1x128x256.size (by
      intro a
      match a with
      | ⟨0, _⟩ => show h % 2 + 1 ≤ 2; omega
      | ⟨1, _⟩ => show 0 + 128 ≤ 128; omega
      | ⟨2, _⟩ => show 256 * (n % 8) + 256 ≤ 2048; omega),
    shapeCast S1x128x256 (vtMat (kvMat arg harg x h n)) shapeCasts_S128x256_S1x128x256⟩

/-- The mean of the keys of a block. -/
def kmP (h n : Nat) : View.Piece (Elt Ideal) S2x8x128 .f32 :=
  ⟨Rect.unit (s := S2x8x128) ![h % 2, n % 8, 0] S1x1x128.size (by
      intro a
      match a with
      | ⟨0, _⟩ => show h % 2 + 1 ≤ 2; omega
      | ⟨1, _⟩ => show n % 8 + 1 ≤ 8; omega
      | ⟨2, _⟩ => show 0 + 128 ≤ 128; omega),
    shapeCast S1x1x128 (kmMat (kvMat arg harg x h n)) shapeCasts_S1x128_S1x1x128⟩

end Pieces

variable (c : Dev nD) (i : grid0.Coords) (arg3 : Memref sig .tc .vmem S1x256x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S2x2x256x256 .f32) (harg6 : arg6.IsWhole) (arg7 : Memref sig .tc .vmem S1x256x256 .bf16) (harg7 : arg7.IsWhole) (arg8 : Memref sig .tc .vmem S2x2048x128 .bf16) (harg8 : arg8.IsWhole) (arg9 : Memref sig .tc .vmem S2x128x2048 .bf16) (harg9 : arg9.IsWhole) (arg10 : Memref sig .tc .vmem S2x8x128 .f32) (harg10 : arg10.IsWhole) (arg11 : Memref sig .tc .vmem S2x2048x256 .f32) (harg11 : arg11.IsWhole) (arg12 : Memref sig .tc .vmem S2x2048x256 .bf16) (harg12 : arg12.IsWhole)
    (x0 : Vec Ideal S1x256x256 .f32) (x1 : Vec Ideal S1x2048x256 .f32) (x2 : Vec Ideal S1x2048x256 .f32) (x3 : Vec Ideal S2x2x256x256 .f32)

theorem fill_kb (hc0 hc1 hc2 hc3 hc4 hc5 hc6 hc7 hc8) :
    (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).2.1 = fillPart (kbP arg4 harg4 x1) 1 (fillPart (kbP arg4 harg4 x1) 0 [] 8) 8 := by
  unfold kernelRun0_A
  dsimp only
  sl_unfold_words
  dsimp only [fillPart, kbP, kbMat, kvMat, kvBlk, Nat.reduceMul, Nat.reduceMod]
  rfl

theorem fill_vt (hc0 hc1 hc2 hc3 hc4 hc5 hc6 hc7 hc8) :
    (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).2.2.1 = fillPart (vtP arg5 harg5 x2) 1 (fillPart (vtP arg5 harg5 x2) 0 [] 8) 8 := by
  unfold kernelRun0_A
  dsimp only
  sl_unfold_words
  dsimp only [fillPart, vtP, vtMat, kvMat, kvBlk, Nat.reduceMul, Nat.reduceMod]
  rfl

theorem fill_km (hc0 hc1 hc2 hc3 hc4 hc5 hc6 hc7 hc8) :
    (kernelRun0_A (F := Ideal) c i arg3 harg3 arg4 harg4 arg5 harg5 arg6 harg6 arg7 harg7 arg8 harg8 arg9 harg9 arg10 harg10 arg11 harg11 arg12 harg12
      hc0 hc1 hc2 hc3 hc4 hc5 hc6 hc7 hc8 x0 x1 x2 x3).2.2.2.1 = fillPart (kmP arg4 harg4 x1) 1 (fillPart (kmP arg4 harg4 x1) 0 [] 8) 8 := by
  unfold kernelRun0_A
  dsimp only
  sl_unfold_words
  dsimp only [fillPart, kmP, kmMat, kvMat, kvBlk, Nat.reduceMul, Nat.reduceMod]
  rfl

end Cert.Moba

end
-- ==== Proof.MobaRank.lean ====
/-
  Which blocks a query attends, read at an index: its own, and the past ones that fewer than three past ones beat.
-/
module

public import proofs.«01_k».proof.Defs
public import proofs.«01_k».proof.Proof.MobaRead
public import proofs.«01_k».proof.Proof.MobaMath
public import Idealize.ShloMosaic.Lib.Pointwise

@[expose] public section

set_option maxRecDepth 16384

noncomputable section

open Idealize.ShloMosaic Idealize.ShloMosaic.TcCoe Idealize.SL.Sem

namespace Cert.Moba

open Cert.KernelIdeal Cert.KernelIdeal.Gen

theorem three_bits : Ideal.ofBits FTy.f32 0x40400000#32 = ((3 : ℝ) : EReal) := by
  simp [Ideal.ofBits, Ideal.ieee, -EReal.coe_mul]; norm_num

theorem half_bits : half = ((1 / 2 : ℝ) : EReal) := by
  simp [Ideal.ofBits, Ideal.ieee, -EReal.coe_mul]; norm_num

/-- Block `m` beats block `k`: a greater gate, or an equal one and an earlier number. -/
def outranks (g : FVec Ideal S8x256 .f32) (r : Fin 256) (m k : Fin 8) : Prop := beats (fun a => (g (ix2 a r) : EReal)) m k

instance (g : FVec Ideal S8x256 .f32) (r : Fin 256) (m k : Fin 8) : Decidable (outranks g r m k) := Classical.dec _

theorem sgt_nat (i m : Nat) (hi : i < 8) (hm : m < 8) : Scalar.cmpi .sgt (BitVec.ofNat 32 i) (BitVec.ofNat 32 m) = BitVec.ofBool (decide (m < i)) := by
  interval_cases i <;> interval_cases m <;> rfl

theorem slt_nat (i m : Nat) (hi : i < 8) (hm : m < 8) : IntOp.cmpi .slt (BitVec.ofNat 32 i) (BitVec.ofNat 32 m) = BitVec.ofBool (decide (i < m)) := by
  interval_cases i <;> interval_cases m <;> rfl

theorem eq_nat (i m : Nat) (hi : i < 8) (hm : m < 8) : IntOp.cmpi .eq (BitVec.ofNat 32 i) (BitVec.ofNat 32 m) = BitVec.ofBool (decide (i = m)) := by
  interval_cases i <;> interval_cases m <;> rfl

theorem select_bool {α : Type} (b : Bool) (x y : α) : Scalar.select (BitVec.ofBool b) x y = if b then x else y := by
  cases b <;> rfl

theorem or_bool (a b : Bool) : IntOp.ori (BitVec.ofBool a) (BitVec.ofBool b) = BitVec.ofBool (a || b) := by
  cases a <;> cases b <;> rfl

theorem and_bool (a b : Bool) : IntOp.andi (BitVec.ofBool a) (BitVec.ofBool b) = BitVec.ofBool (a && b) := by
  cases a <;> cases b <;> rfl

theorem rankStep_at (i : Nat) (hi : i < 8) (g : FVec Ideal S8x256 .f32) (m : Nat) (hm : m < 8) (R : FVec Ideal S8x256 .f32) (k : Fin 8) (r : Fin 256) :
    rankStep (BitVec.ofNat 32 i) g m hm R (ix2 k r) = R (ix2 k r) + (if m < i ∧ outranks g r ⟨m, hm⟩ k then (1 : EReal) else 0) := by
  have e : rankStep (BitVec.ofNat 32 i) g m hm R (ix2 k r) = R (ix2 k r) +
      Scalar.select (Scalar.cmpi CmpIPredicate.sgt (BitVec.ofNat 32 i) (BitVec.ofNat 32 m))
        (Scalar.select
          (IntOp.ori (BitVec.ofBool (decide (g (ix2 k r) < g (ix2 ⟨m, hm⟩ r))))
            (IntOp.andi (BitVec.ofBool (decide (g (ix2 ⟨m, hm⟩ r) = g (ix2 k r))))
              (IntOp.cmpi CmpIPredicate.sgt (BitVec.ofNat 32 k.val) (BitVec.ofNat 32 m))))
          1 0) 0 := by
    pointwise [rankStep]
  rw [e, show IntOp.cmpi CmpIPredicate.sgt (BitVec.ofNat 32 k.val) (BitVec.ofNat 32 m) = BitVec.ofBool (decide (m < k.val)) from sgt_nat k.val m k.isLt hm,
    sgt_nat i m hi hm, and_bool, or_bool, select_bool, select_bool]
  refine congrArg (R (ix2 k r) + ·) ?_
  unfold outranks beats
  have hb : (decide (g (ix2 k r) < g (ix2 ⟨m, hm⟩ r)) || decide (g (ix2 ⟨m, hm⟩ r) = g (ix2 k r)) && decide (m < k.val)) = true
      ↔ (g (ix2 k r) < g (ix2 ⟨m, hm⟩ r) ∨ (g (ix2 ⟨m, hm⟩ r) = g (ix2 k r) ∧ (⟨m, hm⟩ : Fin 8) < k)) := by
    simp [Fin.lt_def]
  by_cases h1 : m < i
  · rw [if_pos (decide_eq_true h1)]
    by_cases h2 : g (ix2 k r) < g (ix2 ⟨m, hm⟩ r) ∨ (g (ix2 ⟨m, hm⟩ r) = g (ix2 k r) ∧ (⟨m, hm⟩ : Fin 8) < k)
    · exact (if_pos (hb.mpr h2)).trans (if_pos ⟨h1, h2⟩).symm
    · exact (if_neg (fun h => h2 (hb.mp h))).trans (if_neg (fun h => h2 h.2)).symm
  · exact (if_neg (fun h => h1 (of_decide_eq_true h))).trans (if_neg (fun h => h1 h.1)).symm

/-- The rank of block `k`: how many past blocks beat it. -/
theorem rank_at (i : Nat) (hi : i < 8) (g : FVec Ideal S8x256 .f32) (k : Fin 8) (r : Fin 256) :
    rank (BitVec.ofNat 32 i) g (ix2 k r) = (((Finset.univ.filter fun m : Fin 8 => m.val < i ∧ outranks g r m k).card : ℝ) : EReal) := by
  have hc : (((Finset.univ.filter fun m : Fin 8 => m.val < i ∧ outranks g r m k).card : ℝ) : EReal)
      = ∑ m : Fin 8, if m.val < i ∧ outranks g r m k then (1 : EReal) else 0 := by
    rw [Finset.card_filter]
    push_cast
    rw [← coe_sum]
    refine Finset.sum_congr rfl fun m _ => ?_
    split <;> rfl
  rw [hc, Fin.sum_univ_eight]
  unfold rank
  simp only [rankStep_at i hi]
  rw [show (broadcast S8x256 (Scalar.ofBits .f32 0x00000000#32) : FVec Ideal S8x256 .f32) (ix2 k r) = 0 from Ideal.ofBits_zero .f32, zero_add]
  rfl

/-- Which blocks are attended. -/
def attends (i : Nat) (g : FVec Ideal S8x256 .f32) (k : Fin 8) (r : Fin 256) : Prop :=
  k.val = i ∨ (k.val < i ∧ (Finset.univ.filter fun m : Fin 8 => m.val < i ∧ outranks g r m k).card < 3)

theorem att_at (i : Nat) (hi : i < 8) (g : FVec Ideal S8x256 .f32) (k : Fin 8) (r : Fin 256) :
    half < att (BitVec.ofNat 32 i) g (ix2 k r) ↔ attends i g k r := by
  have e : att (BitVec.ofNat 32 i) g (ix2 k r) = Scalar.select
      (IntOp.ori (IntOp.cmpi CmpIPredicate.eq (BitVec.ofNat 32 k.val) (BitVec.ofNat 32 i))
        (IntOp.andi (IntOp.cmpi CmpIPredicate.slt (BitVec.ofNat 32 k.val) (BitVec.ofNat 32 i))
          (BitVec.ofBool (decide (rank (BitVec.ofNat 32 i) g (ix2 k r) < Ideal.ofBits FTy.f32 1077936128#32))))) (1 : EReal) 0 := by
    unfold att
    generalize rank (BitVec.ofNat 32 i) g = R
    pointwise []
  rw [e, rank_at i hi, three_bits, eq_nat _ _ k.isLt hi, slt_nat _ _ k.isLt hi, and_bool, or_bool, select_bool, half_bits]
  unfold attends
  generalize (Finset.univ.filter fun m : Fin 8 => m.val < i ∧ outranks g r m k).card = c
  have hc : (((c : ℝ) : EReal) < ((3 : ℝ) : EReal)) ↔ c < 3 := by
    rw [EReal.coe_lt_coe_iff]; exact_mod_cast Iff.rfl
  have h1 : ((1 / 2 : ℝ) : EReal) < 1 := by rw [← EReal.coe_one, EReal.coe_lt_coe_iff]; norm_num
  have h0 : ¬ ((1 / 2 : ℝ) : EReal) < 0 := by rw [← EReal.coe_zero, EReal.coe_lt_coe_iff]; norm_num
  have hb : (decide (k.val = i) || decide (k.val < i) && decide (((c : ℝ) : EReal) < ((3 : ℝ) : EReal))) = true ↔ (k.val = i ∨ k.val < i ∧ c < 3) := by
    rw [Bool.or_eq_true, Bool.and_eq_true, decide_eq_true_iff, decide_eq_true_iff]
    exact or_congr Iff.rfl (and_congr Iff.rfl (decide_eq_true_iff.trans hc))
  split
  · rename_i h
    exact ⟨fun _ => hb.mp h, fun _ => h1⟩
  · rename_i h
    exact ⟨fun hh => absurd hh h0, fun hh => absurd (hb.mpr hh) h⟩

end Cert.Moba

end
-- ==== Proof.lean ====
/-
  The claims of `Cert.Claim` put together: the frames of the kernels and of the references, that the ideal kernels
  are the kernels, and the value claims, each proved in a module of its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.ProjValue
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.FfnValue
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.DownValue
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.OutValue
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.MergeValue
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.LastValue
public import proofs.«01_k».proof.Proof.Gen.LastSample
public import proofs.«01_k».proof.Proof.Gen.LastSample.Skeleton
public import proofs.«01_k».proof.Proof.Gen.LastSample.Launch
public import proofs.«01_k».proof.Proof.Gen.LastSample.Points
public import proofs.«01_k».proof.Proof.Gen.LastSample.Frame
public import proofs.«01_k».proof.Proof.Gen.LastSampleIdeal
public import proofs.«01_k».proof.Proof.Gen.LastSampleIdeal.Skeleton
public import proofs.«01_k».proof.Proof.Gen.LastSampleIdeal.Launch
public import proofs.«01_k».proof.Proof.Gen.LastSampleIdeal.Points
public import proofs.«01_k».proof.Proof.Gen.LastSampleIdeal.Frame
public import proofs.«01_k».proof.Proof.Gen.LastSampleIdeal.Value
public import proofs.«01_k».proof.Proof.Gen.LastSampleRefIdeal
public import proofs.«01_k».proof.Proof.Gen.LastSampleRefIdeal.Run
public import proofs.«01_k».proof.Proof.LastSampleValue
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleIdeal.Value
public import proofs.«01_k».proof.Proof.Gen.ProjSampleRefIdeal
public import proofs.«01_k».proof.Proof.Gen.ProjSampleRefIdeal.Run
public import proofs.«01_k».proof.Proof.ProjSampleValue
public import proofs.«01_k».proof.Proof.Gen.UpSample
public import proofs.«01_k».proof.Proof.Gen.UpSample.Skeleton
public import proofs.«01_k».proof.Proof.Gen.UpSample.Launch
public import proofs.«01_k».proof.Proof.Gen.UpSample.Points
public import proofs.«01_k».proof.Proof.Gen.UpSample.Frame
public import proofs.«01_k».proof.Proof.Gen.UpSampleIdeal
public import proofs.«01_k».proof.Proof.Gen.UpSampleIdeal.Skeleton
public import proofs.«01_k».proof.Proof.Gen.UpSampleIdeal.Launch
public import proofs.«01_k».proof.Proof.Gen.UpSampleIdeal.Points
public import proofs.«01_k».proof.Proof.Gen.UpSampleIdeal.Frame
public import proofs.«01_k».proof.Proof.Gen.UpSampleIdeal.Value
public import proofs.«01_k».proof.Proof.Gen.UpSampleRefIdeal
public import proofs.«01_k».proof.Proof.Gen.UpSampleRefIdeal.Run
public import proofs.«01_k».proof.Proof.UpSampleValue
public import proofs.«01_k».proof.Proof.FfnBits
public import proofs.«01_k».proof.Proof.MobaCases
public import proofs.«01_k».proof.Proof.MobaFill
public import proofs.«01_k».proof.Proof.MobaRank
public import Idealize.ShloMosaic.Adequacy
public import Idealize.ShloMosaic.Init
public import Idealize.ShloMosaic.Lib.Quiescent

@[expose] public section

noncomputable section

namespace Cert.Proof

open Idealize.ShloMosaic Idealize.SL.Sem

/-- The reference `Reference` runs, leaves its arguments and holds no counter. -/
theorem frame_Reference : Cert.quiescent_ReferenceIdeal := fun m ρ _ =>
  (θ_run _ _ _).mono (fun r h => ⟨fun c => ((h c).2), sem_eq_zero_of_no_sems (by decide) r.2⟩)
    (Cert.ReferenceIdeal.Value.run (F := Ideal) m ρ)

/-- The reference `ProjRef` runs, leaves its arguments and holds no counter. -/
theorem frame_ProjRef : Cert.quiescent_ProjRefIdeal := fun m ρ _ =>
  (θ_run _ _ _).mono (fun r h => ⟨fun c => ((h c).2), sem_eq_zero_of_no_sems (by decide) r.2⟩)
    (Cert.ProjRefIdeal.Value.run (F := Ideal) m ρ)

/-- The reference `FfnRef` runs, leaves its arguments and holds no counter. -/
theorem frame_FfnRef : Cert.quiescent_FfnRefIdeal := fun m ρ _ =>
  (θ_run _ _ _).mono (fun r h => ⟨fun c => ((h c).2.2), sem_eq_zero_of_no_sems (by decide) r.2⟩)
    (Cert.FfnRefIdeal.Value.run (F := Ideal) m ρ)

/-- The reference `DownRef` runs, leaves its arguments and holds no counter. -/
theorem frame_DownRef : Cert.quiescent_DownRefIdeal := fun m ρ _ =>
  (θ_run _ _ _).mono (fun r h => ⟨fun c => ((h c).2.2), sem_eq_zero_of_no_sems (by decide) r.2⟩)
    (Cert.DownRefIdeal.Value.run (F := Ideal) m ρ)

/-- The reference `OutRef` runs, leaves its arguments and holds no counter. -/
theorem frame_OutRef : Cert.quiescent_OutRefIdeal := fun m ρ _ =>
  (θ_run _ _ _).mono (fun r h => ⟨fun c => ((h c).2.2), sem_eq_zero_of_no_sems (by decide) r.2⟩)
    (Cert.OutRefIdeal.Value.run (F := Ideal) m ρ)

/-- The reference `MergeRef` runs, leaves its arguments and holds no counter. -/
theorem frame_MergeRef : Cert.quiescent_MergeRefIdeal := fun m ρ _ =>
  (θ_run _ _ _).mono (fun r h => ⟨fun c => ((h c).2), sem_eq_zero_of_no_sems (by decide) r.2⟩)
    (Cert.MergeRefIdeal.Value.run (F := Ideal) m ρ)

/-- The reference `LastRef` runs, leaves its arguments and holds no counter. -/
theorem frame_LastRef : Cert.quiescent_LastRefIdeal := fun m ρ _ =>
  (θ_run _ _ _).mono (fun r h => ⟨fun c => ((h c).2), sem_eq_zero_of_no_sems (by decide) r.2⟩)
    (Cert.LastRefIdeal.Value.run (F := Ideal) m ρ)

/-- The reference `LastSampleRef` runs, leaves its arguments and holds no counter. -/
theorem frame_LastSampleRef : Cert.quiescent_LastSampleRefIdeal := fun m ρ _ =>
  (θ_run _ _ _).mono (fun r h => ⟨fun c => ((h c).2), sem_eq_zero_of_no_sems (by decide) r.2⟩)
    (Cert.LastSampleRefIdeal.Value.run (F := Ideal) m ρ)

/-- The reference `ProjSampleRef` runs, leaves its arguments and holds no counter. -/
theorem frame_ProjSampleRef : Cert.quiescent_ProjSampleRefIdeal := fun m ρ _ =>
  (θ_run _ _ _).mono (fun r h => ⟨fun c => ((h c).2), sem_eq_zero_of_no_sems (by decide) r.2⟩)
    (Cert.ProjSampleRefIdeal.Value.run (F := Ideal) m ρ)

/-- The reference `UpSampleRef` runs, leaves its arguments and holds no counter. -/
theorem frame_UpSampleRef : Cert.quiescent_UpSampleRefIdeal := fun m ρ _ =>
  (θ_run _ _ _).mono (fun r h => ⟨fun c => ((h c).2), sem_eq_zero_of_no_sems (by decide) r.2⟩)
    (Cert.UpSampleRefIdeal.Value.run (F := Ideal) m ρ)

/-- Every claim. -/
theorem claim : Cert.Claim := ⟨Cert.Kernel.Gen.facts, Cert.KernelIdeal.Gen.facts, Cert.ReferenceIdeal.Gen.facts, Cert.Proj.Gen.facts, Cert.ProjIdeal.Gen.facts, Cert.ProjRefIdeal.Gen.facts, Cert.Ffn.Gen.facts, Cert.FfnIdeal.Gen.facts, Cert.FfnRefIdeal.Gen.facts, Cert.Down.Gen.facts, Cert.DownIdeal.Gen.facts, Cert.DownRefIdeal.Gen.facts, Cert.Out.Gen.facts, Cert.OutIdeal.Gen.facts, Cert.OutRefIdeal.Gen.facts, Cert.Merge.Gen.facts, Cert.MergeIdeal.Gen.facts, Cert.MergeRefIdeal.Gen.facts, Cert.Last.Gen.facts, Cert.LastIdeal.Gen.facts, Cert.LastRefIdeal.Gen.facts, Cert.LastSample.Gen.facts, Cert.LastSampleIdeal.Gen.facts, Cert.LastSampleRefIdeal.Gen.facts, Cert.ProjSample.Gen.facts, Cert.ProjSampleIdeal.Gen.facts, Cert.ProjSampleRefIdeal.Gen.facts, Cert.UpSample.Gen.facts, Cert.UpSampleIdeal.Gen.facts, Cert.UpSampleRefIdeal.Gen.facts,
  fun m ρ _ => Cert.Kernel.Gen.frame m ρ,
  fun m ρ _ => Cert.KernelIdeal.Gen.frame m ρ,
  frame_Reference,
  fun m ρ _ => Cert.Proj.Gen.frame m ρ,
  fun m ρ _ => Cert.ProjIdeal.Gen.frame m ρ,
  frame_ProjRef,
  fun m ρ _ => Cert.Ffn.Hand.frame m ρ,
  fun m ρ _ => Cert.FfnIdeal.Hand.frame m ρ,
  frame_FfnRef,
  fun m ρ _ => Cert.Down.Gen.frame m ρ,
  fun m ρ _ => Cert.DownIdeal.Gen.frame m ρ,
  frame_DownRef,
  fun m ρ _ => Cert.Out.Gen.frame m ρ,
  fun m ρ _ => Cert.OutIdeal.Gen.frame m ρ,
  frame_OutRef,
  fun m ρ _ => Cert.Merge.Gen.frame m ρ,
  fun m ρ _ => Cert.MergeIdeal.Gen.frame m ρ,
  frame_MergeRef,
  fun m ρ _ => Cert.Last.Gen.frame m ρ,
  fun m ρ _ => Cert.LastIdeal.Gen.frame m ρ,
  frame_LastRef,
  fun m ρ _ => Cert.LastSample.Gen.frame m ρ,
  fun m ρ _ => Cert.LastSampleIdeal.Gen.frame m ρ,
  frame_LastSampleRef,
  fun m ρ _ => Cert.ProjSample.Gen.frame m ρ,
  fun m ρ _ => Cert.ProjSampleIdeal.Gen.frame m ρ,
  frame_ProjSampleRef,
  fun m ρ _ => Cert.UpSample.Gen.frame m ρ,
  fun m ρ _ => Cert.UpSampleIdeal.Gen.frame m ρ,
  frame_UpSampleRef,
  IdealRules.named_const.statement Cert.KernelIdeal.κ "mask" .f32 0xF149F2CA#32 ⊥ rfl,
  trivial,
  algebraic_Proj,
  trivial,
  algebraic_Ffn,
  trivial,
  algebraic_Down,
  trivial,
  algebraic_Out,
  trivial,
  algebraic_Merge,
  trivial,
  algebraic_Last,
  trivial,
  algebraic_LastSample,
  trivial,
  algebraic_ProjSample,
  trivial,
  algebraic_UpSample⟩

end Cert.Proof

end
